-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Bounds (m : (ℓ : Loc Cert.Bounds.nD Cert.Bounds.τ Cert.Bounds.sig) → Buf (Elt Bits) ℓ) : Prop :=
  True

def Pre_BoundsIdeal (m : (ℓ : Loc Cert.BoundsIdeal.nD Cert.BoundsIdeal.τ Cert.BoundsIdeal.sig) → Buf (Elt Ideal) ℓ) : Prop :=
  True

def Pre_BoundsRefIdeal (m : (ℓ : Loc Cert.BoundsRefIdeal.nD Cert.BoundsRefIdeal.τ Cert.BoundsRefIdeal.sig) → Buf (Elt Ideal) ℓ) : Prop :=
  True

def Pre_Fcum (m : (ℓ : Loc Cert.Fcum.nD Cert.Fcum.τ Cert.Fcum.sig) → Buf (Elt Bits) ℓ) : Prop :=
  True

def Pre_FcumIdeal (m : (ℓ : Loc Cert.FcumIdeal.nD Cert.FcumIdeal.τ Cert.FcumIdeal.sig) → Buf (Elt Ideal) ℓ) : Prop :=
  True

def Pre_FcumRefIdeal (m : (ℓ : Loc Cert.FcumRefIdeal.nD Cert.FcumRefIdeal.τ Cert.FcumRefIdeal.sig) → Buf (Elt Ideal) ℓ) : Prop :=
  True

def Pre_Fox (m : (ℓ : Loc Cert.Fox.nD Cert.Fox.τ Cert.Fox.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Bounds [hBounds : Cert.Bounds.Facts] : Prop :=
  ∀ (m : (ℓ : Loc Cert.Bounds.nD Cert.Bounds.τ Cert.Bounds.sig) → Buf (Elt Bits) ℓ) (g : Dev Cert.Bounds.nD → PrngReg), Pre_Bounds m →
    θ_run (Cert.Bounds.defs (F := Bits)) (onTc (τ := Cert.Bounds.τ) (Cert.Bounds.main (F := Bits))) ⟨m, fun _ => 0, g⟩ (fun r => (∀ c : Dev Cert.Bounds.nD,
      r.2.mem ((c.tc : Thread Cert.Bounds.nD Cert.Bounds.τ).loc Cert.Bounds.main_arg0) = m ((c.tc : Thread Cert.Bounds.nD Cert.Bounds.τ).loc Cert.Bounds.main_arg0))
      ∧ r.2.sem = fun _ => 0)

def quiescent_BoundsIdeal [hBoundsIdeal : Cert.BoundsIdeal.Facts] : Prop :=
  ∀ (m : (ℓ : Loc Cert.BoundsIdeal.nD Cert.BoundsIdeal.τ Cert.BoundsIdeal.sig) → Buf (Elt Ideal) ℓ) (g : Dev Cert.BoundsIdeal.nD → PrngReg), Pre_BoundsIdeal m →
    θ_run (Cert.BoundsIdeal.defs (F := Ideal)) (onTc (τ := Cert.BoundsIdeal.τ) (Cert.BoundsIdeal.main (F := Ideal))) ⟨m, fun _ => 0, g⟩ (fun r => (∀ c : Dev Cert.BoundsIdeal.nD,
      r.2.mem ((c.tc : Thread Cert.BoundsIdeal.nD Cert.BoundsIdeal.τ).loc Cert.BoundsIdeal.main_arg0) = m ((c.tc : Thread Cert.BoundsIdeal.nD Cert.BoundsIdeal.τ).loc Cert.BoundsIdeal.main_arg0))
      ∧ r.2.sem = fun _ => 0)

def quiescent_BoundsRefIdeal [hBoundsRefIdeal : Cert.BoundsRefIdeal.Facts] : Prop :=
  ∀ (m : (ℓ : Loc Cert.BoundsRefIdeal.nD Cert.BoundsRefIdeal.τ Cert.BoundsRefIdeal.sig) → Buf (Elt Ideal) ℓ) (g : Dev Cert.BoundsRefIdeal.nD → PrngReg), Pre_BoundsRefIdeal m →
    θ_run (Cert.BoundsRefIdeal.defs (F := Ideal)) (onTc (τ := Cert.BoundsRefIdeal.τ) (Cert.BoundsRefIdeal.main (F := Ideal))) ⟨m, fun _ => 0, g⟩ (fun r => (∀ c : Dev Cert.BoundsRefIdeal.nD,
      r.2.mem ((c.tc : Thread Cert.BoundsRefIdeal.nD Cert.BoundsRefIdeal.τ).loc Cert.BoundsRefIdeal.main_arg0) = m ((c.tc : Thread Cert.BoundsRefIdeal.nD Cert.BoundsRefIdeal.τ).loc Cert.BoundsRefIdeal.main_arg0))
      ∧ r.2.sem = fun _ => 0)

def quiescent_Fcum [hFcum : Cert.Fcum.Facts] : Prop :=
  ∀ (m : (ℓ : Loc Cert.Fcum.nD Cert.Fcum.τ Cert.Fcum.sig) → Buf (Elt Bits) ℓ) (g : Dev Cert.Fcum.nD → PrngReg), Pre_Fcum m →
    θ_run (Cert.Fcum.defs (F := Bits)) (onTc (τ := Cert.Fcum.τ) (Cert.Fcum.main (F := Bits))) ⟨m, fun _ => 0, g⟩ (fun r => (∀ c : Dev Cert.Fcum.nD,
      r.2.mem ((c.tc : Thread Cert.Fcum.nD Cert.Fcum.τ).loc Cert.Fcum.main_arg0) = m ((c.tc : Thread Cert.Fcum.nD Cert.Fcum.τ).loc Cert.Fcum.main_arg0)
      ∧ r.2.mem ((c.tc : Thread Cert.Fcum.nD Cert.Fcum.τ).loc Cert.Fcum.main_arg1) = m ((c.tc : Thread Cert.Fcum.nD Cert.Fcum.τ).loc Cert.Fcum.main_arg1))
      ∧ r.2.sem = fun _ => 0)

def quiescent_FcumIdeal [hFcumIdeal : Cert.FcumIdeal.Facts] : Prop :=
  ∀ (m : (ℓ : Loc Cert.FcumIdeal.nD Cert.FcumIdeal.τ Cert.FcumIdeal.sig) → Buf (Elt Ideal) ℓ) (g : Dev Cert.FcumIdeal.nD → PrngReg), Pre_FcumIdeal m →
    θ_run (Cert.FcumIdeal.defs (F := Ideal)) (onTc (τ := Cert.FcumIdeal.τ) (Cert.FcumIdeal.main (F := Ideal))) ⟨m, fun _ => 0, g⟩ (fun r => (∀ c : Dev Cert.FcumIdeal.nD,
      r.2.mem ((c.tc : Thread Cert.FcumIdeal.nD Cert.FcumIdeal.τ).loc Cert.FcumIdeal.main_arg0) = m ((c.tc : Thread Cert.FcumIdeal.nD Cert.FcumIdeal.τ).loc Cert.FcumIdeal.main_arg0)
      ∧ r.2.mem ((c.tc : Thread Cert.FcumIdeal.nD Cert.FcumIdeal.τ).loc Cert.FcumIdeal.main_arg1) = m ((c.tc : Thread Cert.FcumIdeal.nD Cert.FcumIdeal.τ).loc Cert.FcumIdeal.main_arg1))
      ∧ r.2.sem = fun _ => 0)

def quiescent_FcumRefIdeal [hFcumRefIdeal : Cert.FcumRefIdeal.Facts] : Prop :=
  ∀ (m : (ℓ : Loc Cert.FcumRefIdeal.nD Cert.FcumRefIdeal.τ Cert.FcumRefIdeal.sig) → Buf (Elt Ideal) ℓ) (g : Dev Cert.FcumRefIdeal.nD → PrngReg), Pre_FcumRefIdeal m →
    θ_run (Cert.FcumRefIdeal.defs (F := Ideal)) (onTc (τ := Cert.FcumRefIdeal.τ) (Cert.FcumRefIdeal.main (F := Ideal))) ⟨m, fun _ => 0, g⟩ (fun r => (∀ c : Dev Cert.FcumRefIdeal.nD,
      r.2.mem ((c.tc : Thread Cert.FcumRefIdeal.nD Cert.FcumRefIdeal.τ).loc Cert.FcumRefIdeal.main_arg0) = m ((c.tc : Thread Cert.FcumRefIdeal.nD Cert.FcumRefIdeal.τ).loc Cert.FcumRefIdeal.main_arg0)
      ∧ r.2.mem ((c.tc : Thread Cert.FcumRefIdeal.nD Cert.FcumRefIdeal.τ).loc Cert.FcumRefIdeal.main_arg1) = m ((c.tc : Thread Cert.FcumRefIdeal.nD Cert.FcumRefIdeal.τ).loc Cert.FcumRefIdeal.main_arg1))
      ∧ r.2.sem = fun _ => 0)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v7)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v7) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v23) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v6)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v6) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v6) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v10)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v10) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v19) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Bounds_BoundsIdeal : Prop :=
  True

def algebraic_BoundsIdeal_BoundsRefIdeal [hBoundsIdeal : Cert.BoundsIdeal.Facts] [hBoundsRefIdeal : Cert.BoundsRefIdeal.Facts] : Prop :=
  ∀ (m : (ℓ : Loc Cert.BoundsIdeal.nD Cert.BoundsIdeal.τ Cert.BoundsIdeal.sig) → Buf (Elt Ideal) ℓ) (g : Dev Cert.BoundsIdeal.nD → PrngReg)
    (m' : (ℓ : Loc Cert.BoundsRefIdeal.nD Cert.BoundsRefIdeal.τ Cert.BoundsRefIdeal.sig) → Buf (Elt Ideal) ℓ) (g' : Dev Cert.BoundsRefIdeal.nD → PrngReg), Pre_BoundsIdeal m →
    (∀ c : Dev Cert.BoundsIdeal.nD,
      m' ((c.tc : Thread Cert.BoundsRefIdeal.nD Cert.BoundsRefIdeal.τ).loc Cert.BoundsRefIdeal.main_arg0) = m ((c.tc : Thread Cert.BoundsIdeal.nD Cert.BoundsIdeal.τ).loc Cert.BoundsIdeal.main_arg0)) →
    ∃ (v0 : (c : Dev Cert.BoundsIdeal.nD) → Buf (Elt Ideal) ((c.tc : Thread Cert.BoundsIdeal.nD Cert.BoundsIdeal.τ).loc Cert.BoundsIdeal.main_v0)),
      θ_run (Cert.BoundsIdeal.defs (F := Ideal)) (onTc (τ := Cert.BoundsIdeal.τ) (Cert.BoundsIdeal.main (F := Ideal))) ⟨m, fun _ => 0, g⟩ (fun r => ∀ c : Dev Cert.BoundsIdeal.nD,
          r.2.mem ((c.tc : Thread Cert.BoundsIdeal.nD Cert.BoundsIdeal.τ).loc Cert.BoundsIdeal.main_v0) = v0 c
          ∧ r.2.mem ((c.tc : Thread Cert.BoundsIdeal.nD Cert.BoundsIdeal.τ).loc Cert.BoundsIdeal.main_arg0) = m ((c.tc : Thread Cert.BoundsIdeal.nD Cert.BoundsIdeal.τ).loc Cert.BoundsIdeal.main_arg0))
      ∧ θ_run (Cert.BoundsRefIdeal.defs (F := Ideal)) (onTc (τ := Cert.BoundsRefIdeal.τ) (Cert.BoundsRefIdeal.main (F := Ideal))) ⟨m', fun _ => 0, g'⟩ (fun r => ∀ c : Dev Cert.BoundsRefIdeal.nD,
          r.2.mem ((c.tc : Thread Cert.BoundsRefIdeal.nD Cert.BoundsRefIdeal.τ).loc Cert.BoundsRefIdeal.main_v14) = v0 c
          ∧ r.2.mem ((c.tc : Thread Cert.BoundsRefIdeal.nD Cert.BoundsRefIdeal.τ).loc Cert.BoundsRefIdeal.main_arg0) = m' ((c.tc : Thread Cert.BoundsRefIdeal.nD Cert.BoundsRefIdeal.τ).loc Cert.BoundsRefIdeal.main_arg0))

def preserves_Fcum_FcumIdeal : Prop :=
  IdealRules.named_const.Statement Cert.FcumIdeal.κ "log2_e" .f32 0x3FB8AA3B#32 (((Real.log 2)⁻¹ : ℝ) : EReal)

def algebraic_FcumIdeal_FcumRefIdeal [hFcumIdeal : Cert.FcumIdeal.Facts] [hFcumRefIdeal : Cert.FcumRefIdeal.Facts] : Prop :=
  ∀ (m : (ℓ : Loc Cert.FcumIdeal.nD Cert.FcumIdeal.τ Cert.FcumIdeal.sig) → Buf (Elt Ideal) ℓ) (g : Dev Cert.FcumIdeal.nD → PrngReg)
    (m' : (ℓ : Loc Cert.FcumRefIdeal.nD Cert.FcumRefIdeal.τ Cert.FcumRefIdeal.sig) → Buf (Elt Ideal) ℓ) (g' : Dev Cert.FcumRefIdeal.nD → PrngReg), Pre_FcumIdeal m →
    (∀ c : Dev Cert.FcumIdeal.nD,
      m' ((c.tc : Thread Cert.FcumRefIdeal.nD Cert.FcumRefIdeal.τ).loc Cert.FcumRefIdeal.main_arg0) = m ((c.tc : Thread Cert.FcumIdeal.nD Cert.FcumIdeal.τ).loc Cert.FcumIdeal.main_arg0)
      ∧ m' ((c.tc : Thread Cert.FcumRefIdeal.nD Cert.FcumRefIdeal.τ).loc Cert.FcumRefIdeal.main_arg1) = m ((c.tc : Thread Cert.FcumIdeal.nD Cert.FcumIdeal.τ).loc Cert.FcumIdeal.main_arg1)) →
    ∃ (v0 : (c : Dev Cert.FcumIdeal.nD) → Buf (Elt Ideal) ((c.tc : Thread Cert.FcumIdeal.nD Cert.FcumIdeal.τ).loc Cert.FcumIdeal.main_v7)),
      θ_run (Cert.FcumIdeal.defs (F := Ideal)) (onTc (τ := Cert.FcumIdeal.τ) (Cert.FcumIdeal.main (F := Ideal))) ⟨m, fun _ => 0, g⟩ (fun r => ∀ c : Dev Cert.FcumIdeal.nD,
          r.2.mem ((c.tc : Thread Cert.FcumIdeal.nD Cert.FcumIdeal.τ).loc Cert.FcumIdeal.main_v7) = v0 c
          ∧ r.2.mem ((c.tc : Thread Cert.FcumIdeal.nD Cert.FcumIdeal.τ).loc Cert.FcumIdeal.main_arg0) = m ((c.tc : Thread Cert.FcumIdeal.nD Cert.FcumIdeal.τ).loc Cert.FcumIdeal.main_arg0)
          ∧ r.2.mem ((c.tc : Thread Cert.FcumIdeal.nD Cert.FcumIdeal.τ).loc Cert.FcumIdeal.main_arg1) = m ((c.tc : Thread Cert.FcumIdeal.nD Cert.FcumIdeal.τ).loc Cert.FcumIdeal.main_arg1))
      ∧ θ_run (Cert.FcumRefIdeal.defs (F := Ideal)) (onTc (τ := Cert.FcumRefIdeal.τ) (Cert.FcumRefIdeal.main (F := Ideal))) ⟨m', fun _ => 0, g'⟩ (fun r => ∀ c : Dev Cert.FcumRefIdeal.nD,
          r.2.mem ((c.tc : Thread Cert.FcumRefIdeal.nD Cert.FcumRefIdeal.τ).loc Cert.FcumRefIdeal.main_v10) = v0 c
          ∧ r.2.mem ((c.tc : Thread Cert.FcumRefIdeal.nD Cert.FcumRefIdeal.τ).loc Cert.FcumRefIdeal.main_arg0) = m' ((c.tc : Thread Cert.FcumRefIdeal.nD Cert.FcumRefIdeal.τ).loc Cert.FcumRefIdeal.main_arg0)
          ∧ r.2.mem ((c.tc : Thread Cert.FcumRefIdeal.nD Cert.FcumRefIdeal.τ).loc Cert.FcumRefIdeal.main_arg1) = m' ((c.tc : Thread Cert.FcumRefIdeal.nD Cert.FcumRefIdeal.τ).loc Cert.FcumRefIdeal.main_arg1))

def Claim : Prop :=
  ∃ (hKernel : Cert.Kernel.Facts) (hKernelIdeal : Cert.KernelIdeal.Facts) (hReferenceIdeal : Cert.ReferenceIdeal.Facts) (hPle : Cert.Ple.Facts) (hPleIdeal : Cert.PleIdeal.Facts) (hPleRefIdeal : Cert.PleRefIdeal.Facts) (hOutProj : Cert.OutProj.Facts) (hOutProjIdeal : Cert.OutProjIdeal.Facts) (hOutProjRefIdeal : Cert.OutProjRefIdeal.Facts) (hInProj : Cert.InProj.Facts) (hInProjIdeal : Cert.InProjIdeal.Facts) (hInProjRefIdeal : Cert.InProjRefIdeal.Facts) (hBounds : Cert.Bounds.Facts) (hBoundsIdeal : Cert.BoundsIdeal.Facts) (hBoundsRefIdeal : Cert.BoundsRefIdeal.Facts) (hFcum : Cert.Fcum.Facts) (hFcumIdeal : Cert.FcumIdeal.Facts) (hFcumRefIdeal : Cert.FcumRefIdeal.Facts) (hFox : Cert.Fox.Facts),
    quiescent_Kernel (hKernel := hKernel)
    ∧ quiescent_KernelIdeal (hKernelIdeal := hKernelIdeal)
    ∧ quiescent_ReferenceIdeal (hReferenceIdeal := hReferenceIdeal)
    ∧ quiescent_Ple (hPle := hPle)
    ∧ quiescent_PleIdeal (hPleIdeal := hPleIdeal)
    ∧ quiescent_PleRefIdeal (hPleRefIdeal := hPleRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_InProj (hInProj := hInProj)
    ∧ quiescent_InProjIdeal (hInProjIdeal := hInProjIdeal)
    ∧ quiescent_InProjRefIdeal (hInProjRefIdeal := hInProjRefIdeal)
    ∧ quiescent_Bounds (hBounds := hBounds)
    ∧ quiescent_BoundsIdeal (hBoundsIdeal := hBoundsIdeal)
    ∧ quiescent_BoundsRefIdeal (hBoundsRefIdeal := hBoundsRefIdeal)
    ∧ quiescent_Fcum (hFcum := hFcum)
    ∧ quiescent_FcumIdeal (hFcumIdeal := hFcumIdeal)
    ∧ quiescent_FcumRefIdeal (hFcumRefIdeal := hFcumRefIdeal)
    ∧ quiescent_Fox (hFox := hFox)
    ∧ preserves_Kernel_KernelIdeal
    ∧ algebraic_KernelIdeal_ReferenceIdeal (hKernelIdeal := hKernelIdeal) (hReferenceIdeal := hReferenceIdeal)
    ∧ preserves_Ple_PleIdeal
    ∧ algebraic_PleIdeal_PleRefIdeal (hPleIdeal := hPleIdeal) (hPleRefIdeal := hPleRefIdeal)
    ∧ preserves_OutProj_OutProjIdeal
    ∧ algebraic_OutProjIdeal_OutProjRefIdeal (hOutProjIdeal := hOutProjIdeal) (hOutProjRefIdeal := hOutProjRefIdeal)
    ∧ preserves_InProj_InProjIdeal
    ∧ algebraic_InProjIdeal_InProjRefIdeal (hInProjIdeal := hInProjIdeal) (hInProjRefIdeal := hInProjRefIdeal)
    ∧ preserves_Bounds_BoundsIdeal
    ∧ algebraic_BoundsIdeal_BoundsRefIdeal (hBoundsIdeal := hBoundsIdeal) (hBoundsRefIdeal := hBoundsRefIdeal)
    ∧ preserves_Fcum_FcumIdeal
    ∧ algebraic_FcumIdeal_FcumRefIdeal (hFcumIdeal := hFcumIdeal) (hFcumRefIdeal := hFcumRefIdeal)
-- ==== Kernel.lean ====
abbrev S4x4096x2048 : Shape := ⟨3, ![4, 4096, 2048]⟩
abbrev S2048 : Shape := ⟨1, ![2048]⟩
abbrev S2048x5632 : Shape := ⟨2, ![2048, 5632]⟩
abbrev S3x5632 : Shape := ⟨2, ![3, 5632]⟩
abbrev S5632 : Shape := ⟨1, ![5632]⟩
abbrev S5632x2048 : Shape := ⟨2, ![5632, 2048]⟩
abbrev S16384x2048 : Shape := ⟨2, ![16384, 2048]⟩
abbrev S1x2048x5632 : Shape := ⟨3, ![1, 2048, 5632]⟩
abbrev S1x5632x2048 : Shape := ⟨3, ![1, 5632, 2048]⟩
abbrev S_ : Shape := ⟨0, ![]⟩
abbrev S8x5632 : Shape := ⟨2, ![8, 5632]⟩
abbrev S1 : Shape := ⟨1, ![1]⟩
abbrev S1x2048 : Shape := ⟨2, ![1, 2048]⟩
abbrev S1x5632 : Shape := ⟨2, ![1, 5632]⟩
abbrev S512x2048 : Shape := ⟨2, ![512, 2048]⟩
abbrev S16x2048 : Shape := ⟨2, ![16, 2048]⟩
abbrev S1x2048x512 : Shape := ⟨3, ![1, 2048, 512]⟩
abbrev S8x512 : Shape := ⟨2, ![8, 512]⟩
abbrev S1x512 : Shape := ⟨2, ![1, 512]⟩
abbrev S1x512x2048 : Shape := ⟨3, ![1, 512, 2048]⟩
abbrev S528x2048 : Shape := ⟨2, ![528, 2048]⟩
abbrev S512 : Shape := ⟨1, ![512]⟩
abbrev S512x1 : Shape := ⟨2, ![512, 1]⟩
abbrev S16 : Shape := ⟨1, ![16]⟩
abbrev S16x1 : Shape := ⟨2, ![16, 1]⟩
abbrev S2048x512 : Shape := ⟨2, ![2048, 512]⟩
abbrev S528x512 : Shape := ⟨2, ![528, 512]⟩
abbrev S512x512 : Shape := ⟨2, ![512, 512]⟩

abbrev nBuf : Space → Nat
  | .hbm => 22
  | .vmem => 19
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S3x5632, .f32⟩
  | .hbm, ⟨5, _⟩ => ⟨S5632, .f32⟩
  | .hbm, ⟨6, _⟩ => ⟨S5632x2048, .f32⟩
  | .hbm, ⟨7, _⟩ => ⟨S16384x2048, .f32⟩
  | .hbm, ⟨8, _⟩ => ⟨S2048x5632, .bf16⟩
  | .hbm, ⟨9, _⟩ => ⟨S1x2048x5632, .bf16⟩
  | .hbm, ⟨10, _⟩ => ⟨S2048x5632, .bf16⟩
  | .hbm, ⟨11, _⟩ => ⟨S1x2048x5632, .bf16⟩
  | .hbm, ⟨12, _⟩ => ⟨S5632x2048, .bf16⟩
  | .hbm, ⟨13, _⟩ => ⟨S1x5632x2048, .bf16⟩
  | .hbm, ⟨14, _⟩ => ⟨S_, .f32⟩
  | .hbm, ⟨15, _⟩ => ⟨S8x5632, .f32⟩
  | .hbm, ⟨16, _⟩ => ⟨S_, .i32⟩
  | .hbm, ⟨17, _⟩ => ⟨S1, .i32⟩
  | .hbm, ⟨18, _⟩ => ⟨S8x5632, .f32⟩
  | .hbm, ⟨19, _⟩ => ⟨S1x2048, .f32⟩
  | .hbm, ⟨20, _⟩ => ⟨S1x5632, .f32⟩
  | .hbm, ⟨21, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S16x2048, .f32⟩
  | .local _ .vmem, ⟨3, _⟩ => ⟨S16x2048, .f32⟩
  | .local _ .vmem, ⟨4, _⟩ => ⟨S1x2048, .f32⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S8x512, .f32⟩
  | .local _ .vmem, ⟨10, _⟩ => ⟨S8x512, .f32⟩
  | .local _ .vmem, ⟨11, _⟩ => ⟨S1x512, .f32⟩
  | .local _ .vmem, ⟨12, _⟩ => ⟨S1x512, .f32⟩
  | .local _ .vmem, ⟨13, _⟩ => ⟨S1x512x2048, .bf16⟩
  | .local _ .vmem, ⟨14, _⟩ => ⟨S1x512x2048, .bf16⟩
  | .local _ .vmem, ⟨15, _⟩ => ⟨S512x2048, .f32⟩
  | .local _ .vmem, ⟨16, _⟩ => ⟨S512x2048, .f32⟩
  | .local _ .vmem, ⟨17, _⟩ => ⟨S528x2048, .bf16⟩
  | .local _ .vmem, ⟨18, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v54 : BitVec 1 := Scalar.cmpi .eq arg1 c10_i32
  let v55 : BitVec 32 := Scalar.extui v54
  let c0_i32_25 : BitVec 32 := 0#32
  let v56 : BitVec 1 := Scalar.cmpi .ne v55 c0_i32_25
  v56

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S4x4096x2048 : Shape := ⟨3, ![4, 4096, 2048]⟩
abbrev S2048 : Shape := ⟨1, ![2048]⟩
abbrev S2048x5632 : Shape := ⟨2, ![2048, 5632]⟩
abbrev S3x5632 : Shape := ⟨2, ![3, 5632]⟩
abbrev S5632 : Shape := ⟨1, ![5632]⟩
abbrev S5632x2048 : Shape := ⟨2, ![5632, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x5632 : Shape := ⟨3, ![4, 4096, 5632]⟩
abbrev S4x4098x5632 : Shape := ⟨3, ![4, 4098, 5632]⟩
abbrev S1x5632 : Shape := ⟨2, ![1, 5632]⟩
abbrev S1x1x5632 : Shape := ⟨3, ![1, 1, 5632]⟩
abbrev S16384x2048 : Shape := ⟨2, ![16384, 2048]⟩

abbrev nBuf : Space → Nat
  | .hbm => 75
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S3x5632, .f32⟩
  | .hbm, ⟨5, _⟩ => ⟨S5632, .f32⟩
  | .hbm, ⟨6, _⟩ => ⟨S5632x2048, .f32⟩
  | .hbm, ⟨7, _⟩ => ⟨S4x4096x2048, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x2048, .f32⟩
  | .hbm, ⟨19, _⟩ => ⟨S4x4096x2048, .f32⟩
  | .hbm, ⟨20, _⟩ => ⟨S1x1x2048, .f32⟩
  | .hbm, ⟨21, _⟩ => ⟨S4x4096x2048, .f32⟩
  | .hbm, ⟨22, _⟩ => ⟨S4x4096x2048, .f32⟩
  | .hbm, ⟨23, _⟩ => ⟨S4x4096x5632, .f32⟩
  | .hbm, ⟨24, _⟩ => ⟨S_, .i32⟩
  | .hbm, ⟨25, _⟩ => ⟨S_, .f32⟩
  | .hbm, ⟨26, _⟩ => ⟨S4x4098x5632, .f32⟩
  | .hbm, ⟨27, _⟩ => ⟨S4x4096x5632, .f32⟩
  | .hbm, ⟨28, _⟩ => ⟨S1x5632, .f32⟩
  | .hbm, ⟨29, _⟩ => ⟨S5632, .f32⟩
  | .hbm, ⟨30, _⟩ => ⟨S1x1x5632, .f32⟩
  | .hbm, ⟨31, _⟩ => ⟨S4x4096x5632, .f32⟩
  | .hbm, ⟨32, _⟩ => ⟨S4x4096x5632, .f32⟩
  | .hbm, ⟨33, _⟩ => ⟨S_, .f32⟩
  | .hbm, ⟨34, _⟩ => ⟨S4x4096x5632, .f32⟩
  | .hbm, ⟨35, _⟩ => ⟨S4x4096x5632, .f32⟩
  | .hbm, ⟨36, _⟩ => ⟨S4x4096x5632, .f32⟩
  | .hbm, ⟨37, _⟩ => ⟨S1x5632, .f32⟩
  | .hbm, ⟨38, _⟩ => ⟨S5632, .f32⟩
  | .hbm, ⟨39, _⟩ => ⟨S1x1x5632, .f32⟩
  | .hbm, ⟨40, _⟩ => ⟨S4x4096x5632, .f32⟩
  | .hbm, ⟨41, _⟩ => ⟨S4x4096x5632, .f32⟩
  | .hbm, ⟨42, _⟩ => ⟨S4x4096x5632, .f32⟩
  | .hbm, ⟨43, _⟩ => ⟨S4x4096x5632, .f32⟩
  | .hbm, ⟨44, _⟩ => ⟨S1x5632, .f32⟩
  | .hbm, ⟨45, _⟩ => ⟨S5632, .f32⟩
  | .hbm, ⟨46, _⟩ => ⟨S1x1x5632, .f32⟩
  | .hbm, ⟨47, _⟩ => ⟨S4x4096x5632, .f32⟩
  | .hbm, ⟨48, _⟩ => ⟨S4x4096x5632, .f32⟩
  | .hbm, ⟨49, _⟩ => ⟨S4x4096x5632, .f32⟩
  | .hbm, ⟨50, _⟩ => ⟨S1x1x5632, .f32⟩
  | .hbm, ⟨51, _⟩ => ⟨S4x4096x5632, .f32⟩
  | .hbm, ⟨52, _⟩ => ⟨S4x4096x5632, .f32⟩
  | .hbm, ⟨53, _⟩ => ⟨S4x4096x5632, .f32⟩
  | .hbm, ⟨54, _⟩ => ⟨S4x4096x5632, .f32⟩
  | .hbm, ⟨55, _⟩ => ⟨S_, .f32⟩
  | .hbm, ⟨56, _⟩ => ⟨S4x4096x5632, .f32⟩
  | .hbm, ⟨57, _⟩ => ⟨S4x4096x5632, .f32⟩
  | .hbm, ⟨58, _⟩ => ⟨S4x4096x5632, .f32⟩
  | .hbm, ⟨59, _⟩ => ⟨S_, .f32⟩
  | .hbm, ⟨60, _⟩ => ⟨S4x4096x5632, .f32⟩
  | .hbm, ⟨61, _⟩ => ⟨S4x4096x5632, .f32⟩
  | .hbm, ⟨62, _⟩ => ⟨S4x4096x5632, .f32⟩
  | .hbm, ⟨63, _⟩ => ⟨S_, .f32⟩
  | .hbm, ⟨64, _⟩ => ⟨S4x4096x5632, .f32⟩
  | .hbm, ⟨65, _⟩ => ⟨S4x4096x5632, .f32⟩
  | .hbm, ⟨66, _⟩ => ⟨S_, .f32⟩
  | .hbm, ⟨67, _⟩ => ⟨S4x4096x5632, .f32⟩
  | .hbm, ⟨68, _⟩ => ⟨S4x4096x5632, .f32⟩
  | .hbm, ⟨69, _⟩ => ⟨S4x4096x5632, .f32⟩
  | .hbm, ⟨70, _⟩ => ⟨S4x4096x5632, .f32⟩
  | .hbm, ⟨71, _⟩ => ⟨S4x4096x5632, .f32⟩
  | .hbm, ⟨72, _⟩ => ⟨S4x4096x2048, .f32⟩
  | .hbm, ⟨73, _⟩ => ⟨S4x4096x2048, .f32⟩
  | .hbm, ⟨74, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_3 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_4 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_5 : Ref sig .tc := ⟨.hbm, 63, rfl⟩
abbrev main_v48 : Ref sig .tc := ⟨.hbm, 64, rfl⟩
abbrev main_v49 : Ref sig .tc := ⟨.hbm, 65, rfl⟩
abbrev main_cst_6 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩

abbrev nD : Nat := 1
abbrev τ : Topo := Topo.v7x

variable {F : FTy → Type} [FloatOps F]
-- ==== Ple.lean ====
abbrev S4x4096x2048 : Shape := ⟨3, ![4, 4096, 2048]⟩
abbrev S2048 : Shape := ⟨1, ![2048]⟩
abbrev S4x4096x256 : Shape := ⟨3, ![4, 4096, 256]⟩
abbrev S2048x2048 : Shape := ⟨2, ![2048, 2048]⟩
abbrev S256x2048 : Shape := ⟨2, ![256, 2048]⟩
abbrev S16384x2048 : Shape := ⟨2, ![16384, 2048]⟩
abbrev S1x16384x256 : Shape := ⟨3, ![1, 16384, 256]⟩
abbrev S1x2048x2048 : Shape := ⟨3, ![1, 2048, 2048]⟩
abbrev S1x256x2048 : Shape := ⟨3, ![1, 256, 2048]⟩
abbrev S1x2048 : Shape := ⟨2, ![1, 2048]⟩
abbrev S1024x2048 : Shape := ⟨2, ![1024, 2048]⟩
abbrev S1024x1024 : Shape := ⟨2, ![1024, 1024]⟩
abbrev S1x1024x256 : Shape := ⟨3, ![1, 1024, 256]⟩
abbrev S1x2048x1024 : Shape := ⟨3, ![1, 2048, 1024]⟩
abbrev S1x256x1024 : Shape := ⟨3, ![1, 256, 1024]⟩
abbrev S1024x256 : Shape := ⟨2, ![1024, 256]⟩
abbrev S1024 : Shape := ⟨1, ![1024]⟩
abbrev S1024x1 : Shape := ⟨2, ![1024, 1]⟩
abbrev S2048x1024 : Shape := ⟨2, ![2048, 1024]⟩
abbrev S256x1024 : Shape := ⟨2, ![256, 1024]⟩

abbrev nBuf : Space → Nat
  | .hbm => 13
  | .vmem => 15
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x4096x256, .f32⟩
  | .hbm, ⟨3, _⟩ => ⟨S2048x2048, .f32⟩
  | .hbm, ⟨4, _⟩ => ⟨S256x2048, .f32⟩
  | .hbm, ⟨5, _⟩ => ⟨S16384x2048, .f32⟩
  | .hbm, ⟨6, _⟩ => ⟨S1x16384x256, .f32⟩
  | .hbm, ⟨7, _⟩ => ⟨S2048x2048, .bf16⟩
  | .hbm, ⟨8, _⟩ => ⟨S1x2048x2048, .bf16⟩
  | .hbm, ⟨9, _⟩ => ⟨S256x2048, .bf16⟩
  | .hbm, ⟨10, _⟩ => ⟨S1x256x2048, .bf16⟩
  | .hbm, ⟨11, _⟩ => ⟨S1x2048, .f32⟩
  | .hbm, ⟨12, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1024x1024, .f32⟩
  | .local _ .vmem, ⟨3, _⟩ => ⟨S1024x1024, .f32⟩
  | .local _ .vmem, ⟨4, _⟩ => ⟨S1x2048, .f32⟩
  | .local _ .vmem, ⟨5, _⟩ => ⟨S1x1024x256, .f32⟩
  | .local _ .vmem, ⟨6, _⟩ => ⟨S1x1024x256, .f32⟩
  | .local _ .vmem, ⟨7, _⟩ => ⟨S1x2048x1024, .bf16⟩
  | .local _ .vmem, ⟨8, _⟩ => ⟨S1x2048x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1024x1024, .f32⟩
  | .local _ .vmem, ⟨12, _⟩ => ⟨S1024x1024, .f32⟩
  | .local _ .vmem, ⟨13, _⟩ => ⟨S1024x2048, .bf16⟩
  | .local _ .vmem, ⟨14, _⟩ => ⟨S1024x256, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== PleRefIdeal.lean ====
abbrev S4x4096x2048 : Shape := ⟨3, ![4, 4096, 2048]⟩
abbrev S2048 : Shape := ⟨1, ![2048]⟩
abbrev S4x4096x256 : Shape := ⟨3, ![4, 4096, 256]⟩
abbrev S2048x2048 : Shape := ⟨2, ![2048, 2048]⟩
abbrev S256x2048 : Shape := ⟨2, ![256, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S16384x2048 : Shape := ⟨2, ![16384, 2048]⟩

abbrev nBuf : Space → Nat
  | .hbm => 34
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x4096x256, .f32⟩
  | .hbm, ⟨3, _⟩ => ⟨S2048x2048, .f32⟩
  | .hbm, ⟨4, _⟩ => ⟨S256x2048, .f32⟩
  | .hbm, ⟨5, _⟩ => ⟨S4x4096x2048, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S1x1x2048, .f32⟩
  | .hbm, ⟨19, _⟩ => ⟨S4x4096x2048, .f32⟩
  | .hbm, ⟨20, _⟩ => ⟨S4x4096x2048, .f32⟩
  | .hbm, ⟨21, _⟩ => ⟨S4x4096x2048, .f32⟩
  | .hbm, ⟨22, _⟩ => ⟨S4x4096x2048, .f32⟩
  | .hbm, ⟨23, _⟩ => ⟨S4x4096x2048, .f32⟩
  | .hbm, ⟨24, _⟩ => ⟨S_, .f32⟩
  | .hbm, ⟨25, _⟩ => ⟨S4x4096x2048, .f32⟩
  | .hbm, ⟨26, _⟩ => ⟨S4x4096x2048, .f32⟩
  | .hbm, ⟨27, _⟩ => ⟨S_, .f32⟩
  | .hbm, ⟨28, _⟩ => ⟨S4x4096x2048, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | .hbm, ⟨32, _⟩ => ⟨S4x4096x2048, .f32⟩
  | .hbm, ⟨33, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== OutProj.lean ====
abbrev S4x4096x2048 : Shape := ⟨3, ![4, 4096, 2048]⟩
abbrev S4x4096x512 : Shape := ⟨3, ![4, 4096, 512]⟩
abbrev S4x4096x768 : Shape := ⟨3, ![4, 4096, 768]⟩
abbrev S2048x2048 : Shape := ⟨2, ![2048, 2048]⟩
abbrev S16384x2048 : Shape := ⟨2, ![16384, 2048]⟩
abbrev S16384x512 : Shape := ⟨2, ![16384, 512]⟩
abbrev S16384x768 : Shape := ⟨2, ![16384, 768]⟩
abbrev S1x2048x2048 : Shape := ⟨3, ![1, 2048, 2048]⟩
abbrev S1024x1024 : Shape := ⟨2, ![1024, 1024]⟩
abbrev S1024x512 : Shape := ⟨2, ![1024, 512]⟩
abbrev S1024x768 : Shape := ⟨2, ![1024, 768]⟩
abbrev S1x2048x1024 : Shape := ⟨3, ![1, 2048, 1024]⟩
abbrev S1x512x1024 : Shape := ⟨3, ![1, 512, 1024]⟩
abbrev S512x1024 : Shape := ⟨2, ![512, 1024]⟩
abbrev S1x768x1024 : Shape := ⟨3, ![1, 768, 1024]⟩
abbrev S768x1024 : Shape := ⟨2, ![768, 1024]⟩

abbrev nBuf : Space → Nat
  | .hbm => 12
  | .vmem => 12
  | .smem => 0
  | _ => 0

abbrev bufTy : (tb : Table) → Fin (tcTables nBuf tb) → BufTy
  | .hbm, ⟨0, _⟩ => ⟨S4x4096x2048, .f32⟩
  | .hbm, ⟨1, _⟩ => ⟨S4x4096x512, .bf16⟩
  | .hbm, ⟨2, _⟩ => ⟨S4x4096x768, .bf16⟩
  | .hbm, ⟨3, _⟩ => ⟨S4x4096x768, .bf16⟩
  | .hbm, ⟨4, _⟩ => ⟨S2048x2048, .f32⟩
  | .hbm, ⟨5, _⟩ => ⟨S16384x2048, .f32⟩
  | .hbm, ⟨6, _⟩ => ⟨S16384x512, .bf16⟩
  | .hbm, ⟨7, _⟩ => ⟨S16384x768, .bf16⟩
  | .hbm, ⟨8, _⟩ => ⟨S16384x768, .bf16⟩
  | .hbm, ⟨9, _⟩ => ⟨S2048x2048, .bf16⟩
  | .hbm, ⟨10, _⟩ => ⟨S1x2048x2048, .bf16⟩
  | .hbm, ⟨11, _⟩ => ⟨S16384x2048, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .bf16⟩
  | .local _ .vmem, ⟨7, _⟩ => ⟨S1024x768, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S1024x1024, .f32⟩
  | .local _ .vmem, ⟨11, _⟩ => ⟨S1024x1024, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutProjRefIdeal.lean ====
abbrev S4x4096x2048 : Shape := ⟨3, ![4, 4096, 2048]⟩
abbrev S4x4096x512 : Shape := ⟨3, ![4, 4096, 512]⟩
abbrev S4x4096x768 : Shape := ⟨3, ![4, 4096, 768]⟩
abbrev S2048x2048 : Shape := ⟨2, ![2048, 2048]⟩
abbrev S16384x2048 : Shape := ⟨2, ![16384, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x512, .bf16⟩
  | .hbm, ⟨2, _⟩ => ⟨S4x4096x768, .bf16⟩
  | .hbm, ⟨3, _⟩ => ⟨S4x4096x768, .bf16⟩
  | .hbm, ⟨4, _⟩ => ⟨S2048x2048, .f32⟩
  | .hbm, ⟨5, _⟩ => ⟨S4x4096x512, .f32⟩
  | .hbm, ⟨6, _⟩ => ⟨S4x4096x768, .f32⟩
  | .hbm, ⟨7, _⟩ => ⟨S4x4096x768, .f32⟩
  | .hbm, ⟨8, _⟩ => ⟨S4x4096x2048, .f32⟩
  | .hbm, ⟨9, _⟩ => ⟨S4x4096x2048, .f32⟩
  | .hbm, ⟨10, _⟩ => ⟨S4x4096x2048, .f32⟩
  | .hbm, ⟨11, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== InProj.lean ====
abbrev S4x4096x2048 : Shape := ⟨3, ![4, 4096, 2048]⟩
abbrev S2048 : Shape := ⟨1, ![2048]⟩
abbrev S2048x6662 : Shape := ⟨2, ![2048, 6662]⟩
abbrev S16384x2048 : Shape := ⟨2, ![16384, 2048]⟩
abbrev S1x2048x6662 : Shape := ⟨3, ![1, 2048, 6662]⟩
abbrev S1x2048x4352 : Shape := ⟨3, ![1, 2048, 4352]⟩
abbrev S1x2048x6 : Shape := ⟨3, ![1, 2048, 6]⟩
abbrev S_ : Shape := ⟨0, ![]⟩
abbrev S1x2048x122 : Shape := ⟨3, ![1, 2048, 122]⟩
abbrev S1x2048x2304 : Shape := ⟨3, ![1, 2048, 2304]⟩
abbrev S1x2048x128 : Shape := ⟨3, ![1, 2048, 128]⟩
abbrev S1x2048x6912 : Shape := ⟨3, ![1, 2048, 6912]⟩
abbrev S1x2048 : Shape := ⟨2, ![1, 2048]⟩
abbrev S16384x6912 : Shape := ⟨2, ![16384, 6912]⟩
abbrev S1024x2048 : Shape := ⟨2, ![1024, 2048]⟩
abbrev S128x2048 : Shape := ⟨2, ![128, 2048]⟩
abbrev S1x2048x768 : Shape := ⟨3, ![1, 2048, 768]⟩
abbrev S1024x768 : Shape := ⟨2, ![1024, 768]⟩
abbrev S1024 : Shape := ⟨1, ![1024]⟩
abbrev S1024x1 : Shape := ⟨2, ![1024, 1]⟩
abbrev S128 : Shape := ⟨1, ![128]⟩
abbrev S128x1 : Shape := ⟨2, ![128, 1]⟩
abbrev S2048x768 : Shape := ⟨2, ![2048, 768]⟩

abbrev nBuf : Space → Nat
  | .hbm => 16
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x6662, .f32⟩
  | .hbm, ⟨3, _⟩ => ⟨S16384x2048, .f32⟩
  | .hbm, ⟨4, _⟩ => ⟨S1x2048x6662, .f32⟩
  | .hbm, ⟨5, _⟩ => ⟨S1x2048x6662, .bf16⟩
  | .hbm, ⟨6, _⟩ => ⟨S1x2048x4352, .bf16⟩
  | .hbm, ⟨7, _⟩ => ⟨S1x2048x6, .bf16⟩
  | .hbm, ⟨8, _⟩ => ⟨S_, .bf16⟩
  | .hbm, ⟨9, _⟩ => ⟨S1x2048x122, .bf16⟩
  | .hbm, ⟨10, _⟩ => ⟨S1x2048x2304, .bf16⟩
  | .hbm, ⟨11, _⟩ => ⟨S_, .bf16⟩
  | .hbm, ⟨12, _⟩ => ⟨S1x2048x128, .bf16⟩
  | .hbm, ⟨13, _⟩ => ⟨S1x2048x6912, .bf16⟩
  | .hbm, ⟨14, _⟩ => ⟨S1x2048, .f32⟩
  | .hbm, ⟨15, _⟩ => ⟨S16384x6912, .f32⟩
  | .local _ .vmem, ⟨0, _⟩ => ⟨S1024x2048, .f32⟩
  | .local _ .vmem, ⟨1, _⟩ => ⟨S128x2048, .f32⟩
  | .local _ .vmem, ⟨2, _⟩ => ⟨S128x2048, .f32⟩
  | .local _ .vmem, ⟨3, _⟩ => ⟨S1x2048, .f32⟩
  | .local _ .vmem, ⟨4, _⟩ => ⟨S1x2048x768, .bf16⟩
  | .local _ .vmem, ⟨5, _⟩ => ⟨S1x2048x768, .bf16⟩
  | .local _ .vmem, ⟨6, _⟩ => ⟨S1024x768, .f32⟩
  | .local _ .vmem, ⟨7, _⟩ => ⟨S1024x768, .f32⟩
  | .local _ .vmem, ⟨8, _⟩ => ⟨S1024x2048, .bf16⟩
  | .local _ .vmem, ⟨9, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 9], ![false, false]⟩

def k0_mult1 (i : grid0.Coords) : BitVec 32 :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  v1
def k0_cond2 (i : grid0.Coords) : BitVec 1 :=
  let arg0 : BitVec 32 := BitVec.ofNat 32 (i 0).val
  let c2_i32 : BitVec 32 := 2#32
  let c0_i32_2 : BitVec 32 := 0#32
  let v8 : BitVec 1 := Scalar.cmpi .eq c2_i32 c0_i32_2
  let c1_i32 : BitVec 32 := 1#32
  let v9 : BitVec 32 := Scalar.select v8 c1_i32 c2_i32
  let v10 : BitVec 32 := Scalar.remsi arg0 v9
  let c0_i32_4 : BitVec 32 := 0#32
  let v12 : BitVec 1 := Scalar.cmpi .slt v10 c0_i32_4
  let c0_i32_5 : BitVec 32 := 0#32
  let v13 : BitVec 1 := Scalar.cmpi .slt v9 c0_i32_5
  let v14 : BitVec 1 := Scalar.xori v12 v13
  let c0_i32_3 : BitVec 32 := 0#32
  let v11 : BitVec 1 := Scalar.cmpi .ne v10 c0_i32_3
  let v15 : BitVec 1 := Scalar.andi v14 v11
  let v16 : BitVec 32 := Scalar.addi v10 v9
  let v17 : BitVec 32 := Scalar.select v15 v16 v10
  let c0_i32_6 : BitVec 32 := 0#32
  let v18 : BitVec 1 := Scalar.cmpi .eq v17 c0_i32_6
  let v19 : BitVec 32 := Scalar.extui v18
  let c0_i32_7 : BitVec 32 := 0#32
  let v20 : BitVec 1 := Scalar.cmpi .ne v19 c0_i32_7
  v20

def k0_off1 (i : grid0.Coords) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v2 : BitVec 32 := v1
  let v51 : Index := Scalar.indexCast v2
  let c0_21 : Index := 0#32
  ![v51.toNat, 0]
def k0_cond3 (i : grid0.Coords) : BitVec 1 :=
  let arg0 : BitVec 32 := BitVec.ofNat 32 (i 0).val
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi arg0 v22
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let c0_i32_11 : BitVec 32 := 0#32
  let v24 : BitVec 1 := Scalar.cmpi .ne v23 c0_i32_11
  let v28 : BitVec 1 := Scalar.andi v27 v24
  let v29 : BitVec 32 := Scalar.addi v23 v22
  let v30 : BitVec 32 := Scalar.select v28 v29 v23
  let c1_i32_14 : BitVec 32 := 1#32
  let v31 : BitVec 1 := Scalar.cmpi .eq v30 c1_i32_14
  let v32 : BitVec 32 := Scalar.extui v31
  let c0_i32_15 : BitVec 32 := 0#32
  let v33 : BitVec 1 := Scalar.cmpi .ne v32 c0_i32_15
  v33

def k0_off2 (i : grid0.Coords) : Fin 2 → Nat :=
  let arg1 : BitVec 32 := BitVec.ofNat 32 (i 1).val
  let c7_i32 : BitVec 32 := 7#32
  let v0 : BitVec 32 := Scalar.minsi arg1 c7_i32
  let c128_i32 : BitVec 32 := 128#32
  let v1 : BitVec 32 := Scalar.muli v0 c128_i32
  let v2 : BitVec 32 := v1
  let v51 : Index := Scalar.indexCast v2
  let c0_21 : Index := 0#32
  ![v51.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c15_i32 : BitVec 32 := 15#32
  let v1 : BitVec 32 := Scalar.minsi v0 c15_i32
  let c8_i32 : BitVec 32 := 8#32
  let v2 : BitVec 32 := Scalar.muli v1 c8_i32
  let c7_i32 : BitVec 32 := 7#32
  let v3 : BitVec 32 := Scalar.minsi arg1 c7_i32
  let v4 : BitVec 32 := Scalar.addi v2 v3
  let c0_i32 : BitVec 32 := 0#32
  let c0_i32_0 : BitVec 32 := 0#32
  ![v4.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjRefIdeal.lean ====
abbrev S4x4096x2048 : Shape := ⟨3, ![4, 4096, 2048]⟩
abbrev S2048 : Shape := ⟨1, ![2048]⟩
abbrev S2048x6662 : Shape := ⟨2, ![2048, 6662]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x6662 : Shape := ⟨3, ![4, 4096, 6662]⟩
abbrev S16384x6662 : Shape := ⟨2, ![16384, 6662]⟩
abbrev S16384x4358 : Shape := ⟨2, ![16384, 4358]⟩
abbrev S16384x122 : Shape := ⟨2, ![16384, 122]⟩
abbrev S16384x2304 : Shape := ⟨2, ![16384, 2304]⟩
abbrev S16384x128 : Shape := ⟨2, ![16384, 128]⟩
abbrev S16384x6912 : Shape := ⟨2, ![16384, 6912]⟩

abbrev nBuf : Space → Nat
  | .hbm => 28
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x6662, .f32⟩
  | .hbm, ⟨3, _⟩ => ⟨S4x4096x2048, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x2048, .f32⟩
  | .hbm, ⟨15, _⟩ => ⟨S4x4096x2048, .f32⟩
  | .hbm, ⟨16, _⟩ => ⟨S1x1x2048, .f32⟩
  | .hbm, ⟨17, _⟩ => ⟨S4x4096x2048, .f32⟩
  | .hbm, ⟨18, _⟩ => ⟨S4x4096x2048, .f32⟩
  | .hbm, ⟨19, _⟩ => ⟨S4x4096x6662, .f32⟩
  | .hbm, ⟨20, _⟩ => ⟨S16384x6662, .f32⟩
  | .hbm, ⟨21, _⟩ => ⟨S16384x4358, .f32⟩
  | .hbm, ⟨22, _⟩ => ⟨S_, .f32⟩
  | .hbm, ⟨23, _⟩ => ⟨S16384x122, .f32⟩
  | .hbm, ⟨24, _⟩ => ⟨S16384x2304, .f32⟩
  | .hbm, ⟨25, _⟩ => ⟨S_, .f32⟩
  | .hbm, ⟨26, _⟩ => ⟨S16384x128, .f32⟩
  | .hbm, ⟨27, _⟩ => ⟨S16384x6912, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Bounds.lean ====
abbrev S4x512 : Shape := ⟨2, ![4, 512]⟩
abbrev S1x512 : Shape := ⟨2, ![1, 512]⟩

abbrev nBuf : Space → Nat
  | .hbm => 2
  | .vmem => 2
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .local _ .vmem, ⟨0, _⟩ => ⟨S4x512, .f32⟩
  | .local _ .vmem, ⟨1, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== BoundsRefIdeal.lean ====
abbrev S4x512 : Shape := ⟨2, ![4, 512]⟩
abbrev S_ : Shape := ⟨0, ![]⟩
abbrev S512 : Shape := ⟨1, ![512]⟩
abbrev S1x512 : Shape := ⟨2, ![1, 512]⟩

abbrev nBuf : Space → Nat
  | .hbm => 21
  | .vmem => 0
  | .smem => 0
  | _ => 0

abbrev bufTy : (tb : Table) → Fin (tcTables nBuf tb) → BufTy
  | .hbm, ⟨0, _⟩ => ⟨S4x512, .f32⟩
  | .hbm, ⟨1, _⟩ => ⟨S_, .f32⟩
  | .hbm, ⟨2, _⟩ => ⟨S512, .f32⟩
  | .hbm, ⟨3, _⟩ => ⟨S_, .f32⟩
  | .hbm, ⟨4, _⟩ => ⟨S512, .f32⟩
  | .hbm, ⟨5, _⟩ => ⟨S512, .f32⟩
  | .hbm, ⟨6, _⟩ => ⟨S1x512, .f32⟩
  | .hbm, ⟨7, _⟩ => ⟨S4x512, .f32⟩
  | .hbm, ⟨8, _⟩ => ⟨S4x512, .f32⟩
  | .hbm, ⟨9, _⟩ => ⟨S4x512, .f32⟩
  | .hbm, ⟨10, _⟩ => ⟨S_, .f32⟩
  | .hbm, ⟨11, _⟩ => ⟨S512, .f32⟩
  | .hbm, ⟨12, _⟩ => ⟨S1x512, .f32⟩
  | .hbm, ⟨13, _⟩ => ⟨S4x512, .f32⟩
  | .hbm, ⟨14, _⟩ => ⟨S4x512, .f32⟩
  | .hbm, ⟨15, _⟩ => ⟨S_, .f32⟩
  | .hbm, ⟨16, _⟩ => ⟨S_, .f32⟩
  | .hbm, ⟨17, _⟩ => ⟨S4x512, .f32⟩
  | .hbm, ⟨18, _⟩ => ⟨S1x512, .f32⟩
  | .hbm, ⟨19, _⟩ => ⟨S4x512, .f32⟩
  | .hbm, ⟨20, _⟩ => ⟨S4x512, .f32⟩
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_call0_cst : Ref sig .tc := ⟨.hbm, 15, rfl⟩
abbrev main_call0_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Fcum.lean ====
abbrev S4x4096x6912 : Shape := ⟨3, ![4, 4096, 6912]⟩
abbrev S6 : Shape := ⟨1, ![6]⟩
abbrev S_ : Shape := ⟨0, ![]⟩
abbrev S512x512 : Shape := ⟨2, ![512, 512]⟩
abbrev S1x128 : Shape := ⟨2, ![1, 128]⟩
abbrev S1 : Shape := ⟨1, ![1]⟩
abbrev S2 : Shape := ⟨1, ![2]⟩
abbrev S4x4096x128 : Shape := ⟨3, ![4, 4096, 128]⟩
abbrev S1x512x128 : Shape := ⟨3, ![1, 512, 128]⟩
abbrev S512x128 : Shape := ⟨2, ![512, 128]⟩

abbrev nBuf : Space → Nat
  | .hbm => 22
  | .vmem => 7
  | .smem => 0
  | _ => 0

abbrev bufTy : (tb : Table) → Fin (tcTables nBuf tb) → BufTy
  | .hbm, ⟨0, _⟩ => ⟨S4x4096x6912, .f32⟩
  | .hbm, ⟨1, _⟩ => ⟨S6, .f32⟩
  | .hbm, ⟨2, _⟩ => ⟨S_, .f32⟩
  | .hbm, ⟨3, _⟩ => ⟨S512x512, .f32⟩
  | .hbm, ⟨4, _⟩ => ⟨S512x512, .i32⟩
  | .hbm, ⟨5, _⟩ => ⟨S_, .i32⟩
  | .hbm, ⟨6, _⟩ => ⟨S512x512, .i32⟩
  | .hbm, ⟨7, _⟩ => ⟨S512x512, .i32⟩
  | .hbm, ⟨8, _⟩ => ⟨S512x512, .i32⟩
  | .hbm, ⟨9, _⟩ => ⟨S512x512, .i1⟩
  | .hbm, ⟨10, _⟩ => ⟨S_, .f32⟩
  | .hbm, ⟨11, _⟩ => ⟨S512x512, .f32⟩
  | .hbm, ⟨12, _⟩ => ⟨S512x512, .f32⟩
  | .hbm, ⟨13, _⟩ => ⟨S_, .f32⟩
  | .hbm, ⟨14, _⟩ => ⟨S1x128, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S1x128, .f32⟩
  | .hbm, ⟨21, _⟩ => ⟨S4x4096x128, .f32⟩
  | .local _ .vmem, ⟨0, _⟩ => ⟨S1x512x128, .f32⟩
  | .local _ .vmem, ⟨1, _⟩ => ⟨S1x512x128, .f32⟩
  | .local _ .vmem, ⟨2, _⟩ => ⟨S1x128, .f32⟩
  | .local _ .vmem, ⟨3, _⟩ => ⟨S512x512, .f32⟩
  | .local _ .vmem, ⟨4, _⟩ => ⟨S1x512x128, .f32⟩
  | .local _ .vmem, ⟨5, _⟩ => ⟨S1x512x128, .f32⟩
  | .local _ .vmem, ⟨6, _⟩ => ⟨S1x128, .f32⟩
  | _, _ => ⟨S4x4096x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_cst : Ref sig .tc := ⟨.hbm, 10, rfl⟩
abbrev main_call0_v5 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_c_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c34_i32 : BitVec 32 := 34#32
  let c0_i32 : BitVec 32 := 0#32
  ![arg0.toNat, arg1.toNat, c34_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FcumIdeal.lean ====
variable {F : FTy → Type} [FloatOps F] [Named F]
def κ : String → Option EReal := fun
  | "log2_e" => some (((Real.log 2)⁻¹ : ℝ) : EReal)
  | _ => none
-- ==== FcumRefIdeal.lean ====
abbrev S4x4096x6912 : Shape := ⟨3, ![4, 4096, 6912]⟩
abbrev S6 : Shape := ⟨1, ![6]⟩
abbrev S4x4096x128 : Shape := ⟨3, ![4, 4096, 128]⟩
abbrev S_ : Shape := ⟨0, ![]⟩
abbrev S122 : Shape := ⟨1, ![122]⟩
abbrev S128 : Shape := ⟨1, ![128]⟩
abbrev S1x1x128 : Shape := ⟨3, ![1, 1, 128]⟩

abbrev nBuf : Space → Nat
  | .hbm => 32
  | .vmem => 0
  | .smem => 0
  | _ => 0

abbrev bufTy : (tb : Table) → Fin (tcTables nBuf tb) → BufTy
  | .hbm, ⟨0, _⟩ => ⟨S4x4096x6912, .f32⟩
  | .hbm, ⟨1, _⟩ => ⟨S6, .f32⟩
  | .hbm, ⟨2, _⟩ => ⟨S4x4096x128, .f32⟩
  | .hbm, ⟨3, _⟩ => ⟨S_, .f32⟩
  | .hbm, ⟨4, _⟩ => ⟨S122, .f32⟩
  | .hbm, ⟨5, _⟩ => ⟨S128, .f32⟩
  | .hbm, ⟨6, _⟩ => ⟨S1x1x128, .f32⟩
  | .hbm, ⟨7, _⟩ => ⟨S4x4096x128, .f32⟩
  | .hbm, ⟨8, _⟩ => ⟨S4x4096x128, .f32⟩
  | .hbm, ⟨9, _⟩ => ⟨S4x4096x128, .f32⟩
  | .hbm, ⟨10, _⟩ => ⟨S_, .f32⟩
  | .hbm, ⟨11, _⟩ => ⟨S4x4096x128, .f32⟩
  | .hbm, ⟨12, _⟩ => ⟨S4x4096x128, .f32⟩
  | .hbm, ⟨13, _⟩ => ⟨S4x4096x128, .f32⟩
  | .hbm, ⟨14, _⟩ => ⟨S4x4096x128, .f32⟩
  | .hbm, ⟨15, _⟩ => ⟨S4x4096x128, .i1⟩
  | .hbm, ⟨16, _⟩ => ⟨S4x4096x128, .f32⟩
  | .hbm, ⟨17, _⟩ => ⟨S4x4096x128, .f32⟩
  | .hbm, ⟨18, _⟩ => ⟨S4x4096x128, .f32⟩
  | .hbm, ⟨19, _⟩ => ⟨S4x4096x128, .f32⟩
  | .hbm, ⟨20, _⟩ => ⟨S4x4096x128, .f32⟩
  | .hbm, ⟨21, _⟩ => ⟨S4x4096x128, .f32⟩
  | .hbm, ⟨22, _⟩ => ⟨S4x4096x128, .f32⟩
  | .hbm, ⟨23, _⟩ => ⟨S4x4096x128, .f32⟩
  | .hbm, ⟨24, _⟩ => ⟨S4x4096x128, .f32⟩
  | .hbm, ⟨25, _⟩ => ⟨S_, .f32⟩
  | .hbm, ⟨26, _⟩ => ⟨S_, .f32⟩
  | .hbm, ⟨27, _⟩ => ⟨S4x4096x128, .f32⟩
  | .hbm, ⟨28, _⟩ => ⟨S_, .f32⟩
  | .hbm, ⟨29, _⟩ => ⟨S_, .f32⟩
  | .hbm, ⟨30, _⟩ => ⟨S4x4096x128, .f32⟩
  | .hbm, ⟨31, _⟩ => ⟨S4x4096x128, .f32⟩
  | _, _ => ⟨S4x4096x6912, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_call0_cst : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_v8 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_v11 : Ref sig .tc := ⟨.hbm, 22, rfl⟩
abbrev main_call0_v1 : Ref sig .tc := ⟨.hbm, 23, rfl⟩
abbrev main_v6 : Ref sig .tc := ⟨.hbm, 24, rfl⟩
abbrev main_call1_call0_cst : Ref sig .tc := ⟨.hbm, 25, rfl⟩
abbrev main_call1_call0_v0 : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩

abbrev nD : Nat := 1
abbrev τ : Topo := Topo.v7x

variable {F : FTy → Type} [FloatOps F]
-- ==== Fox.lean ====
abbrev S4x6x16x256x256 : Shape := ⟨5, ![4, 6, 16, 256, 256]⟩
abbrev S4x6x4096x256 : Shape := ⟨4, ![4, 6, 4096, 256]⟩
abbrev S4x6x16x144x256 : Shape := ⟨5, ![4, 6, 16, 144, 256]⟩
abbrev S4x4096x768 : Shape := ⟨3, ![4, 4096, 768]⟩
abbrev S1x6x1x256x256 : Shape := ⟨5, ![1, 6, 1, 256, 256]⟩
abbrev S1x6x4096x256 : Shape := ⟨4, ![1, 6, 4096, 256]⟩
abbrev S1x6x16x144x256 : Shape := ⟨5, ![1, 6, 16, 144, 256]⟩
abbrev S1x256x768 : Shape := ⟨3, ![1, 256, 768]⟩
abbrev S6x144x256 : Shape := ⟨3, ![6, 144, 256]⟩
abbrev S6x256x256 : Shape := ⟨3, ![6, 256, 256]⟩
abbrev S1x256 : Shape := ⟨2, ![1, 256]⟩
abbrev S1x1x256x256 : Shape := ⟨4, ![1, 1, 256, 256]⟩
abbrev S256x256 : Shape := ⟨2, ![256, 256]⟩
abbrev S1x1x1x256x256 : Shape := ⟨5, ![1, 1, 1, 256, 256]⟩
abbrev S1x256x256 : Shape := ⟨3, ![1, 256, 256]⟩
abbrev S1x1x1x144x256 : Shape := ⟨5, ![1, 1, 1, 144, 256]⟩
abbrev S144x256 : Shape := ⟨2, ![144, 256]⟩
abbrev S256 : Shape := ⟨1, ![256]⟩
abbrev S1x144x256 : Shape := ⟨3, ![1, 144, 256]⟩
abbrev S128x256 : Shape := ⟨2, ![128, 256]⟩
abbrev S256x128 : Shape := ⟨2, ![256, 128]⟩
abbrev S1x256x128 : Shape := ⟨3, ![1, 256, 128]⟩

abbrev nBuf : Space → Nat
  | .hbm => 4
  | .vmem => 9
  | .smem => 0
  | _ => 0

abbrev bufTy : (tb : Table) → Fin (tcTables nBuf tb) → BufTy
  | .hbm, ⟨0, _⟩ => ⟨S4x6x16x256x256, .bf16⟩
  | .hbm, ⟨1, _⟩ => ⟨S4x6x4096x256, .bf16⟩
  | .hbm, ⟨2, _⟩ => ⟨S4x6x16x144x256, .bf16⟩
  | .hbm, ⟨3, _⟩ => ⟨S4x4096x768, .bf16⟩
  | .local _ .vmem, ⟨0, _⟩ => ⟨S1x6x1x256x256, .bf16⟩
  | .local _ .vmem, ⟨1, _⟩ => ⟨S1x6x1x256x256, .bf16⟩
  | .local _ .vmem, ⟨2, _⟩ => ⟨S1x6x4096x256, .bf16⟩
  | .local _ .vmem, ⟨3, _⟩ => ⟨S1x6x16x144x256, .bf16⟩
  | .local _ .vmem, ⟨4, _⟩ => ⟨S1x256x768, .bf16⟩
  | .local _ .vmem, ⟨5, _⟩ => ⟨S1x256x768, .bf16⟩
  | .local _ .vmem, ⟨6, _⟩ => ⟨S6x144x256, .f32⟩
  | .local _ .vmem, ⟨7, _⟩ => ⟨S6x256x256, .f32⟩
  | .local _ .vmem, ⟨8, _⟩ => ⟨S6x256x256, .f32⟩
  | _, _ => ⟨S4x6x16x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![4, 1, 16], ![false, false, false]⟩

def k0_mult1 : BitVec 32 :=
  let c0_i32 : BitVec 32 := 0#32
  c0_i32
def k0_mult2 : BitVec 32 :=
  let c0_i32_20 : BitVec 32 := 0#32
  c0_i32_20
def k0_mult3 : BitVec 32 :=
  let c0_i32_32 : BitVec 32 := 0#32
  c0_i32_32
def k0_mult4 : BitVec 32 :=
  let c0_i32_44 : BitVec 32 := 0#32
  c0_i32_44
def k0_mult5 : BitVec 32 :=
  let c0_i32_56 : BitVec 32 := 0#32
  c0_i32_56
def k0_mult6 : BitVec 32 :=
  let c0_i32_68 : BitVec 32 := 0#32
  c0_i32_68
@[reducible] def k0_t1_loop (i : grid0.Coords) : Scf.Loop 32 :=
  let c0_i32_85 : BitVec 32 := 0#32
  let arg2 : BitVec 32 := BitVec.ofNat 32 (i 2).val
  let c0_i32_80 : BitVec 32 := 0#32
  let v71 : BitVec 1 := Scalar.cmpi .sgt arg2 c0_i32_80
  let v72 : BitVec 32 := Scalar.extui v71
  let c0_i32_81 : BitVec 32 := 0#32
  let v73 : BitVec 1 := Scalar.cmpi .slt arg2 c0_i32_81
  let v74 : BitVec 32 := Scalar.extui v73
  let v75 : BitVec 32 := Scalar.subi v72 v74
  let c2_i32 : BitVec 32 := 2#32
  let c0_i32_82 : BitVec 32 := 0#32
  let v76 : BitVec 1 := Scalar.cmpi .sgt c2_i32 c0_i32_82
  let v77 : BitVec 32 := Scalar.extui v76
  let c0_i32_83 : BitVec 32 := 0#32
  let v78 : BitVec 1 := Scalar.cmpi .slt c2_i32 c0_i32_83
  let v79 : BitVec 32 := Scalar.extui v78
  let v80 : BitVec 32 := Scalar.subi v77 v79
  let v81 : BitVec 1 := Scalar.cmpi .ne v75 v80
  let v82 : BitVec 32 := Scalar.remsi arg2 c2_i32
  let c0_i32_84 : BitVec 32 := 0#32
  let v83 : BitVec 1 := Scalar.cmpi .ne v82 c0_i32_84
  let v84 : BitVec 1 := Scalar.andi v81 v83
  let v70 : BitVec 32 := Scalar.divsi arg2 c2_i32
  let c1_i32 : BitVec 32 := 1#32
  let v85 : BitVec 32 := Scalar.subi v70 c1_i32
  let v86 : BitVec 32 := Scalar.select v84 v85 v70
  let v87 : BitVec 32 := Scalar.subi v86 c0_i32_85
  let c1_i32_86 : BitVec 32 := 1#32
  let v89 : BitVec 32 := Scalar.divsi v87 c1_i32_86
  let v90 : BitVec 32 := Scalar.muli v89 c1_i32_86
  let v91 : BitVec 32 := Scalar.addi c0_i32_85 v90
  let c1_i32_87 : BitVec 32 := 1#32
  ⟨c0_i32_85, v91, c1_i32_87⟩
def k0_mult7 (i : grid0.Coords) (k0_t1 : Fin (k0_t1_loop i).trips) : BitVec 32 :=
  let c2_i32_105 : BitVec 32 := 2#32
  let c0_i32_85 : BitVec 32 := 0#32
  let c1_i32_87 : BitVec 32 := 1#32
  let arg10 : BitVec 32 := Scf.iv c0_i32_85 c1_i32_87 k0_t1
  let v120 : BitVec 32 := Scalar.muli c2_i32_105 arg10
  let c1_i32_106 : BitVec 32 := 1#32
  let v121 : BitVec 32 := Scalar.addi v120 c1_i32_106
  let c256_i32 : BitVec 32 := 256#32
  let v122 : BitVec 32 := Scalar.muli v121 c256_i32
  v122
def k0_off1 (i : grid0.Coords) (k0_t1 : Fin (k0_t1_loop i).trips) (c1_i32_106 : BitVec 32) : Fin 4 → Nat :=
  let c0_107 : Index := 0#32
  let c0_108 : Index := 0#32
  let c2_i32_105 : BitVec 32 := 2#32
  let c0_i32_85 : BitVec 32 := 0#32
  let c1_i32_87 : BitVec 32 := 1#32
  let arg10 : BitVec 32 := Scf.iv c0_i32_85 c1_i32_87 k0_t1
  let v120 : BitVec 32 := Scalar.muli c2_i32_105 arg10
  let v121 : BitVec 32 := Scalar.addi v120 c1_i32_106
  let c256_i32 : BitVec 32 := 256#32
  let v122 : BitVec 32 := Scalar.muli v121 c256_i32
  let v123 : BitVec 32 := v122
  let v124 : Index := Scalar.indexCast v123
  let c0_109 : Index := 0#32
  ![0, 0, v124.toNat, 0]
def k0_mult8 (i : grid0.Coords) (k0_t1 : Fin (k0_t1_loop i).trips) : BitVec 32 :=
  let c2_i32_105 : BitVec 32 := 2#32
  let c0_i32_85 : BitVec 32 := 0#32
  let c1_i32_87 : BitVec 32 := 1#32
  let arg10 : BitVec 32 := Scf.iv c0_i32_85 c1_i32_87 k0_t1
  let v120 : BitVec 32 := Scalar.muli c2_i32_105 arg10
  let c1_i32_106 : BitVec 32 := 1#32
  let v121 : BitVec 32 := Scalar.addi v120 c1_i32_106
  let c256_i32_119 : BitVec 32 := 256#32
  let v133 : BitVec 32 := Scalar.muli v121 c256_i32_119
  v133
def k0_off2 (i : grid0.Coords) (k0_t1 : Fin (k0_t1_loop i).trips) (c1_i32_106 : BitVec 32) : Fin 4 → Nat :=
  let c0_120 : Index := 0#32
  let c1_121 : Index := 1#32
  let c2_i32_105 : BitVec 32 := 2#32
  let c0_i32_85 : BitVec 32 := 0#32
  let c1_i32_87 : BitVec 32 := 1#32
  let arg10 : BitVec 32 := Scf.iv c0_i32_85 c1_i32_87 k0_t1
  let v120 : BitVec 32 := Scalar.muli c2_i32_105 arg10
  let v121 : BitVec 32 := Scalar.addi v120 c1_i32_106
  let c256_i32_119 : BitVec 32 := 256#32
  let v133 : BitVec 32 := Scalar.muli v121 c256_i32_119
  let v134 : BitVec 32 := v133
  let v135 : Index := Scalar.indexCast v134
  let c0_122 : Index := 0#32
  ![0, 1, v135.toNat, 0]
def k0_mult9 (i : grid0.Coords) (k0_t1 : Fin (k0_t1_loop i).trips) : BitVec 32 :=
  let c2_i32_105 : BitVec 32 := 2#32
  let c0_i32_85 : BitVec 32 := 0#32
  let c1_i32_87 : BitVec 32 := 1#32
  let arg10 : BitVec 32 := Scf.iv c0_i32_85 c1_i32_87 k0_t1
  let v120 : BitVec 32 := Scalar.muli c2_i32_105 arg10
  let c1_i32_106 : BitVec 32 := 1#32
  let v121 : BitVec 32 := Scalar.addi v120 c1_i32_106
  let c256_i32_132 : BitVec 32 := 256#32
  let v144 : BitVec 32 := Scalar.muli v121 c256_i32_132
  v144
def k0_off3 (i : grid0.Coords) (k0_t1 : Fin (k0_t1_loop i).trips) (c1_i32_106 : BitVec 32) : Fin 4 → Nat :=
  let c0_133 : Index := 0#32
  let c2_134 : Index := 2#32
  let c2_i32_105 : BitVec 32 := 2#32
  let c0_i32_85 : BitVec 32 := 0#32
  let c1_i32_87 : BitVec 32 := 1#32
  let arg10 : BitVec 32 := Scf.iv c0_i32_85 c1_i32_87 k0_t1
  let v120 : BitVec 32 := Scalar.muli c2_i32_105 arg10
  let v121 : BitVec 32 := Scalar.addi v120 c1_i32_106
  let c256_i32_132 : BitVec 32 := 256#32
  let v144 : BitVec 32 := Scalar.muli v121 c256_i32_132
  let v145 : BitVec 32 := v144
  let v146 : Index := Scalar.indexCast v145
  let c0_135 : Index := 0#32
  ![0, 2, v146.toNat, 0]
def k0_mult10 (i : grid0.Coords) (k0_t1 : Fin (k0_t1_loop i).trips) : BitVec 32 :=
  let c2_i32_105 : BitVec 32 := 2#32
  let c0_i32_85 : BitVec 32 := 0#32
  let c1_i32_87 : BitVec 32 := 1#32
  let arg10 : BitVec 32 := Scf.iv c0_i32_85 c1_i32_87 k0_t1
  let v120 : BitVec 32 := Scalar.muli c2_i32_105 arg10
  let c1_i32_106 : BitVec 32 := 1#32
  let v121 : BitVec 32 := Scalar.addi v120 c1_i32_106
  let c256_i32_145 : BitVec 32 := 256#32
  let v155 : BitVec 32 := Scalar.muli v121 c256_i32_145
  v155
def k0_off4 (i : grid0.Coords) (k0_t1 : Fin (k0_t1_loop i).trips) (c1_i32_106 : BitVec 32) : Fin 4 → Nat :=
  let c0_146 : Index := 0#32
  let c3_147 : Index := 3#32
  let c2_i32_105 : BitVec 32 := 2#32
  let c0_i32_85 : BitVec 32 := 0#32
  let c1_i32_87 : BitVec 32 := 1#32
  let arg10 : BitVec 32 := Scf.iv c0_i32_85 c1_i32_87 k0_t1
  let v120 : BitVec 32 := Scalar.muli c2_i32_105 arg10
  let v121 : BitVec 32 := Scalar.addi v120 c1_i32_106
  let c256_i32_145 : BitVec 32 := 256#32
  let v155 : BitVec 32 := Scalar.muli v121 c256_i32_145
  let v156 : BitVec 32 := v155
  let v157 : Index := Scalar.indexCast v156
  let c0_148 : Index := 0#32
  ![0, 3, v157.toNat, 0]
def k0_mult11 (i : grid0.Coords) (k0_t1 : Fin (k0_t1_loop i).trips) : BitVec 32 :=
  let c2_i32_105 : BitVec 32 := 2#32
  let c0_i32_85 : BitVec 32 := 0#32
  let c1_i32_87 : BitVec 32 := 1#32
  let arg10 : BitVec 32 := Scf.iv c0_i32_85 c1_i32_87 k0_t1
  let v120 : BitVec 32 := Scalar.muli c2_i32_105 arg10
  let c1_i32_106 : BitVec 32 := 1#32
  let v121 : BitVec 32 := Scalar.addi v120 c1_i32_106
  let c256_i32_158 : BitVec 32 := 256#32
  let v166 : BitVec 32 := Scalar.muli v121 c256_i32_158
  v166
def k0_off5 (i : grid0.Coords) (k0_t1 : Fin (k0_t1_loop i).trips) (c1_i32_106 : BitVec 32) : Fin 4 → Nat :=
  let c0_159 : Index := 0#32
  let c4_160 : Index := 4#32
  let c2_i32_105 : BitVec 32 := 2#32
  let c0_i32_85 : BitVec 32 := 0#32
  let c1_i32_87 : BitVec 32 := 1#32
  let arg10 : BitVec 32 := Scf.iv c0_i32_85 c1_i32_87 k0_t1
  let v120 : BitVec 32 := Scalar.muli c2_i32_105 arg10
  let v121 : BitVec 32 := Scalar.addi v120 c1_i32_106
  let c256_i32_158 : BitVec 32 := 256#32
  let v166 : BitVec 32 := Scalar.muli v121 c256_i32_158
  let v167 : BitVec 32 := v166
  let v168 : Index := Scalar.indexCast v167
  let c0_161 : Index := 0#32
  ![0, 4, v168.toNat, 0]
def k0_mult12 (i : grid0.Coords) (k0_t1 : Fin (k0_t1_loop i).trips) : BitVec 32 :=
  let c2_i32_105 : BitVec 32 := 2#32
  let c0_i32_85 : BitVec 32 := 0#32
  let c1_i32_87 : BitVec 32 := 1#32
  let arg10 : BitVec 32 := Scf.iv c0_i32_85 c1_i32_87 k0_t1
  let v120 : BitVec 32 := Scalar.muli c2_i32_105 arg10
  let c1_i32_106 : BitVec 32 := 1#32
  let v121 : BitVec 32 := Scalar.addi v120 c1_i32_106
  let c256_i32_171 : BitVec 32 := 256#32
  let v177 : BitVec 32 := Scalar.muli v121 c256_i32_171
  v177
def k0_off6 (i : grid0.Coords) (k0_t1 : Fin (k0_t1_loop i).trips) (c1_i32_106 : BitVec 32) : Fin 4 → Nat :=
  let c0_172 : Index := 0#32
  let c5_173 : Index := 5#32
  let c2_i32_105 : BitVec 32 := 2#32
  let c0_i32_85 : BitVec 32 := 0#32
  let c1_i32_87 : BitVec 32 := 1#32
  let arg10 : BitVec 32 := Scf.iv c0_i32_85 c1_i32_87 k0_t1
  let v120 : BitVec 32 := Scalar.muli c2_i32_105 arg10
  let v121 : BitVec 32 := Scalar.addi v120 c1_i32_106
  let c256_i32_171 : BitVec 32 := 256#32
  let v177 : BitVec 32 := Scalar.muli v121 c256_i32_171
  let v178 : BitVec 32 := v177
  let v179 : Index := Scalar.indexCast v178
  let c0_174 : Index := 0#32
  ![0, 5, v179.toNat, 0]
def k0_off7 (i : grid0.Coords) (k0_t1 : Fin (k0_t1_loop i).trips) : Fin 5 → Nat :=
  let c0_187 : Index := 0#32
  let c0_188 : Index := 0#32
  let c2_i32_105 : BitVec 32 := 2#32
  let c0_i32_85 : BitVec 32 := 0#32
  let c1_i32_87 : BitVec 32 := 1#32
  let arg10 : BitVec 32 := Scf.iv c0_i32_85 c1_i32_87 k0_t1
  let v120 : BitVec 32 := Scalar.muli c2_i32_105 arg10
  let v190 : Index := Scalar.indexCast v120
  let c0_189 : Index := 0#32
  let c0_190 : Index := 0#32
  ![0, 0, v190.toNat, 0, 0]
def k0_off8 (i : grid0.Coords) (k0_t1 : Fin (k0_t1_loop i).trips) : Fin 5 → Nat :=
  let c0_202 : Index := 0#32
  let c1_203 : Index := 1#32
  let c2_i32_105 : BitVec 32 := 2#32
  let c0_i32_85 : BitVec 32 := 0#32
  let c1_i32_87 : BitVec 32 := 1#32
  let arg10 : BitVec 32 := Scf.iv c0_i32_85 c1_i32_87 k0_t1
  let v120 : BitVec 32 := Scalar.muli c2_i32_105 arg10
  let v213 : Index := Scalar.indexCast v120
  let c0_204 : Index := 0#32
  let c0_205 : Index := 0#32
  ![0, 1, v213.toNat, 0, 0]
def k0_off9 (i : grid0.Coords) (k0_t1 : Fin (k0_t1_loop i).trips) : Fin 5 → Nat :=
  let c0_217 : Index := 0#32
  let c2_218 : Index := 2#32
  let c2_i32_105 : BitVec 32 := 2#32
  let c0_i32_85 : BitVec 32 := 0#32
  let c1_i32_87 : BitVec 32 := 1#32
  let arg10 : BitVec 32 := Scf.iv c0_i32_85 c1_i32_87 k0_t1
  let v120 : BitVec 32 := Scalar.muli c2_i32_105 arg10
  let v236 : Index := Scalar.indexCast v120
  let c0_219 : Index := 0#32
  let c0_220 : Index := 0#32
  ![0, 2, v236.toNat, 0, 0]
def k0_off10 (i : grid0.Coords) (k0_t1 : Fin (k0_t1_loop i).trips) : Fin 5 → Nat :=
  let c0_232 : Index := 0#32
  let c3_233 : Index := 3#32
  let c2_i32_105 : BitVec 32 := 2#32
  let c0_i32_85 : BitVec 32 := 0#32
  let c1_i32_87 : BitVec 32 := 1#32
  let arg10 : BitVec 32 := Scf.iv c0_i32_85 c1_i32_87 k0_t1
  let v120 : BitVec 32 := Scalar.muli c2_i32_105 arg10
  let v259 : Index := Scalar.indexCast v120
  let c0_234 : Index := 0#32
  let c0_235 : Index := 0#32
  ![0, 3, v259.toNat, 0, 0]
def k0_off11 (i : grid0.Coords) (k0_t1 : Fin (k0_t1_loop i).trips) : Fin 5 → Nat :=
  let c0_247 : Index := 0#32
  let c4_248 : Index := 4#32
  let c2_i32_105 : BitVec 32 := 2#32
  let c0_i32_85 : BitVec 32 := 0#32
  let c1_i32_87 : BitVec 32 := 1#32
  let arg10 : BitVec 32 := Scf.iv c0_i32_85 c1_i32_87 k0_t1
  let v120 : BitVec 32 := Scalar.muli c2_i32_105 arg10
  let v282 : Index := Scalar.indexCast v120
  let c0_249 : Index := 0#32
  let c0_250 : Index := 0#32
  ![0, 4, v282.toNat, 0, 0]
def k0_off12 (i : grid0.Coords) (k0_t1 : Fin (k0_t1_loop i).trips) : Fin 5 → Nat :=
  let c0_262 : Index := 0#32
  let c5_263 : Index := 5#32
  let c2_i32_105 : BitVec 32 := 2#32
  let c0_i32_85 : BitVec 32 := 0#32
  let c1_i32_87 : BitVec 32 := 1#32
  let arg10 : BitVec 32 := Scf.iv c0_i32_85 c1_i32_87 k0_t1
  let v120 : BitVec 32 := Scalar.muli c2_i32_105 arg10
  let v305 : Index := Scalar.indexCast v120
  let c0_264 : Index := 0#32
  let c0_265 : Index := 0#32
  ![0, 5, v305.toNat, 0, 0]
def k0_mult13 (i : grid0.Coords) (k0_t1 : Fin (k0_t1_loop i).trips) : BitVec 32 :=
  let c2_i32_105 : BitVec 32 := 2#32
  let c0_i32_85 : BitVec 32 := 0#32
  let c1_i32_87 : BitVec 32 := 1#32
  let arg10 : BitVec 32 := Scf.iv c0_i32_85 c1_i32_87 k0_t1
  let v120 : BitVec 32 := Scalar.muli c2_i32_105 arg10
  let c2_i32_274 : BitVec 32 := 2#32
  let v326 : BitVec 32 := Scalar.addi v120 c2_i32_274
  let c256_i32_275 : BitVec 32 := 256#32
  let v327 : BitVec 32 := Scalar.muli v326 c256_i32_275
  v327
def k0_mult14 (i : grid0.Coords) (k0_t1 : Fin (k0_t1_loop i).trips) : BitVec 32 :=
  let c2_i32_105 : BitVec 32 := 2#32
  let c0_i32_85 : BitVec 32 := 0#32
  let c1_i32_87 : BitVec 32 := 1#32
  let arg10 : BitVec 32 := Scf.iv c0_i32_85 c1_i32_87 k0_t1
  let v120 : BitVec 32 := Scalar.muli c2_i32_105 arg10
  let c2_i32_274 : BitVec 32 := 2#32
  let v326 : BitVec 32 := Scalar.addi v120 c2_i32_274
  let c256_i32_288 : BitVec 32 := 256#32
  let v338 : BitVec 32 := Scalar.muli v326 c256_i32_288
  v338
def k0_mult15 (i : grid0.Coords) (k0_t1 : Fin (k0_t1_loop i).trips) : BitVec 32 :=
  let c2_i32_105 : BitVec 32 := 2#32
  let c0_i32_85 : BitVec 32 := 0#32
  let c1_i32_87 : BitVec 32 := 1#32
  let arg10 : BitVec 32 := Scf.iv c0_i32_85 c1_i32_87 k0_t1
  let v120 : BitVec 32 := Scalar.muli c2_i32_105 arg10
  let c2_i32_274 : BitVec 32 := 2#32
  let v326 : BitVec 32 := Scalar.addi v120 c2_i32_274
  let c256_i32_301 : BitVec 32 := 256#32
  let v349 : BitVec 32 := Scalar.muli v326 c256_i32_301
  v349
def k0_mult16 (i : grid0.Coords) (k0_t1 : Fin (k0_t1_loop i).trips) : BitVec 32 :=
  let c2_i32_105 : BitVec 32 := 2#32
  let c0_i32_85 : BitVec 32 := 0#32
  let c1_i32_87 : BitVec 32 := 1#32
  let arg10 : BitVec 32 := Scf.iv c0_i32_85 c1_i32_87 k0_t1
  let v120 : BitVec 32 := Scalar.muli c2_i32_105 arg10
  let c2_i32_274 : BitVec 32 := 2#32
  let v326 : BitVec 32 := Scalar.addi v120 c2_i32_274
  let c256_i32_314 : BitVec 32 := 256#32
  let v360 : BitVec 32 := Scalar.muli v326 c256_i32_314
  v360
def k0_mult17 (i : grid0.Coords) (k0_t1 : Fin (k0_t1_loop i).trips) : BitVec 32 :=
  let c2_i32_105 : BitVec 32 := 2#32
  let c0_i32_85 : BitVec 32 := 0#32
  let c1_i32_87 : BitVec 32 := 1#32
  let arg10 : BitVec 32 := Scf.iv c0_i32_85 c1_i32_87 k0_t1
  let v120 : BitVec 32 := Scalar.muli c2_i32_105 arg10
  let c2_i32_274 : BitVec 32 := 2#32
  let v326 : BitVec 32 := Scalar.addi v120 c2_i32_274
  let c256_i32_327 : BitVec 32 := 256#32
  let v371 : BitVec 32 := Scalar.muli v326 c256_i32_327
  v371
def k0_mult18 (i : grid0.Coords) (k0_t1 : Fin (k0_t1_loop i).trips) : BitVec 32 :=
  let c2_i32_105 : BitVec 32 := 2#32
  let c0_i32_85 : BitVec 32 := 0#32
  let c1_i32_87 : BitVec 32 := 1#32
  let arg10 : BitVec 32 := Scf.iv c0_i32_85 c1_i32_87 k0_t1
  let v120 : BitVec 32 := Scalar.muli c2_i32_105 arg10
  let c2_i32_274 : BitVec 32 := 2#32
  let v326 : BitVec 32 := Scalar.addi v120 c2_i32_274
  let c256_i32_340 : BitVec 32 := 256#32
  let v382 : BitVec 32 := Scalar.muli v326 c256_i32_340
  v382
def k0_off13 (i : grid0.Coords) (k0_t1 : Fin (k0_t1_loop i).trips) : Fin 5 → Nat :=
  let c0_357 : Index := 0#32
  let c0_358 : Index := 0#32
  let c2_i32_105 : BitVec 32 := 2#32
  let c0_i32_85 : BitVec 32 := 0#32
  let c1_i32_87 : BitVec 32 := 1#32
  let arg10 : BitVec 32 := Scf.iv c0_i32_85 c1_i32_87 k0_t1
  let v120 : BitVec 32 := Scalar.muli c2_i32_105 arg10
  let c1_i32_353 : BitVec 32 := 1#32
  let v393 : BitVec 32 := Scalar.addi v120 c1_i32_353
  let v396 : Index := Scalar.indexCast v393
  let c0_359 : Index := 0#32
  let c0_360 : Index := 0#32
  ![0, 0, v396.toNat, 0, 0]
def k0_off14 (i : grid0.Coords) (k0_t1 : Fin (k0_t1_loop i).trips) : Fin 5 → Nat :=
  let c0_372 : Index := 0#32
  let c1_373 : Index := 1#32
  let c2_i32_105 : BitVec 32 := 2#32
  let c0_i32_85 : BitVec 32 := 0#32
  let c1_i32_87 : BitVec 32 := 1#32
  let arg10 : BitVec 32 := Scf.iv c0_i32_85 c1_i32_87 k0_t1
  let v120 : BitVec 32 := Scalar.muli c2_i32_105 arg10
  let c1_i32_353 : BitVec 32 := 1#32
  let v393 : BitVec 32 := Scalar.addi v120 c1_i32_353
  let v419 : Index := Scalar.indexCast v393
  let c0_374 : Index := 0#32
  let c0_375 : Index := 0#32
  ![0, 1, v419.toNat, 0, 0]
def k0_off15 (i : grid0.Coords) (k0_t1 : Fin (k0_t1_loop i).trips) : Fin 5 → Nat :=
  let c0_387 : Index := 0#32
  let c2_388 : Index := 2#32
  let c2_i32_105 : BitVec 32 := 2#32
  let c0_i32_85 : BitVec 32 := 0#32
  let c1_i32_87 : BitVec 32 := 1#32
  let arg10 : BitVec 32 := Scf.iv c0_i32_85 c1_i32_87 k0_t1
  let v120 : BitVec 32 := Scalar.muli c2_i32_105 arg10
  let c1_i32_353 : BitVec 32 := 1#32
  let v393 : BitVec 32 := Scalar.addi v120 c1_i32_353
  let v442 : Index := Scalar.indexCast v393
  let c0_389 : Index := 0#32
  let c0_390 : Index := 0#32
  ![0, 2, v442.toNat, 0, 0]
def k0_off16 (i : grid0.Coords) (k0_t1 : Fin (k0_t1_loop i).trips) : Fin 5 → Nat :=
  let c0_402 : Index := 0#32
  let c3_403 : Index := 3#32
  let c2_i32_105 : BitVec 32 := 2#32
  let c0_i32_85 : BitVec 32 := 0#32
  let c1_i32_87 : BitVec 32 := 1#32
  let arg10 : BitVec 32 := Scf.iv c0_i32_85 c1_i32_87 k0_t1
  let v120 : BitVec 32 := Scalar.muli c2_i32_105 arg10
  let c1_i32_353 : BitVec 32 := 1#32
  let v393 : BitVec 32 := Scalar.addi v120 c1_i32_353
  let v465 : Index := Scalar.indexCast v393
  let c0_404 : Index := 0#32
  let c0_405 : Index := 0#32
  ![0, 3, v465.toNat, 0, 0]
def k0_off17 (i : grid0.Coords) (k0_t1 : Fin (k0_t1_loop i).trips) : Fin 5 → Nat :=
  let c0_417 : Index := 0#32
  let c4_418 : Index := 4#32
  let c2_i32_105 : BitVec 32 := 2#32
  let c0_i32_85 : BitVec 32 := 0#32
  let c1_i32_87 : BitVec 32 := 1#32
  let arg10 : BitVec 32 := Scf.iv c0_i32_85 c1_i32_87 k0_t1
  let v120 : BitVec 32 := Scalar.muli c2_i32_105 arg10
  let c1_i32_353 : BitVec 32 := 1#32
  let v393 : BitVec 32 := Scalar.addi v120 c1_i32_353
  let v488 : Index := Scalar.indexCast v393
  let c0_419 : Index := 0#32
  let c0_420 : Index := 0#32
  ![0, 4, v488.toNat, 0, 0]
def k0_off18 (i : grid0.Coords) (k0_t1 : Fin (k0_t1_loop i).trips) : Fin 5 → Nat :=
  let c0_432 : Index := 0#32
  let c5_433 : Index := 5#32
  let c2_i32_105 : BitVec 32 := 2#32
  let c0_i32_85 : BitVec 32 := 0#32
  let c1_i32_87 : BitVec 32 := 1#32
  let arg10 : BitVec 32 := Scf.iv c0_i32_85 c1_i32_87 k0_t1
  let v120 : BitVec 32 := Scalar.muli c2_i32_105 arg10
  let c1_i32_353 : BitVec 32 := 1#32
  let v393 : BitVec 32 := Scalar.addi v120 c1_i32_353
  let v511 : Index := Scalar.indexCast v393
  let c0_434 : Index := 0#32
  let c0_435 : Index := 0#32
  ![0, 5, v511.toNat, 0, 0]
@[reducible] def k0_t2_loop (i : grid0.Coords) : Scf.Loop 32 :=
  let c0_i32_85 : BitVec 32 := 0#32
  let arg2 : BitVec 32 := BitVec.ofNat 32 (i 2).val
  let c0_i32_80 : BitVec 32 := 0#32
  let v71 : BitVec 1 := Scalar.cmpi .sgt arg2 c0_i32_80
  let v72 : BitVec 32 := Scalar.extui v71
  let c0_i32_81 : BitVec 32 := 0#32
  let v73 : BitVec 1 := Scalar.cmpi .slt arg2 c0_i32_81
  let v74 : BitVec 32 := Scalar.extui v73
  let v75 : BitVec 32 := Scalar.subi v72 v74
  let c2_i32 : BitVec 32 := 2#32
  let c0_i32_82 : BitVec 32 := 0#32
  let v76 : BitVec 1 := Scalar.cmpi .sgt c2_i32 c0_i32_82
  let v77 : BitVec 32 := Scalar.extui v76
  let c0_i32_83 : BitVec 32 := 0#32
  let v78 : BitVec 1 := Scalar.cmpi .slt c2_i32 c0_i32_83
  let v79 : BitVec 32 := Scalar.extui v78
  let v80 : BitVec 32 := Scalar.subi v77 v79
  let v81 : BitVec 1 := Scalar.cmpi .ne v75 v80
  let v82 : BitVec 32 := Scalar.remsi arg2 c2_i32
  let c0_i32_84 : BitVec 32 := 0#32
  let v83 : BitVec 1 := Scalar.cmpi .ne v82 c0_i32_84
  let v84 : BitVec 1 := Scalar.andi v81 v83
  let v70 : BitVec 32 := Scalar.divsi arg2 c2_i32
  let c1_i32 : BitVec 32 := 1#32
  let v85 : BitVec 32 := Scalar.subi v70 c1_i32
  let v86 : BitVec 32 := Scalar.select v84 v85 v70
  let v87 : BitVec 32 := Scalar.subi v86 c0_i32_85
  let c1_i32_86 : BitVec 32 := 1#32
  let v89 : BitVec 32 := Scalar.divsi v87 c1_i32_86
  let v90 : BitVec 32 := Scalar.muli v89 c1_i32_86
  let v91 : BitVec 32 := Scalar.addi c0_i32_85 v90
  let v88 : BitVec 32 := Scalar.addi c0_i32_85 v87
  let c1_i32_88 : BitVec 32 := 1#32
  ⟨v91, v88, c1_i32_88⟩
def k0_mult19 (i : grid0.Coords) (k0_t2 : Fin (k0_t2_loop i).trips) : BitVec 32 :=
  let c2_i32_105 : BitVec 32 := 2#32
  let c0_i32_85 : BitVec 32 := 0#32
  let arg2 : BitVec 32 := BitVec.ofNat 32 (i 2).val
  let c0_i32_80 : BitVec 32 := 0#32
  let v71 : BitVec 1 := Scalar.cmpi .sgt arg2 c0_i32_80
  let v72 : BitVec 32 := Scalar.extui v71
  let c0_i32_81 : BitVec 32 := 0#32
  let v73 : BitVec 1 := Scalar.cmpi .slt arg2 c0_i32_81
  let v74 : BitVec 32 := Scalar.extui v73
  let v75 : BitVec 32 := Scalar.subi v72 v74
  let c2_i32 : BitVec 32 := 2#32
  let c0_i32_82 : BitVec 32 := 0#32
  let v76 : BitVec 1 := Scalar.cmpi .sgt c2_i32 c0_i32_82
  let v77 : BitVec 32 := Scalar.extui v76
  let c0_i32_83 : BitVec 32 := 0#32
  let v78 : BitVec 1 := Scalar.cmpi .slt c2_i32 c0_i32_83
  let v79 : BitVec 32 := Scalar.extui v78
  let v80 : BitVec 32 := Scalar.subi v77 v79
  let v81 : BitVec 1 := Scalar.cmpi .ne v75 v80
  let v82 : BitVec 32 := Scalar.remsi arg2 c2_i32
  let c0_i32_84 : BitVec 32 := 0#32
  let v83 : BitVec 1 := Scalar.cmpi .ne v82 c0_i32_84
  let v84 : BitVec 1 := Scalar.andi v81 v83
  let v70 : BitVec 32 := Scalar.divsi arg2 c2_i32
  let c1_i32 : BitVec 32 := 1#32
  let v85 : BitVec 32 := Scalar.subi v70 c1_i32
  let v86 : BitVec 32 := Scalar.select v84 v85 v70
  let v87 : BitVec 32 := Scalar.subi v86 c0_i32_85
  let c1_i32_86 : BitVec 32 := 1#32
  let v89 : BitVec 32 := Scalar.divsi v87 c1_i32_86
  let v90 : BitVec 32 := Scalar.muli v89 c1_i32_86
  let v91 : BitVec 32 := Scalar.addi c0_i32_85 v90
  let c1_i32_88 : BitVec 32 := 1#32
  let arg10 : BitVec 32 := Scf.iv v91 c1_i32_88 k0_t2
  let v120 : BitVec 32 := Scalar.muli c2_i32_105 arg10
  let c1_i32_106 : BitVec 32 := 1#32
  let v121 : BitVec 32 := Scalar.addi v120 c1_i32_106
  let c256_i32 : BitVec 32 := 256#32
  let v122 : BitVec 32 := Scalar.muli v121 c256_i32
  v122
def k0_off19 (i : grid0.Coords) (k0_t2 : Fin (k0_t2_loop i).trips) (c1_i32_106 : BitVec 32) : Fin 4 → Nat :=
  let c0_107 : Index := 0#32
  let c0_108 : Index := 0#32
  let c2_i32_105 : BitVec 32 := 2#32
  let c0_i32_85 : BitVec 32 := 0#32
  let arg2 : BitVec 32 := BitVec.ofNat 32 (i 2).val
  let c0_i32_80 : BitVec 32 := 0#32
  let v71 : BitVec 1 := Scalar.cmpi .sgt arg2 c0_i32_80
  let v72 : BitVec 32 := Scalar.extui v71
  let c0_i32_81 : BitVec 32 := 0#32
  let v73 : BitVec 1 := Scalar.cmpi .slt arg2 c0_i32_81
  let v74 : BitVec 32 := Scalar.extui v73
  let v75 : BitVec 32 := Scalar.subi v72 v74
  let c2_i32 : BitVec 32 := 2#32
  let c0_i32_82 : BitVec 32 := 0#32
  let v76 : BitVec 1 := Scalar.cmpi .sgt c2_i32 c0_i32_82
  let v77 : BitVec 32 := Scalar.extui v76
  let c0_i32_83 : BitVec 32 := 0#32
  let v78 : BitVec 1 := Scalar.cmpi .slt c2_i32 c0_i32_83
  let v79 : BitVec 32 := Scalar.extui v78
  let v80 : BitVec 32 := Scalar.subi v77 v79
  let v81 : BitVec 1 := Scalar.cmpi .ne v75 v80
  let v82 : BitVec 32 := Scalar.remsi arg2 c2_i32
  let c0_i32_84 : BitVec 32 := 0#32
  let v83 : BitVec 1 := Scalar.cmpi .ne v82 c0_i32_84
  let v84 : BitVec 1 := Scalar.andi v81 v83
  let v70 : BitVec 32 := Scalar.divsi arg2 c2_i32
  let c1_i32 : BitVec 32 := 1#32
  let v85 : BitVec 32 := Scalar.subi v70 c1_i32
  let v86 : BitVec 32 := Scalar.select v84 v85 v70
  let v87 : BitVec 32 := Scalar.subi v86 c0_i32_85
  let c1_i32_86 : BitVec 32 := 1#32
  let v89 : BitVec 32 := Scalar.divsi v87 c1_i32_86
  let v90 : BitVec 32 := Scalar.muli v89 c1_i32_86
  let v91 : BitVec 32 := Scalar.addi c0_i32_85 v90
  let c1_i32_88 : BitVec 32 := 1#32
  let arg10 : BitVec 32 := Scf.iv v91 c1_i32_88 k0_t2
  let v120 : BitVec 32 := Scalar.muli c2_i32_105 arg10
  let v121 : BitVec 32 := Scalar.addi v120 c1_i32_106
  let c256_i32 : BitVec 32 := 256#32
  let v122 : BitVec 32 := Scalar.muli v121 c256_i32
  let v123 : BitVec 32 := v122
  let v124 : Index := Scalar.indexCast v123
  let c0_109 : Index := 0#32
  ![0, 0, v124.toNat, 0]
def k0_mult20 (i : grid0.Coords) (k0_t2 : Fin (k0_t2_loop i).trips) : BitVec 32 :=
  let c2_i32_105 : BitVec 32 := 2#32
  let c0_i32_85 : BitVec 32 := 0#32
  let arg2 : BitVec 32 := BitVec.ofNat 32 (i 2).val
  let c0_i32_80 : BitVec 32 := 0#32
  let v71 : BitVec 1 := Scalar.cmpi .sgt arg2 c0_i32_80
  let v72 : BitVec 32 := Scalar.extui v71
  let c0_i32_81 : BitVec 32 := 0#32
  let v73 : BitVec 1 := Scalar.cmpi .slt arg2 c0_i32_81
  let v74 : BitVec 32 := Scalar.extui v73
  let v75 : BitVec 32 := Scalar.subi v72 v74
  let c2_i32 : BitVec 32 := 2#32
  let c0_i32_82 : BitVec 32 := 0#32
  let v76 : BitVec 1 := Scalar.cmpi .sgt c2_i32 c0_i32_82
  let v77 : BitVec 32 := Scalar.extui v76
  let c0_i32_83 : BitVec 32 := 0#32
  let v78 : BitVec 1 := Scalar.cmpi .slt c2_i32 c0_i32_83
  let v79 : BitVec 32 := Scalar.extui v78
  let v80 : BitVec 32 := Scalar.subi v77 v79
  let v81 : BitVec 1 := Scalar.cmpi .ne v75 v80
  let v82 : BitVec 32 := Scalar.remsi arg2 c2_i32
  let c0_i32_84 : BitVec 32 := 0#32
  let v83 : BitVec 1 := Scalar.cmpi .ne v82 c0_i32_84
  let v84 : BitVec 1 := Scalar.andi v81 v83
  let v70 : BitVec 32 := Scalar.divsi arg2 c2_i32
  let c1_i32 : BitVec 32 := 1#32
  let v85 : BitVec 32 := Scalar.subi v70 c1_i32
  let v86 : BitVec 32 := Scalar.select v84 v85 v70
  let v87 : BitVec 32 := Scalar.subi v86 c0_i32_85
  let c1_i32_86 : BitVec 32 := 1#32
  let v89 : BitVec 32 := Scalar.divsi v87 c1_i32_86
  let v90 : BitVec 32 := Scalar.muli v89 c1_i32_86
  let v91 : BitVec 32 := Scalar.addi c0_i32_85 v90
  let c1_i32_88 : BitVec 32 := 1#32
  let arg10 : BitVec 32 := Scf.iv v91 c1_i32_88 k0_t2
  let v120 : BitVec 32 := Scalar.muli c2_i32_105 arg10
  let c1_i32_106 : BitVec 32 := 1#32
  let v121 : BitVec 32 := Scalar.addi v120 c1_i32_106
  let c256_i32_119 : BitVec 32 := 256#32
  let v133 : BitVec 32 := Scalar.muli v121 c256_i32_119
  v133
def k0_off20 (i : grid0.Coords) (k0_t2 : Fin (k0_t2_loop i).trips) (c1_i32_106 : BitVec 32) : Fin 4 → Nat :=
  let c0_120 : Index := 0#32
  let c1_121 : Index := 1#32
  let c2_i32_105 : BitVec 32 := 2#32
  let c0_i32_85 : BitVec 32 := 0#32
  let arg2 : BitVec 32 := BitVec.ofNat 32 (i 2).val
  let c0_i32_80 : BitVec 32 := 0#32
  let v71 : BitVec 1 := Scalar.cmpi .sgt arg2 c0_i32_80
  let v72 : BitVec 32 := Scalar.extui v71
  let c0_i32_81 : BitVec 32 := 0#32
  let v73 : BitVec 1 := Scalar.cmpi .slt arg2 c0_i32_81
  let v74 : BitVec 32 := Scalar.extui v73
  let v75 : BitVec 32 := Scalar.subi v72 v74
  let c2_i32 : BitVec 32 := 2#32
  let c0_i32_82 : BitVec 32 := 0#32
  let v76 : BitVec 1 := Scalar.cmpi .sgt c2_i32 c0_i32_82
  let v77 : BitVec 32 := Scalar.extui v76
  let c0_i32_83 : BitVec 32 := 0#32
  let v78 : BitVec 1 := Scalar.cmpi .slt c2_i32 c0_i32_83
  let v79 : BitVec 32 := Scalar.extui v78
  let v80 : BitVec 32 := Scalar.subi v77 v79
  let v81 : BitVec 1 := Scalar.cmpi .ne v75 v80
  let v82 : BitVec 32 := Scalar.remsi arg2 c2_i32
  let c0_i32_84 : BitVec 32 := 0#32
  let v83 : BitVec 1 := Scalar.cmpi .ne v82 c0_i32_84
  let v84 : BitVec 1 := Scalar.andi v81 v83
  let v70 : BitVec 32 := Scalar.divsi arg2 c2_i32
  let c1_i32 : BitVec 32 := 1#32
  let v85 : BitVec 32 := Scalar.subi v70 c1_i32
  let v86 : BitVec 32 := Scalar.select v84 v85 v70
  let v87 : BitVec 32 := Scalar.subi v86 c0_i32_85
  let c1_i32_86 : BitVec 32 := 1#32
  let v89 : BitVec 32 := Scalar.divsi v87 c1_i32_86
  let v90 : BitVec 32 := Scalar.muli v89 c1_i32_86
  let v91 : BitVec 32 := Scalar.addi c0_i32_85 v90
  let c1_i32_88 : BitVec 32 := 1#32
  let arg10 : BitVec 32 := Scf.iv v91 c1_i32_88 k0_t2
  let v120 : BitVec 32 := Scalar.muli c2_i32_105 arg10
  let v121 : BitVec 32 := Scalar.addi v120 c1_i32_106
  let c256_i32_119 : BitVec 32 := 256#32
  let v133 : BitVec 32 := Scalar.muli v121 c256_i32_119
  let v134 : BitVec 32 := v133
  let v135 : Index := Scalar.indexCast v134
  let c0_122 : Index := 0#32
  ![0, 1, v135.toNat, 0]
def k0_mult21 (i : grid0.Coords) (k0_t2 : Fin (k0_t2_loop i).trips) : BitVec 32 :=
  let c2_i32_105 : BitVec 32 := 2#32
  let c0_i32_85 : BitVec 32 := 0#32
  let arg2 : BitVec 32 := BitVec.ofNat 32 (i 2).val
  let c0_i32_80 : BitVec 32 := 0#32
  let v71 : BitVec 1 := Scalar.cmpi .sgt arg2 c0_i32_80
  let v72 : BitVec 32 := Scalar.extui v71
  let c0_i32_81 : BitVec 32 := 0#32
  let v73 : BitVec 1 := Scalar.cmpi .slt arg2 c0_i32_81
  let v74 : BitVec 32 := Scalar.extui v73
  let v75 : BitVec 32 := Scalar.subi v72 v74
  let c2_i32 : BitVec 32 := 2#32
  let c0_i32_82 : BitVec 32 := 0#32
  let v76 : BitVec 1 := Scalar.cmpi .sgt c2_i32 c0_i32_82
  let v77 : BitVec 32 := Scalar.extui v76
  let c0_i32_83 : BitVec 32 := 0#32
  let v78 : BitVec 1 := Scalar.cmpi .slt c2_i32 c0_i32_83
  let v79 : BitVec 32 := Scalar.extui v78
  let v80 : BitVec 32 := Scalar.subi v77 v79
  let v81 : BitVec 1 := Scalar.cmpi .ne v75 v80
  let v82 : BitVec 32 := Scalar.remsi arg2 c2_i32
  let c0_i32_84 : BitVec 32 := 0#32
  let v83 : BitVec 1 := Scalar.cmpi .ne v82 c0_i32_84
  let v84 : BitVec 1 := Scalar.andi v81 v83
  let v70 : BitVec 32 := Scalar.divsi arg2 c2_i32
  let c1_i32 : BitVec 32 := 1#32
  let v85 : BitVec 32 := Scalar.subi v70 c1_i32
  let v86 : BitVec 32 := Scalar.select v84 v85 v70
  let v87 : BitVec 32 := Scalar.subi v86 c0_i32_85
  let c1_i32_86 : BitVec 32 := 1#32
  let v89 : BitVec 32 := Scalar.divsi v87 c1_i32_86
  let v90 : BitVec 32 := Scalar.muli v89 c1_i32_86
  let v91 : BitVec 32 := Scalar.addi c0_i32_85 v90
  let c1_i32_88 : BitVec 32 := 1#32
  let arg10 : BitVec 32 := Scf.iv v91 c1_i32_88 k0_t2
  let v120 : BitVec 32 := Scalar.muli c2_i32_105 arg10
  let c1_i32_106 : BitVec 32 := 1#32
  let v121 : BitVec 32 := Scalar.addi v120 c1_i32_106
  let c256_i32_132 : BitVec 32 := 256#32
  let v144 : BitVec 32 := Scalar.muli v121 c256_i32_132
  v144
def k0_off21 (i : grid0.Coords) (k0_t2 : Fin (k0_t2_loop i).trips) (c1_i32_106 : BitVec 32) : Fin 4 → Nat :=
  let c0_133 : Index := 0#32
  let c2_134 : Index := 2#32
  let c2_i32_105 : BitVec 32 := 2#32
  let c0_i32_85 : BitVec 32 := 0#32
  let arg2 : BitVec 32 := BitVec.ofNat 32 (i 2).val
  let c0_i32_80 : BitVec 32 := 0#32
  let v71 : BitVec 1 := Scalar.cmpi .sgt arg2 c0_i32_80
  let v72 : BitVec 32 := Scalar.extui v71
  let c0_i32_81 : BitVec 32 := 0#32
  let v73 : BitVec 1 := Scalar.cmpi .slt arg2 c0_i32_81
  let v74 : BitVec 32 := Scalar.extui v73
  let v75 : BitVec 32 := Scalar.subi v72 v74
  let c2_i32 : BitVec 32 := 2#32
  let c0_i32_82 : BitVec 32 := 0#32
  let v76 : BitVec 1 := Scalar.cmpi .sgt c2_i32 c0_i32_82
  let v77 : BitVec 32 := Scalar.extui v76
  let c0_i32_83 : BitVec 32 := 0#32
  let v78 : BitVec 1 := Scalar.cmpi .slt c2_i32 c0_i32_83
  let v79 : BitVec 32 := Scalar.extui v78
  let v80 : BitVec 32 := Scalar.subi v77 v79
  let v81 : BitVec 1 := Scalar.cmpi .ne v75 v80
  let v82 : BitVec 32 := Scalar.remsi arg2 c2_i32
  let c0_i32_84 : BitVec 32 := 0#32
  let v83 : BitVec 1 := Scalar.cmpi .ne v82 c0_i32_84
  let v84 : BitVec 1 := Scalar.andi v81 v83
  let v70 : BitVec 32 := Scalar.divsi arg2 c2_i32
  let c1_i32 : BitVec 32 := 1#32
  let v85 : BitVec 32 := Scalar.subi v70 c1_i32
  let v86 : BitVec 32 := Scalar.select v84 v85 v70
  let v87 : BitVec 32 := Scalar.subi v86 c0_i32_85
  let c1_i32_86 : BitVec 32 := 1#32
  let v89 : BitVec 32 := Scalar.divsi v87 c1_i32_86
  let v90 : BitVec 32 := Scalar.muli v89 c1_i32_86
  let v91 : BitVec 32 := Scalar.addi c0_i32_85 v90
  let c1_i32_88 : BitVec 32 := 1#32
  let arg10 : BitVec 32 := Scf.iv v91 c1_i32_88 k0_t2
  let v120 : BitVec 32 := Scalar.muli c2_i32_105 arg10
  let v121 : BitVec 32 := Scalar.addi v120 c1_i32_106
  let c256_i32_132 : BitVec 32 := 256#32
  let v144 : BitVec 32 := Scalar.muli v121 c256_i32_132
  let v145 : BitVec 32 := v144
  let v146 : Index := Scalar.indexCast v145
  let c0_135 : Index := 0#32
  ![0, 2, v146.toNat, 0]
def k0_mult22 (i : grid0.Coords) (k0_t2 : Fin (k0_t2_loop i).trips) : BitVec 32 :=
  let c2_i32_105 : BitVec 32 := 2#32
  let c0_i32_85 : BitVec 32 := 0#32
  let arg2 : BitVec 32 := BitVec.ofNat 32 (i 2).val
  let c0_i32_80 : BitVec 32 := 0#32
  let v71 : BitVec 1 := Scalar.cmpi .sgt arg2 c0_i32_80
  let v72 : BitVec 32 := Scalar.extui v71
  let c0_i32_81 : BitVec 32 := 0#32
  let v73 : BitVec 1 := Scalar.cmpi .slt arg2 c0_i32_81
  let v74 : BitVec 32 := Scalar.extui v73
  let v75 : BitVec 32 := Scalar.subi v72 v74
  let c2_i32 : BitVec 32 := 2#32
  let c0_i32_82 : BitVec 32 := 0#32
  let v76 : BitVec 1 := Scalar.cmpi .sgt c2_i32 c0_i32_82
  let v77 : BitVec 32 := Scalar.extui v76
  let c0_i32_83 : BitVec 32 := 0#32
  let v78 : BitVec 1 := Scalar.cmpi .slt c2_i32 c0_i32_83
  let v79 : BitVec 32 := Scalar.extui v78
  let v80 : BitVec 32 := Scalar.subi v77 v79
  let v81 : BitVec 1 := Scalar.cmpi .ne v75 v80
  let v82 : BitVec 32 := Scalar.remsi arg2 c2_i32
  let c0_i32_84 : BitVec 32 := 0#32
  let v83 : BitVec 1 := Scalar.cmpi .ne v82 c0_i32_84
  let v84 : BitVec 1 := Scalar.andi v81 v83
  let v70 : BitVec 32 := Scalar.divsi arg2 c2_i32
  let c1_i32 : BitVec 32 := 1#32
  let v85 : BitVec 32 := Scalar.subi v70 c1_i32
  let v86 : BitVec 32 := Scalar.select v84 v85 v70
  let v87 : BitVec 32 := Scalar.subi v86 c0_i32_85
  let c1_i32_86 : BitVec 32 := 1#32
  let v89 : BitVec 32 := Scalar.divsi v87 c1_i32_86
  let v90 : BitVec 32 := Scalar.muli v89 c1_i32_86
  let v91 : BitVec 32 := Scalar.addi c0_i32_85 v90
  let c1_i32_88 : BitVec 32 := 1#32
  let arg10 : BitVec 32 := Scf.iv v91 c1_i32_88 k0_t2
  let v120 : BitVec 32 := Scalar.muli c2_i32_105 arg10
  let c1_i32_106 : BitVec 32 := 1#32
  let v121 : BitVec 32 := Scalar.addi v120 c1_i32_106
  let c256_i32_145 : BitVec 32 := 256#32
  let v155 : BitVec 32 := Scalar.muli v121 c256_i32_145
  v155
def k0_off22 (i : grid0.Coords) (k0_t2 : Fin (k0_t2_loop i).trips) (c1_i32_106 : BitVec 32) : Fin 4 → Nat :=
  let c0_146 : Index := 0#32
  let c3_147 : Index := 3#32
  let c2_i32_105 : BitVec 32 := 2#32
  let c0_i32_85 : BitVec 32 := 0#32
  let arg2 : BitVec 32 := BitVec.ofNat 32 (i 2).val
  let c0_i32_80 : BitVec 32 := 0#32
  let v71 : BitVec 1 := Scalar.cmpi .sgt arg2 c0_i32_80
  let v72 : BitVec 32 := Scalar.extui v71
  let c0_i32_81 : BitVec 32 := 0#32
  let v73 : BitVec 1 := Scalar.cmpi .slt arg2 c0_i32_81
  let v74 : BitVec 32 := Scalar.extui v73
  let v75 : BitVec 32 := Scalar.subi v72 v74
  let c2_i32 : BitVec 32 := 2#32
  let c0_i32_82 : BitVec 32 := 0#32
  let v76 : BitVec 1 := Scalar.cmpi .sgt c2_i32 c0_i32_82
  let v77 : BitVec 32 := Scalar.extui v76
  let c0_i32_83 : BitVec 32 := 0#32
  let v78 : BitVec 1 := Scalar.cmpi .slt c2_i32 c0_i32_83
  let v79 : BitVec 32 := Scalar.extui v78
  let v80 : BitVec 32 := Scalar.subi v77 v79
  let v81 : BitVec 1 := Scalar.cmpi .ne v75 v80
  let v82 : BitVec 32 := Scalar.remsi arg2 c2_i32
  let c0_i32_84 : BitVec 32 := 0#32
  let v83 : BitVec 1 := Scalar.cmpi .ne v82 c0_i32_84
  let v84 : BitVec 1 := Scalar.andi v81 v83
  let v70 : BitVec 32 := Scalar.divsi arg2 c2_i32
  let c1_i32 : BitVec 32 := 1#32
  let v85 : BitVec 32 := Scalar.subi v70 c1_i32
  let v86 : BitVec 32 := Scalar.select v84 v85 v70
  let v87 : BitVec 32 := Scalar.subi v86 c0_i32_85
  let c1_i32_86 : BitVec 32 := 1#32
  let v89 : BitVec 32 := Scalar.divsi v87 c1_i32_86
  let v90 : BitVec 32 := Scalar.muli v89 c1_i32_86
  let v91 : BitVec 32 := Scalar.addi c0_i32_85 v90
  let c1_i32_88 : BitVec 32 := 1#32
  let arg10 : BitVec 32 := Scf.iv v91 c1_i32_88 k0_t2
  let v120 : BitVec 32 := Scalar.muli c2_i32_105 arg10
  let v121 : BitVec 32 := Scalar.addi v120 c1_i32_106
  let c256_i32_145 : BitVec 32 := 256#32
  let v155 : BitVec 32 := Scalar.muli v121 c256_i32_145
  let v156 : BitVec 32 := v155
  let v157 : Index := Scalar.indexCast v156
  let c0_148 : Index := 0#32
  ![0, 3, v157.toNat, 0]
def k0_mult23 (i : grid0.Coords) (k0_t2 : Fin (k0_t2_loop i).trips) : BitVec 32 :=
  let c2_i32_105 : BitVec 32 := 2#32
  let c0_i32_85 : BitVec 32 := 0#32
  let arg2 : BitVec 32 := BitVec.ofNat 32 (i 2).val
  let c0_i32_80 : BitVec 32 := 0#32
  let v71 : BitVec 1 := Scalar.cmpi .sgt arg2 c0_i32_80
  let v72 : BitVec 32 := Scalar.extui v71
  let c0_i32_81 : BitVec 32 := 0#32
  let v73 : BitVec 1 := Scalar.cmpi .slt arg2 c0_i32_81
  let v74 : BitVec 32 := Scalar.extui v73
  let v75 : BitVec 32 := Scalar.subi v72 v74
  let c2_i32 : BitVec 32 := 2#32
  let c0_i32_82 : BitVec 32 := 0#32
  let v76 : BitVec 1 := Scalar.cmpi .sgt c2_i32 c0_i32_82
  let v77 : BitVec 32 := Scalar.extui v76
  let c0_i32_83 : BitVec 32 := 0#32
  let v78 : BitVec 1 := Scalar.cmpi .slt c2_i32 c0_i32_83
  let v79 : BitVec 32 := Scalar.extui v78
  let v80 : BitVec 32 := Scalar.subi v77 v79
  let v81 : BitVec 1 := Scalar.cmpi .ne v75 v80
  let v82 : BitVec 32 := Scalar.remsi arg2 c2_i32
  let c0_i32_84 : BitVec 32 := 0#32
  let v83 : BitVec 1 := Scalar.cmpi .ne v82 c0_i32_84
  let v84 : BitVec 1 := Scalar.andi v81 v83
  let v70 : BitVec 32 := Scalar.divsi arg2 c2_i32
  let c1_i32 : BitVec 32 := 1#32
  let v85 : BitVec 32 := Scalar.subi v70 c1_i32
  let v86 : BitVec 32 := Scalar.select v84 v85 v70
  let v87 : BitVec 32 := Scalar.subi v86 c0_i32_85
  let c1_i32_86 : BitVec 32 := 1#32
  let v89 : BitVec 32 := Scalar.divsi v87 c1_i32_86
  let v90 : BitVec 32 := Scalar.muli v89 c1_i32_86
  let v91 : BitVec 32 := Scalar.addi c0_i32_85 v90
  let c1_i32_88 : BitVec 32 := 1#32
  let arg10 : BitVec 32 := Scf.iv v91 c1_i32_88 k0_t2
  let v120 : BitVec 32 := Scalar.muli c2_i32_105 arg10
  let c1_i32_106 : BitVec 32 := 1#32
  let v121 : BitVec 32 := Scalar.addi v120 c1_i32_106
  let c256_i32_158 : BitVec 32 := 256#32
  let v166 : BitVec 32 := Scalar.muli v121 c256_i32_158
  v166
def k0_off23 (i : grid0.Coords) (k0_t2 : Fin (k0_t2_loop i).trips) (c1_i32_106 : BitVec 32) : Fin 4 → Nat :=
  let c0_159 : Index := 0#32
  let c4_160 : Index := 4#32
  let c2_i32_105 : BitVec 32 := 2#32
  let c0_i32_85 : BitVec 32 := 0#32
  let arg2 : BitVec 32 := BitVec.ofNat 32 (i 2).val
  let c0_i32_80 : BitVec 32 := 0#32
  let v71 : BitVec 1 := Scalar.cmpi .sgt arg2 c0_i32_80
  let v72 : BitVec 32 := Scalar.extui v71
  let c0_i32_81 : BitVec 32 := 0#32
  let v73 : BitVec 1 := Scalar.cmpi .slt arg2 c0_i32_81
  let v74 : BitVec 32 := Scalar.extui v73
  let v75 : BitVec 32 := Scalar.subi v72 v74
  let c2_i32 : BitVec 32 := 2#32
  let c0_i32_82 : BitVec 32 := 0#32
  let v76 : BitVec 1 := Scalar.cmpi .sgt c2_i32 c0_i32_82
  let v77 : BitVec 32 := Scalar.extui v76
  let c0_i32_83 : BitVec 32 := 0#32
  let v78 : BitVec 1 := Scalar.cmpi .slt c2_i32 c0_i32_83
  let v79 : BitVec 32 := Scalar.extui v78
  let v80 : BitVec 32 := Scalar.subi v77 v79
  let v81 : BitVec 1 := Scalar.cmpi .ne v75 v80
  let v82 : BitVec 32 := Scalar.remsi arg2 c2_i32
  let c0_i32_84 : BitVec 32 := 0#32
  let v83 : BitVec 1 := Scalar.cmpi .ne v82 c0_i32_84
  let v84 : BitVec 1 := Scalar.andi v81 v83
  let v70 : BitVec 32 := Scalar.divsi arg2 c2_i32
  let c1_i32 : BitVec 32 := 1#32
  let v85 : BitVec 32 := Scalar.subi v70 c1_i32
  let v86 : BitVec 32 := Scalar.select v84 v85 v70
  let v87 : BitVec 32 := Scalar.subi v86 c0_i32_85
  let c1_i32_86 : BitVec 32 := 1#32
  let v89 : BitVec 32 := Scalar.divsi v87 c1_i32_86
  let v90 : BitVec 32 := Scalar.muli v89 c1_i32_86
  let v91 : BitVec 32 := Scalar.addi c0_i32_85 v90
  let c1_i32_88 : BitVec 32 := 1#32
  let arg10 : BitVec 32 := Scf.iv v91 c1_i32_88 k0_t2
  let v120 : BitVec 32 := Scalar.muli c2_i32_105 arg10
  let v121 : BitVec 32 := Scalar.addi v120 c1_i32_106
  let c256_i32_158 : BitVec 32 := 256#32
  let v166 : BitVec 32 := Scalar.muli v121 c256_i32_158
  let v167 : BitVec 32 := v166
  let v168 : Index := Scalar.indexCast v167
  let c0_161 : Index := 0#32
  ![0, 4, v168.toNat, 0]
def k0_mult24 (i : grid0.Coords) (k0_t2 : Fin (k0_t2_loop i).trips) : BitVec 32 :=
  let c2_i32_105 : BitVec 32 := 2#32
  let c0_i32_85 : BitVec 32 := 0#32
  let arg2 : BitVec 32 := BitVec.ofNat 32 (i 2).val
  let c0_i32_80 : BitVec 32 := 0#32
  let v71 : BitVec 1 := Scalar.cmpi .sgt arg2 c0_i32_80
  let v72 : BitVec 32 := Scalar.extui v71
  let c0_i32_81 : BitVec 32 := 0#32
  let v73 : BitVec 1 := Scalar.cmpi .slt arg2 c0_i32_81
  let v74 : BitVec 32 := Scalar.extui v73
  let v75 : BitVec 32 := Scalar.subi v72 v74
  let c2_i32 : BitVec 32 := 2#32
  let c0_i32_82 : BitVec 32 := 0#32
  let v76 : BitVec 1 := Scalar.cmpi .sgt c2_i32 c0_i32_82
  let v77 : BitVec 32 := Scalar.extui v76
  let c0_i32_83 : BitVec 32 := 0#32
  let v78 : BitVec 1 := Scalar.cmpi .slt c2_i32 c0_i32_83
  let v79 : BitVec 32 := Scalar.extui v78
  let v80 : BitVec 32 := Scalar.subi v77 v79
  let v81 : BitVec 1 := Scalar.cmpi .ne v75 v80
  let v82 : BitVec 32 := Scalar.remsi arg2 c2_i32
  let c0_i32_84 : BitVec 32 := 0#32
  let v83 : BitVec 1 := Scalar.cmpi .ne v82 c0_i32_84
  let v84 : BitVec 1 := Scalar.andi v81 v83
  let v70 : BitVec 32 := Scalar.divsi arg2 c2_i32
  let c1_i32 : BitVec 32 := 1#32
  let v85 : BitVec 32 := Scalar.subi v70 c1_i32
  let v86 : BitVec 32 := Scalar.select v84 v85 v70
  let v87 : BitVec 32 := Scalar.subi v86 c0_i32_85
  let c1_i32_86 : BitVec 32 := 1#32
  let v89 : BitVec 32 := Scalar.divsi v87 c1_i32_86
  let v90 : BitVec 32 := Scalar.muli v89 c1_i32_86
  let v91 : BitVec 32 := Scalar.addi c0_i32_85 v90
  let c1_i32_88 : BitVec 32 := 1#32
  let arg10 : BitVec 32 := Scf.iv v91 c1_i32_88 k0_t2
  let v120 : BitVec 32 := Scalar.muli c2_i32_105 arg10
  let c1_i32_106 : BitVec 32 := 1#32
  let v121 : BitVec 32 := Scalar.addi v120 c1_i32_106
  let c256_i32_171 : BitVec 32 := 256#32
  let v177 : BitVec 32 := Scalar.muli v121 c256_i32_171
  v177
def k0_off24 (i : grid0.Coords) (k0_t2 : Fin (k0_t2_loop i).trips) (c1_i32_106 : BitVec 32) : Fin 4 → Nat :=
  let c0_172 : Index := 0#32
  let c5_173 : Index := 5#32
  let c2_i32_105 : BitVec 32 := 2#32
  let c0_i32_85 : BitVec 32 := 0#32
  let arg2 : BitVec 32 := BitVec.ofNat 32 (i 2).val
  let c0_i32_80 : BitVec 32 := 0#32
  let v71 : BitVec 1 := Scalar.cmpi .sgt arg2 c0_i32_80
  let v72 : BitVec 32 := Scalar.extui v71
  let c0_i32_81 : BitVec 32 := 0#32
  let v73 : BitVec 1 := Scalar.cmpi .slt arg2 c0_i32_81
  let v74 : BitVec 32 := Scalar.extui v73
  let v75 : BitVec 32 := Scalar.subi v72 v74
  let c2_i32 : BitVec 32 := 2#32
  let c0_i32_82 : BitVec 32 := 0#32
  let v76 : BitVec 1 := Scalar.cmpi .sgt c2_i32 c0_i32_82
  let v77 : BitVec 32 := Scalar.extui v76
  let c0_i32_83 : BitVec 32 := 0#32
  let v78 : BitVec 1 := Scalar.cmpi .slt c2_i32 c0_i32_83
  let v79 : BitVec 32 := Scalar.extui v78
  let v80 : BitVec 32 := Scalar.subi v77 v79
  let v81 : BitVec 1 := Scalar.cmpi .ne v75 v80
  let v82 : BitVec 32 := Scalar.remsi arg2 c2_i32
  let c0_i32_84 : BitVec 32 := 0#32
  let v83 : BitVec 1 := Scalar.cmpi .ne v82 c0_i32_84
  let v84 : BitVec 1 := Scalar.andi v81 v83
  let v70 : BitVec 32 := Scalar.divsi arg2 c2_i32
  let c1_i32 : BitVec 32 := 1#32
  let v85 : BitVec 32 := Scalar.subi v70 c1_i32
  let v86 : BitVec 32 := Scalar.select v84 v85 v70
  let v87 : BitVec 32 := Scalar.subi v86 c0_i32_85
  let c1_i32_86 : BitVec 32 := 1#32
  let v89 : BitVec 32 := Scalar.divsi v87 c1_i32_86
  let v90 : BitVec 32 := Scalar.muli v89 c1_i32_86
  let v91 : BitVec 32 := Scalar.addi c0_i32_85 v90
  let c1_i32_88 : BitVec 32 := 1#32
  let arg10 : BitVec 32 := Scf.iv v91 c1_i32_88 k0_t2
  let v120 : BitVec 32 := Scalar.muli c2_i32_105 arg10
  let v121 : BitVec 32 := Scalar.addi v120 c1_i32_106
  let c256_i32_171 : BitVec 32 := 256#32
  let v177 : BitVec 32 := Scalar.muli v121 c256_i32_171
  let v178 : BitVec 32 := v177
  let v179 : Index := Scalar.indexCast v178
  let c0_174 : Index := 0#32
  ![0, 5, v179.toNat, 0]
def k0_off25 (i : grid0.Coords) (k0_t2 : Fin (k0_t2_loop i).trips) : Fin 5 → Nat :=
  let c0_187 : Index := 0#32
  let c0_188 : Index := 0#32
  let c2_i32_105 : BitVec 32 := 2#32
  let c0_i32_85 : BitVec 32 := 0#32
  let arg2 : BitVec 32 := BitVec.ofNat 32 (i 2).val
  let c0_i32_80 : BitVec 32 := 0#32
  let v71 : BitVec 1 := Scalar.cmpi .sgt arg2 c0_i32_80
  let v72 : BitVec 32 := Scalar.extui v71
  let c0_i32_81 : BitVec 32 := 0#32
  let v73 : BitVec 1 := Scalar.cmpi .slt arg2 c0_i32_81
  let v74 : BitVec 32 := Scalar.extui v73
  let v75 : BitVec 32 := Scalar.subi v72 v74
  let c2_i32 : BitVec 32 := 2#32
  let c0_i32_82 : BitVec 32 := 0#32
  let v76 : BitVec 1 := Scalar.cmpi .sgt c2_i32 c0_i32_82
  let v77 : BitVec 32 := Scalar.extui v76
  let c0_i32_83 : BitVec 32 := 0#32
  let v78 : BitVec 1 := Scalar.cmpi .slt c2_i32 c0_i32_83
  let v79 : BitVec 32 := Scalar.extui v78
  let v80 : BitVec 32 := Scalar.subi v77 v79
  let v81 : BitVec 1 := Scalar.cmpi .ne v75 v80
  let v82 : BitVec 32 := Scalar.remsi arg2 c2_i32
  let c0_i32_84 : BitVec 32 := 0#32
  let v83 : BitVec 1 := Scalar.cmpi .ne v82 c0_i32_84
  let v84 : BitVec 1 := Scalar.andi v81 v83
  let v70 : BitVec 32 := Scalar.divsi arg2 c2_i32
  let c1_i32 : BitVec 32 := 1#32
  let v85 : BitVec 32 := Scalar.subi v70 c1_i32
  let v86 : BitVec 32 := Scalar.select v84 v85 v70
  let v87 : BitVec 32 := Scalar.subi v86 c0_i32_85
  let c1_i32_86 : BitVec 32 := 1#32
  let v89 : BitVec 32 := Scalar.divsi v87 c1_i32_86
  let v90 : BitVec 32 := Scalar.muli v89 c1_i32_86
  let v91 : BitVec 32 := Scalar.addi c0_i32_85 v90
  let c1_i32_88 : BitVec 32 := 1#32
  let arg10 : BitVec 32 := Scf.iv v91 c1_i32_88 k0_t2
  let v120 : BitVec 32 := Scalar.muli c2_i32_105 arg10
  let v190 : Index := Scalar.indexCast v120
  let c0_189 : Index := 0#32
  let c0_190 : Index := 0#32
  ![0, 0, v190.toNat, 0, 0]
def k0_off26 (i : grid0.Coords) (k0_t2 : Fin (k0_t2_loop i).trips) : Fin 5 → Nat :=
  let c0_202 : Index := 0#32
  let c1_203 : Index := 1#32
  let c2_i32_105 : BitVec 32 := 2#32
  let c0_i32_85 : BitVec 32 := 0#32
  let arg2 : BitVec 32 := BitVec.ofNat 32 (i 2).val
  let c0_i32_80 : BitVec 32 := 0#32
  let v71 : BitVec 1 := Scalar.cmpi .sgt arg2 c0_i32_80
  let v72 : BitVec 32 := Scalar.extui v71
  let c0_i32_81 : BitVec 32 := 0#32
  let v73 : BitVec 1 := Scalar.cmpi .slt arg2 c0_i32_81
  let v74 : BitVec 32 := Scalar.extui v73
  let v75 : BitVec 32 := Scalar.subi v72 v74
  let c2_i32 : BitVec 32 := 2#32
  let c0_i32_82 : BitVec 32 := 0#32
  let v76 : BitVec 1 := Scalar.cmpi .sgt c2_i32 c0_i32_82
  let v77 : BitVec 32 := Scalar.extui v76
  let c0_i32_83 : BitVec 32 := 0#32
  let v78 : BitVec 1 := Scalar.cmpi .slt c2_i32 c0_i32_83
  let v79 : BitVec 32 := Scalar.extui v78
  let v80 : BitVec 32 := Scalar.subi v77 v79
  let v81 : BitVec 1 := Scalar.cmpi .ne v75 v80
  let v82 : BitVec 32 := Scalar.remsi arg2 c2_i32
  let c0_i32_84 : BitVec 32 := 0#32
  let v83 : BitVec 1 := Scalar.cmpi .ne v82 c0_i32_84
  let v84 : BitVec 1 := Scalar.andi v81 v83
  let v70 : BitVec 32 := Scalar.divsi arg2 c2_i32
  let c1_i32 : BitVec 32 := 1#32
  let v85 : BitVec 32 := Scalar.subi v70 c1_i32
  let v86 : BitVec 32 := Scalar.select v84 v85 v70
  let v87 : BitVec 32 := Scalar.subi v86 c0_i32_85
  let c1_i32_86 : BitVec 32 := 1#32
  let v89 : BitVec 32 := Scalar.divsi v87 c1_i32_86
  let v90 : BitVec 32 := Scalar.muli v89 c1_i32_86
  let v91 : BitVec 32 := Scalar.addi c0_i32_85 v90
  let c1_i32_88 : BitVec 32 := 1#32
  let arg10 : BitVec 32 := Scf.iv v91 c1_i32_88 k0_t2
  let v120 : BitVec 32 := Scalar.muli c2_i32_105 arg10
  let v213 : Index := Scalar.indexCast v120
  let c0_204 : Index := 0#32
  let c0_205 : Index := 0#32
  ![0, 1, v213.toNat, 0, 0]
def k0_off27 (i : grid0.Coords) (k0_t2 : Fin (k0_t2_loop i).trips) : Fin 5 → Nat :=
  let c0_217 : Index := 0#32
  let c2_218 : Index := 2#32
  let c2_i32_105 : BitVec 32 := 2#32
  let c0_i32_85 : BitVec 32 := 0#32
  let arg2 : BitVec 32 := BitVec.ofNat 32 (i 2).val
  let c0_i32_80 : BitVec 32 := 0#32
  let v71 : BitVec 1 := Scalar.cmpi .sgt arg2 c0_i32_80
  let v72 : BitVec 32 := Scalar.extui v71
  let c0_i32_81 : BitVec 32 := 0#32
  let v73 : BitVec 1 := Scalar.cmpi .slt arg2 c0_i32_81
  let v74 : BitVec 32 := Scalar.extui v73
  let v75 : BitVec 32 := Scalar.subi v72 v74
  let c2_i32 : BitVec 32 := 2#32
  let c0_i32_82 : BitVec 32 := 0#32
  let v76 : BitVec 1 := Scalar.cmpi .sgt c2_i32 c0_i32_82
  let v77 : BitVec 32 := Scalar.extui v76
  let c0_i32_83 : BitVec 32 := 0#32
  let v78 : BitVec 1 := Scalar.cmpi .slt c2_i32 c0_i32_83
  let v79 : BitVec 32 := Scalar.extui v78
  let v80 : BitVec 32 := Scalar.subi v77 v79
  let v81 : BitVec 1 := Scalar.cmpi .ne v75 v80
  let v82 : BitVec 32 := Scalar.remsi arg2 c2_i32
  let c0_i32_84 : BitVec 32 := 0#32
  let v83 : BitVec 1 := Scalar.cmpi .ne v82 c0_i32_84
  let v84 : BitVec 1 := Scalar.andi v81 v83
  let v70 : BitVec 32 := Scalar.divsi arg2 c2_i32
  let c1_i32 : BitVec 32 := 1#32
  let v85 : BitVec 32 := Scalar.subi v70 c1_i32
  let v86 : BitVec 32 := Scalar.select v84 v85 v70
  let v87 : BitVec 32 := Scalar.subi v86 c0_i32_85
  let c1_i32_86 : BitVec 32 := 1#32
  let v89 : BitVec 32 := Scalar.divsi v87 c1_i32_86
  let v90 : BitVec 32 := Scalar.muli v89 c1_i32_86
  let v91 : BitVec 32 := Scalar.addi c0_i32_85 v90
  let c1_i32_88 : BitVec 32 := 1#32
  let arg10 : BitVec 32 := Scf.iv v91 c1_i32_88 k0_t2
  let v120 : BitVec 32 := Scalar.muli c2_i32_105 arg10
  let v236 : Index := Scalar.indexCast v120
  let c0_219 : Index := 0#32
  let c0_220 : Index := 0#32
  ![0, 2, v236.toNat, 0, 0]
def k0_off28 (i : grid0.Coords) (k0_t2 : Fin (k0_t2_loop i).trips) : Fin 5 → Nat :=
  let c0_232 : Index := 0#32
  let c3_233 : Index := 3#32
  let c2_i32_105 : BitVec 32 := 2#32
  let c0_i32_85 : BitVec 32 := 0#32
  let arg2 : BitVec 32 := BitVec.ofNat 32 (i 2).val
  let c0_i32_80 : BitVec 32 := 0#32
  let v71 : BitVec 1 := Scalar.cmpi .sgt arg2 c0_i32_80
  let v72 : BitVec 32 := Scalar.extui v71
  let c0_i32_81 : BitVec 32 := 0#32
  let v73 : BitVec 1 := Scalar.cmpi .slt arg2 c0_i32_81
  let v74 : BitVec 32 := Scalar.extui v73
  let v75 : BitVec 32 := Scalar.subi v72 v74
  let c2_i32 : BitVec 32 := 2#32
  let c0_i32_82 : BitVec 32 := 0#32
  let v76 : BitVec 1 := Scalar.cmpi .sgt c2_i32 c0_i32_82
  let v77 : BitVec 32 := Scalar.extui v76
  let c0_i32_83 : BitVec 32 := 0#32
  let v78 : BitVec 1 := Scalar.cmpi .slt c2_i32 c0_i32_83
  let v79 : BitVec 32 := Scalar.extui v78
  let v80 : BitVec 32 := Scalar.subi v77 v79
  let v81 : BitVec 1 := Scalar.cmpi .ne v75 v80
  let v82 : BitVec 32 := Scalar.remsi arg2 c2_i32
  let c0_i32_84 : BitVec 32 := 0#32
  let v83 : BitVec 1 := Scalar.cmpi .ne v82 c0_i32_84
  let v84 : BitVec 1 := Scalar.andi v81 v83
  let v70 : BitVec 32 := Scalar.divsi arg2 c2_i32
  let c1_i32 : BitVec 32 := 1#32
  let v85 : BitVec 32 := Scalar.subi v70 c1_i32
  let v86 : BitVec 32 := Scalar.select v84 v85 v70
  let v87 : BitVec 32 := Scalar.subi v86 c0_i32_85
  let c1_i32_86 : BitVec 32 := 1#32
  let v89 : BitVec 32 := Scalar.divsi v87 c1_i32_86
  let v90 : BitVec 32 := Scalar.muli v89 c1_i32_86
  let v91 : BitVec 32 := Scalar.addi c0_i32_85 v90
  let c1_i32_88 : BitVec 32 := 1#32
  let arg10 : BitVec 32 := Scf.iv v91 c1_i32_88 k0_t2
  let v120 : BitVec 32 := Scalar.muli c2_i32_105 arg10
  let v259 : Index := Scalar.indexCast v120
  let c0_234 : Index := 0#32
  let c0_235 : Index := 0#32
  ![0, 3, v259.toNat, 0, 0]
def k0_off29 (i : grid0.Coords) (k0_t2 : Fin (k0_t2_loop i).trips) : Fin 5 → Nat :=
  let c0_247 : Index := 0#32
  let c4_248 : Index := 4#32
  let c2_i32_105 : BitVec 32 := 2#32
  let c0_i32_85 : BitVec 32 := 0#32
  let arg2 : BitVec 32 := BitVec.ofNat 32 (i 2).val
  let c0_i32_80 : BitVec 32 := 0#32
  let v71 : BitVec 1 := Scalar.cmpi .sgt arg2 c0_i32_80
  let v72 : BitVec 32 := Scalar.extui v71
  let c0_i32_81 : BitVec 32 := 0#32
  let v73 : BitVec 1 := Scalar.cmpi .slt arg2 c0_i32_81
  let v74 : BitVec 32 := Scalar.extui v73
  let v75 : BitVec 32 := Scalar.subi v72 v74
  let c2_i32 : BitVec 32 := 2#32
  let c0_i32_82 : BitVec 32 := 0#32
  let v76 : BitVec 1 := Scalar.cmpi .sgt c2_i32 c0_i32_82
  let v77 : BitVec 32 := Scalar.extui v76
  let c0_i32_83 : BitVec 32 := 0#32
  let v78 : BitVec 1 := Scalar.cmpi .slt c2_i32 c0_i32_83
  let v79 : BitVec 32 := Scalar.extui v78
  let v80 : BitVec 32 := Scalar.subi v77 v79
  let v81 : BitVec 1 := Scalar.cmpi .ne v75 v80
  let v82 : BitVec 32 := Scalar.remsi arg2 c2_i32
  let c0_i32_84 : BitVec 32 := 0#32
  let v83 : BitVec 1 := Scalar.cmpi .ne v82 c0_i32_84
  let v84 : BitVec 1 := Scalar.andi v81 v83
  let v70 : BitVec 32 := Scalar.divsi arg2 c2_i32
  let c1_i32 : BitVec 32 := 1#32
  let v85 : BitVec 32 := Scalar.subi v70 c1_i32
  let v86 : BitVec 32 := Scalar.select v84 v85 v70
  let v87 : BitVec 32 := Scalar.subi v86 c0_i32_85
  let c1_i32_86 : BitVec 32 := 1#32
  let v89 : BitVec 32 := Scalar.divsi v87 c1_i32_86
  let v90 : BitVec 32 := Scalar.muli v89 c1_i32_86
  let v91 : BitVec 32 := Scalar.addi c0_i32_85 v90
  let c1_i32_88 : BitVec 32 := 1#32
  let arg10 : BitVec 32 := Scf.iv v91 c1_i32_88 k0_t2
  let v120 : BitVec 32 := Scalar.muli c2_i32_105 arg10
  let v282 : Index := Scalar.indexCast v120
  let c0_249 : Index := 0#32
  let c0_250 : Index := 0#32
  ![0, 4, v282.toNat, 0, 0]
def k0_off30 (i : grid0.Coords) (k0_t2 : Fin (k0_t2_loop i).trips) : Fin 5 → Nat :=
  let c0_262 : Index := 0#32
  let c5_263 : Index := 5#32
  let c2_i32_105 : BitVec 32 := 2#32
  let c0_i32_85 : BitVec 32 := 0#32
  let arg2 : BitVec 32 := BitVec.ofNat 32 (i 2).val
  let c0_i32_80 : BitVec 32 := 0#32
  let v71 : BitVec 1 := Scalar.cmpi .sgt arg2 c0_i32_80
  let v72 : BitVec 32 := Scalar.extui v71
  let c0_i32_81 : BitVec 32 := 0#32
  let v73 : BitVec 1 := Scalar.cmpi .slt arg2 c0_i32_81
  let v74 : BitVec 32 := Scalar.extui v73
  let v75 : BitVec 32 := Scalar.subi v72 v74
  let c2_i32 : BitVec 32 := 2#32
  let c0_i32_82 : BitVec 32 := 0#32
  let v76 : BitVec 1 := Scalar.cmpi .sgt c2_i32 c0_i32_82
  let v77 : BitVec 32 := Scalar.extui v76
  let c0_i32_83 : BitVec 32 := 0#32
  let v78 : BitVec 1 := Scalar.cmpi .slt c2_i32 c0_i32_83
  let v79 : BitVec 32 := Scalar.extui v78
  let v80 : BitVec 32 := Scalar.subi v77 v79
  let v81 : BitVec 1 := Scalar.cmpi .ne v75 v80
  let v82 : BitVec 32 := Scalar.remsi arg2 c2_i32
  let c0_i32_84 : BitVec 32 := 0#32
  let v83 : BitVec 1 := Scalar.cmpi .ne v82 c0_i32_84
  let v84 : BitVec 1 := Scalar.andi v81 v83
  let v70 : BitVec 32 := Scalar.divsi arg2 c2_i32
  let c1_i32 : BitVec 32 := 1#32
  let v85 : BitVec 32 := Scalar.subi v70 c1_i32
  let v86 : BitVec 32 := Scalar.select v84 v85 v70
  let v87 : BitVec 32 := Scalar.subi v86 c0_i32_85
  let c1_i32_86 : BitVec 32 := 1#32
  let v89 : BitVec 32 := Scalar.divsi v87 c1_i32_86
  let v90 : BitVec 32 := Scalar.muli v89 c1_i32_86
  let v91 : BitVec 32 := Scalar.addi c0_i32_85 v90
  let c1_i32_88 : BitVec 32 := 1#32
  let arg10 : BitVec 32 := Scf.iv v91 c1_i32_88 k0_t2
  let v120 : BitVec 32 := Scalar.muli c2_i32_105 arg10
  let v305 : Index := Scalar.indexCast v120
  let c0_264 : Index := 0#32
  let c0_265 : Index := 0#32
  ![0, 5, v305.toNat, 0, 0]
def k0_mult25 (i : grid0.Coords) (k0_t2 : Fin (k0_t2_loop i).trips) : BitVec 32 :=
  let c2_i32_105 : BitVec 32 := 2#32
  let c0_i32_85 : BitVec 32 := 0#32
  let arg2 : BitVec 32 := BitVec.ofNat 32 (i 2).val
  let c0_i32_80 : BitVec 32 := 0#32
  let v71 : BitVec 1 := Scalar.cmpi .sgt arg2 c0_i32_80
  let v72 : BitVec 32 := Scalar.extui v71
  let c0_i32_81 : BitVec 32 := 0#32
  let v73 : BitVec 1 := Scalar.cmpi .slt arg2 c0_i32_81
  let v74 : BitVec 32 := Scalar.extui v73
  let v75 : BitVec 32 := Scalar.subi v72 v74
  let c2_i32 : BitVec 32 := 2#32
  let c0_i32_82 : BitVec 32 := 0#32
  let v76 : BitVec 1 := Scalar.cmpi .sgt c2_i32 c0_i32_82
  let v77 : BitVec 32 := Scalar.extui v76
  let c0_i32_83 : BitVec 32 := 0#32
  let v78 : BitVec 1 := Scalar.cmpi .slt c2_i32 c0_i32_83
  let v79 : BitVec 32 := Scalar.extui v78
  let v80 : BitVec 32 := Scalar.subi v77 v79
  let v81 : BitVec 1 := Scalar.cmpi .ne v75 v80
  let v82 : BitVec 32 := Scalar.remsi arg2 c2_i32
  let c0_i32_84 : BitVec 32 := 0#32
  let v83 : BitVec 1 := Scalar.cmpi .ne v82 c0_i32_84
  let v84 : BitVec 1 := Scalar.andi v81 v83
  let v70 : BitVec 32 := Scalar.divsi arg2 c2_i32
  let c1_i32 : BitVec 32 := 1#32
  let v85 : BitVec 32 := Scalar.subi v70 c1_i32
  let v86 : BitVec 32 := Scalar.select v84 v85 v70
  let v87 : BitVec 32 := Scalar.subi v86 c0_i32_85
  let c1_i32_86 : BitVec 32 := 1#32
  let v89 : BitVec 32 := Scalar.divsi v87 c1_i32_86
  let v90 : BitVec 32 := Scalar.muli v89 c1_i32_86
  let v91 : BitVec 32 := Scalar.addi c0_i32_85 v90
  let c1_i32_88 : BitVec 32 := 1#32
  let arg10 : BitVec 32 := Scf.iv v91 c1_i32_88 k0_t2
  let v120 : BitVec 32 := Scalar.muli c2_i32_105 arg10
  let c2_i32_274 : BitVec 32 := 2#32
  let v326 : BitVec 32 := Scalar.addi v120 c2_i32_274
  let c256_i32_275 : BitVec 32 := 256#32
  let v327 : BitVec 32 := Scalar.muli v326 c256_i32_275
  v327
def k0_mult26 (i : grid0.Coords) (k0_t2 : Fin (k0_t2_loop i).trips) : BitVec 32 :=
  let c2_i32_105 : BitVec 32 := 2#32
  let c0_i32_85 : BitVec 32 := 0#32
  let arg2 : BitVec 32 := BitVec.ofNat 32 (i 2).val
  let c0_i32_80 : BitVec 32 := 0#32
  let v71 : BitVec 1 := Scalar.cmpi .sgt arg2 c0_i32_80
  let v72 : BitVec 32 := Scalar.extui v71
  let c0_i32_81 : BitVec 32 := 0#32
  let v73 : BitVec 1 := Scalar.cmpi .slt arg2 c0_i32_81
  let v74 : BitVec 32 := Scalar.extui v73
  let v75 : BitVec 32 := Scalar.subi v72 v74
  let c2_i32 : BitVec 32 := 2#32
  let c0_i32_82 : BitVec 32 := 0#32
  let v76 : BitVec 1 := Scalar.cmpi .sgt c2_i32 c0_i32_82
  let v77 : BitVec 32 := Scalar.extui v76
  let c0_i32_83 : BitVec 32 := 0#32
  let v78 : BitVec 1 := Scalar.cmpi .slt c2_i32 c0_i32_83
  let v79 : BitVec 32 := Scalar.extui v78
  let v80 : BitVec 32 := Scalar.subi v77 v79
  let v81 : BitVec 1 := Scalar.cmpi .ne v75 v80
  let v82 : BitVec 32 := Scalar.remsi arg2 c2_i32
  let c0_i32_84 : BitVec 32 := 0#32
  let v83 : BitVec 1 := Scalar.cmpi .ne v82 c0_i32_84
  let v84 : BitVec 1 := Scalar.andi v81 v83
  let v70 : BitVec 32 := Scalar.divsi arg2 c2_i32
  let c1_i32 : BitVec 32 := 1#32
  let v85 : BitVec 32 := Scalar.subi v70 c1_i32
  let v86 : BitVec 32 := Scalar.select v84 v85 v70
  let v87 : BitVec 32 := Scalar.subi v86 c0_i32_85
  let c1_i32_86 : BitVec 32 := 1#32
  let v89 : BitVec 32 := Scalar.divsi v87 c1_i32_86
  let v90 : BitVec 32 := Scalar.muli v89 c1_i32_86
  let v91 : BitVec 32 := Scalar.addi c0_i32_85 v90
  let c1_i32_88 : BitVec 32 := 1#32
  let arg10 : BitVec 32 := Scf.iv v91 c1_i32_88 k0_t2
  let v120 : BitVec 32 := Scalar.muli c2_i32_105 arg10
  let c2_i32_274 : BitVec 32 := 2#32
  let v326 : BitVec 32 := Scalar.addi v120 c2_i32_274
  let c256_i32_288 : BitVec 32 := 256#32
  let v338 : BitVec 32 := Scalar.muli v326 c256_i32_288
  v338
def k0_mult27 (i : grid0.Coords) (k0_t2 : Fin (k0_t2_loop i).trips) : BitVec 32 :=
  let c2_i32_105 : BitVec 32 := 2#32
  let c0_i32_85 : BitVec 32 := 0#32
  let arg2 : BitVec 32 := BitVec.ofNat 32 (i 2).val
  let c0_i32_80 : BitVec 32 := 0#32
  let v71 : BitVec 1 := Scalar.cmpi .sgt arg2 c0_i32_80
  let v72 : BitVec 32 := Scalar.extui v71
  let c0_i32_81 : BitVec 32 := 0#32
  let v73 : BitVec 1 := Scalar.cmpi .slt arg2 c0_i32_81
  let v74 : BitVec 32 := Scalar.extui v73
  let v75 : BitVec 32 := Scalar.subi v72 v74
  let c2_i32 : BitVec 32 := 2#32
  let c0_i32_82 : BitVec 32 := 0#32
  let v76 : BitVec 1 := Scalar.cmpi .sgt c2_i32 c0_i32_82
  let v77 : BitVec 32 := Scalar.extui v76
  let c0_i32_83 : BitVec 32 := 0#32
  let v78 : BitVec 1 := Scalar.cmpi .slt c2_i32 c0_i32_83
  let v79 : BitVec 32 := Scalar.extui v78
  let v80 : BitVec 32 := Scalar.subi v77 v79
  let v81 : BitVec 1 := Scalar.cmpi .ne v75 v80
  let v82 : BitVec 32 := Scalar.remsi arg2 c2_i32
  let c0_i32_84 : BitVec 32 := 0#32
  let v83 : BitVec 1 := Scalar.cmpi .ne v82 c0_i32_84
  let v84 : BitVec 1 := Scalar.andi v81 v83
  let v70 : BitVec 32 := Scalar.divsi arg2 c2_i32
  let c1_i32 : BitVec 32 := 1#32
  let v85 : BitVec 32 := Scalar.subi v70 c1_i32
  let v86 : BitVec 32 := Scalar.select v84 v85 v70
  let v87 : BitVec 32 := Scalar.subi v86 c0_i32_85
  let c1_i32_86 : BitVec 32 := 1#32
  let v89 : BitVec 32 := Scalar.divsi v87 c1_i32_86
  let v90 : BitVec 32 := Scalar.muli v89 c1_i32_86
  let v91 : BitVec 32 := Scalar.addi c0_i32_85 v90
  let c1_i32_88 : BitVec 32 := 1#32
  let arg10 : BitVec 32 := Scf.iv v91 c1_i32_88 k0_t2
  let v120 : BitVec 32 := Scalar.muli c2_i32_105 arg10
  let c2_i32_274 : BitVec 32 := 2#32
  let v326 : BitVec 32 := Scalar.addi v120 c2_i32_274
  let c256_i32_301 : BitVec 32 := 256#32
  let v349 : BitVec 32 := Scalar.muli v326 c256_i32_301
  v349
def k0_mult28 (i : grid0.Coords) (k0_t2 : Fin (k0_t2_loop i).trips) : BitVec 32 :=
  let c2_i32_105 : BitVec 32 := 2#32
  let c0_i32_85 : BitVec 32 := 0#32
  let arg2 : BitVec 32 := BitVec.ofNat 32 (i 2).val
  let c0_i32_80 : BitVec 32 := 0#32
  let v71 : BitVec 1 := Scalar.cmpi .sgt arg2 c0_i32_80
  let v72 : BitVec 32 := Scalar.extui v71
  let c0_i32_81 : BitVec 32 := 0#32
  let v73 : BitVec 1 := Scalar.cmpi .slt arg2 c0_i32_81
  let v74 : BitVec 32 := Scalar.extui v73
  let v75 : BitVec 32 := Scalar.subi v72 v74
  let c2_i32 : BitVec 32 := 2#32
  let c0_i32_82 : BitVec 32 := 0#32
  let v76 : BitVec 1 := Scalar.cmpi .sgt c2_i32 c0_i32_82
  let v77 : BitVec 32 := Scalar.extui v76
  let c0_i32_83 : BitVec 32 := 0#32
  let v78 : BitVec 1 := Scalar.cmpi .slt c2_i32 c0_i32_83
  let v79 : BitVec 32 := Scalar.extui v78
  let v80 : BitVec 32 := Scalar.subi v77 v79
  let v81 : BitVec 1 := Scalar.cmpi .ne v75 v80
  let v82 : BitVec 32 := Scalar.remsi arg2 c2_i32
  let c0_i32_84 : BitVec 32 := 0#32
  let v83 : BitVec 1 := Scalar.cmpi .ne v82 c0_i32_84
  let v84 : BitVec 1 := Scalar.andi v81 v83
  let v70 : BitVec 32 := Scalar.divsi arg2 c2_i32
  let c1_i32 : BitVec 32 := 1#32
  let v85 : BitVec 32 := Scalar.subi v70 c1_i32
  let v86 : BitVec 32 := Scalar.select v84 v85 v70
  let v87 : BitVec 32 := Scalar.subi v86 c0_i32_85
  let c1_i32_86 : BitVec 32 := 1#32
  let v89 : BitVec 32 := Scalar.divsi v87 c1_i32_86
  let v90 : BitVec 32 := Scalar.muli v89 c1_i32_86
  let v91 : BitVec 32 := Scalar.addi c0_i32_85 v90
  let c1_i32_88 : BitVec 32 := 1#32
  let arg10 : BitVec 32 := Scf.iv v91 c1_i32_88 k0_t2
  let v120 : BitVec 32 := Scalar.muli c2_i32_105 arg10
  let c2_i32_274 : BitVec 32 := 2#32
  let v326 : BitVec 32 := Scalar.addi v120 c2_i32_274
  let c256_i32_314 : BitVec 32 := 256#32
  let v360 : BitVec 32 := Scalar.muli v326 c256_i32_314
  v360
def k0_mult29 (i : grid0.Coords) (k0_t2 : Fin (k0_t2_loop i).trips) : BitVec 32 :=
  let c2_i32_105 : BitVec 32 := 2#32
  let c0_i32_85 : BitVec 32 := 0#32
  let arg2 : BitVec 32 := BitVec.ofNat 32 (i 2).val
  let c0_i32_80 : BitVec 32 := 0#32
  let v71 : BitVec 1 := Scalar.cmpi .sgt arg2 c0_i32_80
  let v72 : BitVec 32 := Scalar.extui v71
  let c0_i32_81 : BitVec 32 := 0#32
  let v73 : BitVec 1 := Scalar.cmpi .slt arg2 c0_i32_81
  let v74 : BitVec 32 := Scalar.extui v73
  let v75 : BitVec 32 := Scalar.subi v72 v74
  let c2_i32 : BitVec 32 := 2#32
  let c0_i32_82 : BitVec 32 := 0#32
  let v76 : BitVec 1 := Scalar.cmpi .sgt c2_i32 c0_i32_82
  let v77 : BitVec 32 := Scalar.extui v76
  let c0_i32_83 : BitVec 32 := 0#32
  let v78 : BitVec 1 := Scalar.cmpi .slt c2_i32 c0_i32_83
  let v79 : BitVec 32 := Scalar.extui v78
  let v80 : BitVec 32 := Scalar.subi v77 v79
  let v81 : BitVec 1 := Scalar.cmpi .ne v75 v80
  let v82 : BitVec 32 := Scalar.remsi arg2 c2_i32
  let c0_i32_84 : BitVec 32 := 0#32
  let v83 : BitVec 1 := Scalar.cmpi .ne v82 c0_i32_84
  let v84 : BitVec 1 := Scalar.andi v81 v83
  let v70 : BitVec 32 := Scalar.divsi arg2 c2_i32
  let c1_i32 : BitVec 32 := 1#32
  let v85 : BitVec 32 := Scalar.subi v70 c1_i32
  let v86 : BitVec 32 := Scalar.select v84 v85 v70
  let v87 : BitVec 32 := Scalar.subi v86 c0_i32_85
  let c1_i32_86 : BitVec 32 := 1#32
  let v89 : BitVec 32 := Scalar.divsi v87 c1_i32_86
  let v90 : BitVec 32 := Scalar.muli v89 c1_i32_86
  let v91 : BitVec 32 := Scalar.addi c0_i32_85 v90
  let c1_i32_88 : BitVec 32 := 1#32
  let arg10 : BitVec 32 := Scf.iv v91 c1_i32_88 k0_t2
  let v120 : BitVec 32 := Scalar.muli c2_i32_105 arg10
  let c2_i32_274 : BitVec 32 := 2#32
  let v326 : BitVec 32 := Scalar.addi v120 c2_i32_274
  let c256_i32_327 : BitVec 32 := 256#32
  let v371 : BitVec 32 := Scalar.muli v326 c256_i32_327
  v371
def k0_mult30 (i : grid0.Coords) (k0_t2 : Fin (k0_t2_loop i).trips) : BitVec 32 :=
  let c2_i32_105 : BitVec 32 := 2#32
  let c0_i32_85 : BitVec 32 := 0#32
  let arg2 : BitVec 32 := BitVec.ofNat 32 (i 2).val
  let c0_i32_80 : BitVec 32 := 0#32
  let v71 : BitVec 1 := Scalar.cmpi .sgt arg2 c0_i32_80
  let v72 : BitVec 32 := Scalar.extui v71
  let c0_i32_81 : BitVec 32 := 0#32
  let v73 : BitVec 1 := Scalar.cmpi .slt arg2 c0_i32_81
  let v74 : BitVec 32 := Scalar.extui v73
  let v75 : BitVec 32 := Scalar.subi v72 v74
  let c2_i32 : BitVec 32 := 2#32
  let c0_i32_82 : BitVec 32 := 0#32
  let v76 : BitVec 1 := Scalar.cmpi .sgt c2_i32 c0_i32_82
  let v77 : BitVec 32 := Scalar.extui v76
  let c0_i32_83 : BitVec 32 := 0#32
  let v78 : BitVec 1 := Scalar.cmpi .slt c2_i32 c0_i32_83
  let v79 : BitVec 32 := Scalar.extui v78
  let v80 : BitVec 32 := Scalar.subi v77 v79
  let v81 : BitVec 1 := Scalar.cmpi .ne v75 v80
  let v82 : BitVec 32 := Scalar.remsi arg2 c2_i32
  let c0_i32_84 : BitVec 32 := 0#32
  let v83 : BitVec 1 := Scalar.cmpi .ne v82 c0_i32_84
  let v84 : BitVec 1 := Scalar.andi v81 v83
  let v70 : BitVec 32 := Scalar.divsi arg2 c2_i32
  let c1_i32 : BitVec 32 := 1#32
  let v85 : BitVec 32 := Scalar.subi v70 c1_i32
  let v86 : BitVec 32 := Scalar.select v84 v85 v70
  let v87 : BitVec 32 := Scalar.subi v86 c0_i32_85
  let c1_i32_86 : BitVec 32 := 1#32
  let v89 : BitVec 32 := Scalar.divsi v87 c1_i32_86
  let v90 : BitVec 32 := Scalar.muli v89 c1_i32_86
  let v91 : BitVec 32 := Scalar.addi c0_i32_85 v90
  let c1_i32_88 : BitVec 32 := 1#32
  let arg10 : BitVec 32 := Scf.iv v91 c1_i32_88 k0_t2
  let v120 : BitVec 32 := Scalar.muli c2_i32_105 arg10
  let c2_i32_274 : BitVec 32 := 2#32
  let v326 : BitVec 32 := Scalar.addi v120 c2_i32_274
  let c256_i32_340 : BitVec 32 := 256#32
  let v382 : BitVec 32 := Scalar.muli v326 c256_i32_340
  v382
def k0_off31 (i : grid0.Coords) (k0_t2 : Fin (k0_t2_loop i).trips) : Fin 5 → Nat :=
  let c0_357 : Index := 0#32
  let c0_358 : Index := 0#32
  let c2_i32_105 : BitVec 32 := 2#32
  let c0_i32_85 : BitVec 32 := 0#32
  let arg2 : BitVec 32 := BitVec.ofNat 32 (i 2).val
  let c0_i32_80 : BitVec 32 := 0#32
  let v71 : BitVec 1 := Scalar.cmpi .sgt arg2 c0_i32_80
  let v72 : BitVec 32 := Scalar.extui v71
  let c0_i32_81 : BitVec 32 := 0#32
  let v73 : BitVec 1 := Scalar.cmpi .slt arg2 c0_i32_81
  let v74 : BitVec 32 := Scalar.extui v73
  let v75 : BitVec 32 := Scalar.subi v72 v74
  let c2_i32 : BitVec 32 := 2#32
  let c0_i32_82 : BitVec 32 := 0#32
  let v76 : BitVec 1 := Scalar.cmpi .sgt c2_i32 c0_i32_82
  let v77 : BitVec 32 := Scalar.extui v76
  let c0_i32_83 : BitVec 32 := 0#32
  let v78 : BitVec 1 := Scalar.cmpi .slt c2_i32 c0_i32_83
  let v79 : BitVec 32 := Scalar.extui v78
  let v80 : BitVec 32 := Scalar.subi v77 v79
  let v81 : BitVec 1 := Scalar.cmpi .ne v75 v80
  let v82 : BitVec 32 := Scalar.remsi arg2 c2_i32
  let c0_i32_84 : BitVec 32 := 0#32
  let v83 : BitVec 1 := Scalar.cmpi .ne v82 c0_i32_84
  let v84 : BitVec 1 := Scalar.andi v81 v83
  let v70 : BitVec 32 := Scalar.divsi arg2 c2_i32
  let c1_i32 : BitVec 32 := 1#32
  let v85 : BitVec 32 := Scalar.subi v70 c1_i32
  let v86 : BitVec 32 := Scalar.select v84 v85 v70
  let v87 : BitVec 32 := Scalar.subi v86 c0_i32_85
  let c1_i32_86 : BitVec 32 := 1#32
  let v89 : BitVec 32 := Scalar.divsi v87 c1_i32_86
  let v90 : BitVec 32 := Scalar.muli v89 c1_i32_86
  let v91 : BitVec 32 := Scalar.addi c0_i32_85 v90
  let c1_i32_88 : BitVec 32 := 1#32
  let arg10 : BitVec 32 := Scf.iv v91 c1_i32_88 k0_t2
  let v120 : BitVec 32 := Scalar.muli c2_i32_105 arg10
  let c1_i32_353 : BitVec 32 := 1#32
  let v393 : BitVec 32 := Scalar.addi v120 c1_i32_353
  let v396 : Index := Scalar.indexCast v393
  let c0_359 : Index := 0#32
  let c0_360 : Index := 0#32
  ![0, 0, v396.toNat, 0, 0]
def k0_off32 (i : grid0.Coords) (k0_t2 : Fin (k0_t2_loop i).trips) : Fin 5 → Nat :=
  let c0_372 : Index := 0#32
  let c1_373 : Index := 1#32
  let c2_i32_105 : BitVec 32 := 2#32
  let c0_i32_85 : BitVec 32 := 0#32
  let arg2 : BitVec 32 := BitVec.ofNat 32 (i 2).val
  let c0_i32_80 : BitVec 32 := 0#32
  let v71 : BitVec 1 := Scalar.cmpi .sgt arg2 c0_i32_80
  let v72 : BitVec 32 := Scalar.extui v71
  let c0_i32_81 : BitVec 32 := 0#32
  let v73 : BitVec 1 := Scalar.cmpi .slt arg2 c0_i32_81
  let v74 : BitVec 32 := Scalar.extui v73
  let v75 : BitVec 32 := Scalar.subi v72 v74
  let c2_i32 : BitVec 32 := 2#32
  let c0_i32_82 : BitVec 32 := 0#32
  let v76 : BitVec 1 := Scalar.cmpi .sgt c2_i32 c0_i32_82
  let v77 : BitVec 32 := Scalar.extui v76
  let c0_i32_83 : BitVec 32 := 0#32
  let v78 : BitVec 1 := Scalar.cmpi .slt c2_i32 c0_i32_83
  let v79 : BitVec 32 := Scalar.extui v78
  let v80 : BitVec 32 := Scalar.subi v77 v79
  let v81 : BitVec 1 := Scalar.cmpi .ne v75 v80
  let v82 : BitVec 32 := Scalar.remsi arg2 c2_i32
  let c0_i32_84 : BitVec 32 := 0#32
  let v83 : BitVec 1 := Scalar.cmpi .ne v82 c0_i32_84
  let v84 : BitVec 1 := Scalar.andi v81 v83
  let v70 : BitVec 32 := Scalar.divsi arg2 c2_i32
  let c1_i32 : BitVec 32 := 1#32
  let v85 : BitVec 32 := Scalar.subi v70 c1_i32
  let v86 : BitVec 32 := Scalar.select v84 v85 v70
  let v87 : BitVec 32 := Scalar.subi v86 c0_i32_85
  let c1_i32_86 : BitVec 32 := 1#32
  let v89 : BitVec 32 := Scalar.divsi v87 c1_i32_86
  let v90 : BitVec 32 := Scalar.muli v89 c1_i32_86
  let v91 : BitVec 32 := Scalar.addi c0_i32_85 v90
  let c1_i32_88 : BitVec 32 := 1#32
  let arg10 : BitVec 32 := Scf.iv v91 c1_i32_88 k0_t2
  let v120 : BitVec 32 := Scalar.muli c2_i32_105 arg10
  let c1_i32_353 : BitVec 32 := 1#32
  let v393 : BitVec 32 := Scalar.addi v120 c1_i32_353
  let v419 : Index := Scalar.indexCast v393
  let c0_374 : Index := 0#32
  let c0_375 : Index := 0#32
  ![0, 1, v419.toNat, 0, 0]
def k0_off33 (i : grid0.Coords) (k0_t2 : Fin (k0_t2_loop i).trips) : Fin 5 → Nat :=
  let c0_387 : Index := 0#32
  let c2_388 : Index := 2#32
  let c2_i32_105 : BitVec 32 := 2#32
  let c0_i32_85 : BitVec 32 := 0#32
  let arg2 : BitVec 32 := BitVec.ofNat 32 (i 2).val
  let c0_i32_80 : BitVec 32 := 0#32
  let v71 : BitVec 1 := Scalar.cmpi .sgt arg2 c0_i32_80
  let v72 : BitVec 32 := Scalar.extui v71
  let c0_i32_81 : BitVec 32 := 0#32
  let v73 : BitVec 1 := Scalar.cmpi .slt arg2 c0_i32_81
  let v74 : BitVec 32 := Scalar.extui v73
  let v75 : BitVec 32 := Scalar.subi v72 v74
  let c2_i32 : BitVec 32 := 2#32
  let c0_i32_82 : BitVec 32 := 0#32
  let v76 : BitVec 1 := Scalar.cmpi .sgt c2_i32 c0_i32_82
  let v77 : BitVec 32 := Scalar.extui v76
  let c0_i32_83 : BitVec 32 := 0#32
  let v78 : BitVec 1 := Scalar.cmpi .slt c2_i32 c0_i32_83
  let v79 : BitVec 32 := Scalar.extui v78
  let v80 : BitVec 32 := Scalar.subi v77 v79
  let v81 : BitVec 1 := Scalar.cmpi .ne v75 v80
  let v82 : BitVec 32 := Scalar.remsi arg2 c2_i32
  let c0_i32_84 : BitVec 32 := 0#32
  let v83 : BitVec 1 := Scalar.cmpi .ne v82 c0_i32_84
  let v84 : BitVec 1 := Scalar.andi v81 v83
  let v70 : BitVec 32 := Scalar.divsi arg2 c2_i32
  let c1_i32 : BitVec 32 := 1#32
  let v85 : BitVec 32 := Scalar.subi v70 c1_i32
  let v86 : BitVec 32 := Scalar.select v84 v85 v70
  let v87 : BitVec 32 := Scalar.subi v86 c0_i32_85
  let c1_i32_86 : BitVec 32 := 1#32
  let v89 : BitVec 32 := Scalar.divsi v87 c1_i32_86
  let v90 : BitVec 32 := Scalar.muli v89 c1_i32_86
  let v91 : BitVec 32 := Scalar.addi c0_i32_85 v90
  let c1_i32_88 : BitVec 32 := 1#32
  let arg10 : BitVec 32 := Scf.iv v91 c1_i32_88 k0_t2
  let v120 : BitVec 32 := Scalar.muli c2_i32_105 arg10
  let c1_i32_353 : BitVec 32 := 1#32
  let v393 : BitVec 32 := Scalar.addi v120 c1_i32_353
  let v442 : Index := Scalar.indexCast v393
  let c0_389 : Index := 0#32
  let c0_390 : Index := 0#32
  ![0, 2, v442.toNat, 0, 0]
def k0_off34 (i : grid0.Coords) (k0_t2 : Fin (k0_t2_loop i).trips) : Fin 5 → Nat :=
  let c0_402 : Index := 0#32
  let c3_403 : Index := 3#32
  let c2_i32_105 : BitVec 32 := 2#32
  let c0_i32_85 : BitVec 32 := 0#32
  let arg2 : BitVec 32 := BitVec.ofNat 32 (i 2).val
  let c0_i32_80 : BitVec 32 := 0#32
  let v71 : BitVec 1 := Scalar.cmpi .sgt arg2 c0_i32_80
  let v72 : BitVec 32 := Scalar.extui v71
  let c0_i32_81 : BitVec 32 := 0#32
  let v73 : BitVec 1 := Scalar.cmpi .slt arg2 c0_i32_81
  let v74 : BitVec 32 := Scalar.extui v73
  let v75 : BitVec 32 := Scalar.subi v72 v74
  let c2_i32 : BitVec 32 := 2#32
  let c0_i32_82 : BitVec 32 := 0#32
  let v76 : BitVec 1 := Scalar.cmpi .sgt c2_i32 c0_i32_82
  let v77 : BitVec 32 := Scalar.extui v76
  let c0_i32_83 : BitVec 32 := 0#32
  let v78 : BitVec 1 := Scalar.cmpi .slt c2_i32 c0_i32_83
  let v79 : BitVec 32 := Scalar.extui v78
  let v80 : BitVec 32 := Scalar.subi v77 v79
  let v81 : BitVec 1 := Scalar.cmpi .ne v75 v80
  let v82 : BitVec 32 := Scalar.remsi arg2 c2_i32
  let c0_i32_84 : BitVec 32 := 0#32
  let v83 : BitVec 1 := Scalar.cmpi .ne v82 c0_i32_84
  let v84 : BitVec 1 := Scalar.andi v81 v83
  let v70 : BitVec 32 := Scalar.divsi arg2 c2_i32
  let c1_i32 : BitVec 32 := 1#32
  let v85 : BitVec 32 := Scalar.subi v70 c1_i32
  let v86 : BitVec 32 := Scalar.select v84 v85 v70
  let v87 : BitVec 32 := Scalar.subi v86 c0_i32_85
  let c1_i32_86 : BitVec 32 := 1#32
  let v89 : BitVec 32 := Scalar.divsi v87 c1_i32_86
  let v90 : BitVec 32 := Scalar.muli v89 c1_i32_86
  let v91 : BitVec 32 := Scalar.addi c0_i32_85 v90
  let c1_i32_88 : BitVec 32 := 1#32
  let arg10 : BitVec 32 := Scf.iv v91 c1_i32_88 k0_t2
  let v120 : BitVec 32 := Scalar.muli c2_i32_105 arg10
  let c1_i32_353 : BitVec 32 := 1#32
  let v393 : BitVec 32 := Scalar.addi v120 c1_i32_353
  let v465 : Index := Scalar.indexCast v393
  let c0_404 : Index := 0#32
  let c0_405 : Index := 0#32
  ![0, 3, v465.toNat, 0, 0]
def k0_off35 (i : grid0.Coords) (k0_t2 : Fin (k0_t2_loop i).trips) : Fin 5 → Nat :=
  let c0_417 : Index := 0#32
  let c4_418 : Index := 4#32
  let c2_i32_105 : BitVec 32 := 2#32
  let c0_i32_85 : BitVec 32 := 0#32
  let arg2 : BitVec 32 := BitVec.ofNat 32 (i 2).val
  let c0_i32_80 : BitVec 32 := 0#32
  let v71 : BitVec 1 := Scalar.cmpi .sgt arg2 c0_i32_80
  let v72 : BitVec 32 := Scalar.extui v71
  let c0_i32_81 : BitVec 32 := 0#32
  let v73 : BitVec 1 := Scalar.cmpi .slt arg2 c0_i32_81
  let v74 : BitVec 32 := Scalar.extui v73
  let v75 : BitVec 32 := Scalar.subi v72 v74
  let c2_i32 : BitVec 32 := 2#32
  let c0_i32_82 : BitVec 32 := 0#32
  let v76 : BitVec 1 := Scalar.cmpi .sgt c2_i32 c0_i32_82
  let v77 : BitVec 32 := Scalar.extui v76
  let c0_i32_83 : BitVec 32 := 0#32
  let v78 : BitVec 1 := Scalar.cmpi .slt c2_i32 c0_i32_83
  let v79 : BitVec 32 := Scalar.extui v78
  let v80 : BitVec 32 := Scalar.subi v77 v79
  let v81 : BitVec 1 := Scalar.cmpi .ne v75 v80
  let v82 : BitVec 32 := Scalar.remsi arg2 c2_i32
  let c0_i32_84 : BitVec 32 := 0#32
  let v83 : BitVec 1 := Scalar.cmpi .ne v82 c0_i32_84
  let v84 : BitVec 1 := Scalar.andi v81 v83
  let v70 : BitVec 32 := Scalar.divsi arg2 c2_i32
  let c1_i32 : BitVec 32 := 1#32
  let v85 : BitVec 32 := Scalar.subi v70 c1_i32
  let v86 : BitVec 32 := Scalar.select v84 v85 v70
  let v87 : BitVec 32 := Scalar.subi v86 c0_i32_85
  let c1_i32_86 : BitVec 32 := 1#32
  let v89 : BitVec 32 := Scalar.divsi v87 c1_i32_86
  let v90 : BitVec 32 := Scalar.muli v89 c1_i32_86
  let v91 : BitVec 32 := Scalar.addi c0_i32_85 v90
  let c1_i32_88 : BitVec 32 := 1#32
  let arg10 : BitVec 32 := Scf.iv v91 c1_i32_88 k0_t2
  let v120 : BitVec 32 := Scalar.muli c2_i32_105 arg10
  let c1_i32_353 : BitVec 32 := 1#32
  let v393 : BitVec 32 := Scalar.addi v120 c1_i32_353
  let v488 : Index := Scalar.indexCast v393
  let c0_419 : Index := 0#32
  let c0_420 : Index := 0#32
  ![0, 4, v488.toNat, 0, 0]
def k0_off36 (i : grid0.Coords) (k0_t2 : Fin (k0_t2_loop i).trips) : Fin 5 → Nat :=
  let c0_432 : Index := 0#32
  let c5_433 : Index := 5#32
  let c2_i32_105 : BitVec 32 := 2#32
  let c0_i32_85 : BitVec 32 := 0#32
  let arg2 : BitVec 32 := BitVec.ofNat 32 (i 2).val
  let c0_i32_80 : BitVec 32 := 0#32
  let v71 : BitVec 1 := Scalar.cmpi .sgt arg2 c0_i32_80
  let v72 : BitVec 32 := Scalar.extui v71
  let c0_i32_81 : BitVec 32 := 0#32
  let v73 : BitVec 1 := Scalar.cmpi .slt arg2 c0_i32_81
  let v74 : BitVec 32 := Scalar.extui v73
  let v75 : BitVec 32 := Scalar.subi v72 v74
  let c2_i32 : BitVec 32 := 2#32
  let c0_i32_82 : BitVec 32 := 0#32
  let v76 : BitVec 1 := Scalar.cmpi .sgt c2_i32 c0_i32_82
  let v77 : BitVec 32 := Scalar.extui v76
  let c0_i32_83 : BitVec 32 := 0#32
  let v78 : BitVec 1 := Scalar.cmpi .slt c2_i32 c0_i32_83
  let v79 : BitVec 32 := Scalar.extui v78
  let v80 : BitVec 32 := Scalar.subi v77 v79
  let v81 : BitVec 1 := Scalar.cmpi .ne v75 v80
  let v82 : BitVec 32 := Scalar.remsi arg2 c2_i32
  let c0_i32_84 : BitVec 32 := 0#32
  let v83 : BitVec 1 := Scalar.cmpi .ne v82 c0_i32_84
  let v84 : BitVec 1 := Scalar.andi v81 v83
  let v70 : BitVec 32 := Scalar.divsi arg2 c2_i32
  let c1_i32 : BitVec 32 := 1#32
  let v85 : BitVec 32 := Scalar.subi v70 c1_i32
  let v86 : BitVec 32 := Scalar.select v84 v85 v70
  let v87 : BitVec 32 := Scalar.subi v86 c0_i32_85
  let c1_i32_86 : BitVec 32 := 1#32
  let v89 : BitVec 32 := Scalar.divsi v87 c1_i32_86
  let v90 : BitVec 32 := Scalar.muli v89 c1_i32_86
  let v91 : BitVec 32 := Scalar.addi c0_i32_85 v90
  let c1_i32_88 : BitVec 32 := 1#32
  let arg10 : BitVec 32 := Scf.iv v91 c1_i32_88 k0_t2
  let v120 : BitVec 32 := Scalar.muli c2_i32_105 arg10
  let c1_i32_353 : BitVec 32 := 1#32
  let v393 : BitVec 32 := Scalar.addi v120 c1_i32_353
  let v511 : Index := Scalar.indexCast v393
  let c0_434 : Index := 0#32
  let c0_435 : Index := 0#32
  ![0, 5, v511.toNat, 0, 0]
def k0_cond1 (i : grid0.Coords) : BitVec 1 :=
  let arg2 : BitVec 32 := BitVec.ofNat 32 (i 2).val
  let c2_i32_89 : BitVec 32 := 2#32
  let c0_i32_90 : BitVec 32 := 0#32
  let v94 : BitVec 1 := Scalar.cmpi .eq c2_i32_89 c0_i32_90
  let c1_i32_91 : BitVec 32 := 1#32
  let v95 : BitVec 32 := Scalar.select v94 c1_i32_91 c2_i32_89
  let v96 : BitVec 32 := Scalar.remsi arg2 v95
  let c0_i32_93 : BitVec 32 := 0#32
  let v98 : BitVec 1 := Scalar.cmpi .slt v96 c0_i32_93
  let c0_i32_94 : BitVec 32 := 0#32
  let v99 : BitVec 1 := Scalar.cmpi .slt v95 c0_i32_94
  let v100 : BitVec 1 := Scalar.xori v98 v99
  let c0_i32_92 : BitVec 32 := 0#32
  let v97 : BitVec 1 := Scalar.cmpi .ne v96 c0_i32_92
  let v101 : BitVec 1 := Scalar.andi v100 v97
  let v102 : BitVec 32 := Scalar.addi v96 v95
  let v103 : BitVec 32 := Scalar.select v101 v102 v96
  let c0_i32_95 : BitVec 32 := 0#32
  let v104 : BitVec 1 := Scalar.cmpi .eq v103 c0_i32_95
  let v105 : BitVec 32 := Scalar.extui v104
  let c0_i32_96 : BitVec 32 := 0#32
  let v106 : BitVec 1 := Scalar.cmpi .ne v105 c0_i32_96
  v106

def k0_off37 (i : grid0.Coords) : Fin 5 → Nat :=
  let c0_109 : Index := 0#32
  let c0_110 : Index := 0#32
  let arg2 : BitVec 32 := BitVec.ofNat 32 (i 2).val
  let v127 : Index := Scalar.indexCast arg2
  let c0_111 : Index := 0#32
  let c0_112 : Index := 0#32
  ![0, 0, v127.toNat, 0, 0]
def k0_off38 (i : grid0.Coords) : Fin 5 → Nat :=
  let c0_131 : Index := 0#32
  let c1_132 : Index := 1#32
  let arg2 : BitVec 32 := BitVec.ofNat 32 (i 2).val
  let v164 : Index := Scalar.indexCast arg2
  let c0_133 : Index := 0#32
  let c0_134 : Index := 0#32
  ![0, 1, v164.toNat, 0, 0]
def k0_off39 (i : grid0.Coords) : Fin 5 → Nat :=
  let c0_152 : Index := 0#32
  let c2_153 : Index := 2#32
  let arg2 : BitVec 32 := BitVec.ofNat 32 (i 2).val
  let v201 : Index := Scalar.indexCast arg2
  let c0_154 : Index := 0#32
  let c0_155 : Index := 0#32
  ![0, 2, v201.toNat, 0, 0]
def k0_off40 (i : grid0.Coords) : Fin 5 → Nat :=
  let c0_173 : Index := 0#32
  let c3_174 : Index := 3#32
  let arg2 : BitVec 32 := BitVec.ofNat 32 (i 2).val
  let v238 : Index := Scalar.indexCast arg2
  let c0_175 : Index := 0#32
  let c0_176 : Index := 0#32
  ![0, 3, v238.toNat, 0, 0]
def k0_off41 (i : grid0.Coords) : Fin 5 → Nat :=
  let c0_194 : Index := 0#32
  let c4_195 : Index := 4#32
  let arg2 : BitVec 32 := BitVec.ofNat 32 (i 2).val
  let v275 : Index := Scalar.indexCast arg2
  let c0_196 : Index := 0#32
  let c0_197 : Index := 0#32
  ![0, 4, v275.toNat, 0, 0]
def k0_off42 (i : grid0.Coords) : Fin 5 → Nat :=
  let c0_215 : Index := 0#32
  let c5_216 : Index := 5#32
  let arg2 : BitVec 32 := BitVec.ofNat 32 (i 2).val
  let v312 : Index := Scalar.indexCast arg2
  let c0_217 : Index := 0#32
  let c0_218 : Index := 0#32
  ![0, 5, v312.toNat, 0, 0]
def k0_cond2 (i : grid0.Coords) : BitVec 1 :=
  let arg2 : BitVec 32 := BitVec.ofNat 32 (i 2).val
  let c2_i32_97 : BitVec 32 := 2#32
  let c0_i32_98 : BitVec 32 := 0#32
  let v107 : BitVec 1 := Scalar.cmpi .eq c2_i32_97 c0_i32_98
  let c1_i32_99 : BitVec 32 := 1#32
  let v108 : BitVec 32 := Scalar.select v107 c1_i32_99 c2_i32_97
  let v109 : BitVec 32 := Scalar.remsi arg2 v108
  let c0_i32_101 : BitVec 32 := 0#32
  let v111 : BitVec 1 := Scalar.cmpi .slt v109 c0_i32_101
  let c0_i32_102 : BitVec 32 := 0#32
  let v112 : BitVec 1 := Scalar.cmpi .slt v108 c0_i32_102
  let v113 : BitVec 1 := Scalar.xori v111 v112
  let c0_i32_100 : BitVec 32 := 0#32
  let v110 : BitVec 1 := Scalar.cmpi .ne v109 c0_i32_100
  let v114 : BitVec 1 := Scalar.andi v113 v110
  let v115 : BitVec 32 := Scalar.addi v109 v108
  let v116 : BitVec 32 := Scalar.select v114 v115 v109
  let c1_i32_103 : BitVec 32 := 1#32
  let v117 : BitVec 1 := Scalar.cmpi .eq v116 c1_i32_103
  let v118 : BitVec 32 := Scalar.extui v117
  let c0_i32_104 : BitVec 32 := 0#32
  let v119 : BitVec 1 := Scalar.cmpi .ne v118 c0_i32_104
  v119

def k0_mult31 (i : grid0.Coords) : BitVec 32 :=
  let arg2 : BitVec 32 := BitVec.ofNat 32 (i 2).val
  let c256_i32 : BitVec 32 := 256#32
  let v120 : BitVec 32 := Scalar.muli arg2 c256_i32
  v120
def k0_off43 (i : grid0.Coords) : Fin 4 → Nat :=
  let c0_105 : Index := 0#32
  let c0_106 : Index := 0#32
  let arg2 : BitVec 32 := BitVec.ofNat 32 (i 2).val
  let c256_i32 : BitVec 32 := 256#32
  let v120 : BitVec 32 := Scalar.muli arg2 c256_i32
  let v121 : BitVec 32 := v120
  let v122 : Index := Scalar.indexCast v121
  let c0_107 : Index := 0#32
  ![0, 0, v122.toNat, 0]
def k0_mult32 (i : grid0.Coords) : BitVec 32 :=
  let arg2 : BitVec 32 := BitVec.ofNat 32 (i 2).val
  let c256_i32_117 : BitVec 32 := 256#32
  let v131 : BitVec 32 := Scalar.muli arg2 c256_i32_117
  v131
def k0_off44 (i : grid0.Coords) : Fin 4 → Nat :=
  let c0_118 : Index := 0#32
  let c1_119 : Index := 1#32
  let arg2 : BitVec 32 := BitVec.ofNat 32 (i 2).val
  let c256_i32_117 : BitVec 32 := 256#32
  let v131 : BitVec 32 := Scalar.muli arg2 c256_i32_117
  let v132 : BitVec 32 := v131
  let v133 : Index := Scalar.indexCast v132
  let c0_120 : Index := 0#32
  ![0, 1, v133.toNat, 0]
def k0_mult33 (i : grid0.Coords) : BitVec 32 :=
  let arg2 : BitVec 32 := BitVec.ofNat 32 (i 2).val
  let c256_i32_130 : BitVec 32 := 256#32
  let v142 : BitVec 32 := Scalar.muli arg2 c256_i32_130
  v142
def k0_off45 (i : grid0.Coords) : Fin 4 → Nat :=
  let c0_131 : Index := 0#32
  let c2_132 : Index := 2#32
  let arg2 : BitVec 32 := BitVec.ofNat 32 (i 2).val
  let c256_i32_130 : BitVec 32 := 256#32
  let v142 : BitVec 32 := Scalar.muli arg2 c256_i32_130
  let v143 : BitVec 32 := v142
  let v144 : Index := Scalar.indexCast v143
  let c0_133 : Index := 0#32
  ![0, 2, v144.toNat, 0]
def k0_mult34 (i : grid0.Coords) : BitVec 32 :=
  let arg2 : BitVec 32 := BitVec.ofNat 32 (i 2).val
  let c256_i32_143 : BitVec 32 := 256#32
  let v153 : BitVec 32 := Scalar.muli arg2 c256_i32_143
  v153
def k0_off46 (i : grid0.Coords) : Fin 4 → Nat :=
  let c0_144 : Index := 0#32
  let c3_145 : Index := 3#32
  let arg2 : BitVec 32 := BitVec.ofNat 32 (i 2).val
  let c256_i32_143 : BitVec 32 := 256#32
  let v153 : BitVec 32 := Scalar.muli arg2 c256_i32_143
  let v154 : BitVec 32 := v153
  let v155 : Index := Scalar.indexCast v154
  let c0_146 : Index := 0#32
  ![0, 3, v155.toNat, 0]
def k0_mult35 (i : grid0.Coords) : BitVec 32 :=
  let arg2 : BitVec 32 := BitVec.ofNat 32 (i 2).val
  let c256_i32_156 : BitVec 32 := 256#32
  let v164 : BitVec 32 := Scalar.muli arg2 c256_i32_156
  v164
def k0_off47 (i : grid0.Coords) : Fin 4 → Nat :=
  let c0_157 : Index := 0#32
  let c4_158 : Index := 4#32
  let arg2 : BitVec 32 := BitVec.ofNat 32 (i 2).val
  let c256_i32_156 : BitVec 32 := 256#32
  let v164 : BitVec 32 := Scalar.muli arg2 c256_i32_156
  let v165 : BitVec 32 := v164
  let v166 : Index := Scalar.indexCast v165
  let c0_159 : Index := 0#32
  ![0, 4, v166.toNat, 0]
def k0_mult36 (i : grid0.Coords) : BitVec 32 :=
  let arg2 : BitVec 32 := BitVec.ofNat 32 (i 2).val
  let c256_i32_169 : BitVec 32 := 256#32
  let v175 : BitVec 32 := Scalar.muli arg2 c256_i32_169
  v175
def k0_off48 (i : grid0.Coords) : Fin 4 → Nat :=
  let c0_170 : Index := 0#32
  let c5_171 : Index := 5#32
  let arg2 : BitVec 32 := BitVec.ofNat 32 (i 2).val
  let c256_i32_169 : BitVec 32 := 256#32
  let v175 : BitVec 32 := Scalar.muli arg2 c256_i32_169
  let v176 : BitVec 32 := v175
  let v177 : Index := Scalar.indexCast v176
  let c0_172 : Index := 0#32
  ![0, 5, v177.toNat, 0]
def k0_off49 (i : grid0.Coords) : Fin 5 → Nat :=
  let c0_186 : Index := 0#32
  let c0_187 : Index := 0#32
  let arg2 : BitVec 32 := BitVec.ofNat 32 (i 2).val
  let c1_i32_182 : BitVec 32 := 1#32
  let v186 : BitVec 32 := Scalar.subi arg2 c1_i32_182
  let v189 : Index := Scalar.indexCast v186
  let c0_188 : Index := 0#32
  let c0_189 : Index := 0#32
  ![0, 0, v189.toNat, 0, 0]
def k0_off50 (i : grid0.Coords) : Fin 5 → Nat :=
  let c0_201 : Index := 0#32
  let c1_202 : Index := 1#32
  let arg2 : BitVec 32 := BitVec.ofNat 32 (i 2).val
  let c1_i32_182 : BitVec 32 := 1#32
  let v186 : BitVec 32 := Scalar.subi arg2 c1_i32_182
  let v212 : Index := Scalar.indexCast v186
  let c0_203 : Index := 0#32
  let c0_204 : Index := 0#32
  ![0, 1, v212.toNat, 0, 0]
def k0_off51 (i : grid0.Coords) : Fin 5 → Nat :=
  let c0_216 : Index := 0#32
  let c2_217 : Index := 2#32
  let arg2 : BitVec 32 := BitVec.ofNat 32 (i 2).val
  let c1_i32_182 : BitVec 32 := 1#32
  let v186 : BitVec 32 := Scalar.subi arg2 c1_i32_182
  let v235 : Index := Scalar.indexCast v186
  let c0_218 : Index := 0#32
  let c0_219 : Index := 0#32
  ![0, 2, v235.toNat, 0, 0]
def k0_off52 (i : grid0.Coords) : Fin 5 → Nat :=
  let c0_231 : Index := 0#32
  let c3_232 : Index := 3#32
  let arg2 : BitVec 32 := BitVec.ofNat 32 (i 2).val
  let c1_i32_182 : BitVec 32 := 1#32
  let v186 : BitVec 32 := Scalar.subi arg2 c1_i32_182
  let v258 : Index := Scalar.indexCast v186
  let c0_233 : Index := 0#32
  let c0_234 : Index := 0#32
  ![0, 3, v258.toNat, 0, 0]
def k0_off53 (i : grid0.Coords) : Fin 5 → Nat :=
  let c0_246 : Index := 0#32
  let c4_247 : Index := 4#32
  let arg2 : BitVec 32 := BitVec.ofNat 32 (i 2).val
  let c1_i32_182 : BitVec 32 := 1#32
  let v186 : BitVec 32 := Scalar.subi arg2 c1_i32_182
  let v281 : Index := Scalar.indexCast v186
  let c0_248 : Index := 0#32
  let c0_249 : Index := 0#32
  ![0, 4, v281.toNat, 0, 0]
def k0_off54 (i : grid0.Coords) : Fin 5 → Nat :=
  let c0_261 : Index := 0#32
  let c5_262 : Index := 5#32
  let arg2 : BitVec 32 := BitVec.ofNat 32 (i 2).val
  let c1_i32_182 : BitVec 32 := 1#32
  let v186 : BitVec 32 := Scalar.subi arg2 c1_i32_182
  let v304 : Index := Scalar.indexCast v186
  let c0_263 : Index := 0#32
  let c0_264 : Index := 0#32
  ![0, 5, v304.toNat, 0, 0]
def k0_off55 (i : grid0.Coords) : Fin 5 → Nat :=
  let c0_277 : Index := 0#32
  let c0_278 : Index := 0#32
  let arg2 : BitVec 32 := BitVec.ofNat 32 (i 2).val
  let v332 : Index := Scalar.indexCast arg2
  let c0_279 : Index := 0#32
  let c0_280 : Index := 0#32
  ![0, 0, v332.toNat, 0, 0]
def k0_off56 (i : grid0.Coords) : Fin 5 → Nat :=
  let c0_299 : Index := 0#32
  let c1_300 : Index := 1#32
  let arg2 : BitVec 32 := BitVec.ofNat 32 (i 2).val
  let v369 : Index := Scalar.indexCast arg2
  let c0_301 : Index := 0#32
  let c0_302 : Index := 0#32
  ![0, 1, v369.toNat, 0, 0]
def k0_off57 (i : grid0.Coords) : Fin 5 → Nat :=
  let c0_320 : Index := 0#32
  let c2_321 : Index := 2#32
  let arg2 : BitVec 32 := BitVec.ofNat 32 (i 2).val
  let v406 : Index := Scalar.indexCast arg2
  let c0_322 : Index := 0#32
  let c0_323 : Index := 0#32
  ![0, 2, v406.toNat, 0, 0]
def k0_off58 (i : grid0.Coords) : Fin 5 → Nat :=
  let c0_341 : Index := 0#32
  let c3_342 : Index := 3#32
  let arg2 : BitVec 32 := BitVec.ofNat 32 (i 2).val
  let v443 : Index := Scalar.indexCast arg2
  let c0_343 : Index := 0#32
  let c0_344 : Index := 0#32
  ![0, 3, v443.toNat, 0, 0]
def k0_off59 (i : grid0.Coords) : Fin 5 → Nat :=
  let c0_362 : Index := 0#32
  let c4_363 : Index := 4#32
  let arg2 : BitVec 32 := BitVec.ofNat 32 (i 2).val
  let v480 : Index := Scalar.indexCast arg2
  let c0_364 : Index := 0#32
  let c0_365 : Index := 0#32
  ![0, 4, v480.toNat, 0, 0]
def k0_off60 (i : grid0.Coords) : Fin 5 → Nat :=
  let c0_383 : Index := 0#32
  let c5_384 : Index := 5#32
  let arg2 : BitVec 32 := BitVec.ofNat 32 (i 2).val
  let v517 : Index := Scalar.indexCast arg2
  let c0_385 : Index := 0#32
  let c0_386 : Index := 0#32
  ![0, 5, v517.toNat, 0, 0]
def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x6x1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x6x4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S1x6x16x144x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 2 → Memref sig .tc .vmem S1x256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Proof.FcumMath.lean ====
module

public import Idealize.ShloMosaic.Lib.Pointwise

@[expose] public section

set_option maxRecDepth 16384

noncomputable section

namespace Cert.FcumMath

open Idealize.ShloMosaic

/-! ## The forget gate's log-sigmoid, and its running sum, on extended reals -/

/-- The log-sigmoid as the softplus of the negated argument, negated. -/
def logSig (x : EReal) : EReal := -(max (-x) 0 + Ideal.log1p (Ideal.exp (-(max (-x - 0) (-(-x - 0))))))

theorem exp_nonneg (x : EReal) : 0 ≤ Ideal.exp x := by
  induction x with
  | bot => exact le_refl _
  | top => exact le_top
  | coe r => exact EReal.coe_nonneg.2 (Real.exp_pos r).le

theorem log_ne_bot (x : EReal) (h : 0 < x) : Ideal.log x ≠ ⊥ := by
  induction x with
  | bot => exact absurd h (not_lt.2 bot_le)
  | top => exact top_ne_bot
  | coe r =>
    rw [Ideal.log_coe, if_neg (not_le.2 (EReal.coe_pos.1 h))]
    exact EReal.coe_ne_bot _

/-- The kernel's form, the minimum with zero less the logarithm, is the log-sigmoid. -/
theorem logSig_kernel (x : EReal) : min x 0 - Ideal.log (1 + Ideal.exp (0 - max x (-x))) = logSig x := by
  have hm : -(max (-x) 0) = min x 0 := by
    rcases le_total x 0 with h | h
    · rw [min_eq_left h, max_eq_left (EReal.le_neg_of_le_neg (by rwa [neg_zero])), neg_neg]
    · rw [min_eq_right h, max_eq_right (by rw [EReal.neg_le]; rwa [neg_zero]), neg_zero]
  have ha : -(max (-x - 0) (-(-x - 0))) = 0 - max x (-x) := by
    rw [sub_zero, neg_neg, max_comm, zero_sub]
  unfold logSig Ideal.log1p
  rw [ha, ← hm, EReal.neg_add (Or.inl ?_) (Or.inr ?_)]
  · exact ne_of_gt (lt_of_lt_of_le EReal.bot_lt_zero (le_max_right _ _))
  · refine log_ne_bot _ (lt_of_lt_of_le zero_lt_one ?_)
    exact le_add_of_nonneg_right (exp_nonneg _)

/-- The sum of a sequence's first entries, up to and including the one at `n`. -/
def run (g : ℕ → EReal) (n : ℕ) : EReal := ∑ s ∈ Finset.range (n + 1), g s

/-- A triangle's row of a tile. -/
theorem tri_sum (g : ℕ → EReal) (b : ℕ) (r : Fin 512) :
    (∑ k : Fin 512, (if k.val ≤ r.val then 1 else 0) * g (b + k.val)) = ∑ s ∈ Finset.range (r.val + 1), g (b + s) := by
  have hr := r.isLt
  rw [Fin.sum_univ_eq_sum_range (fun k => (if k ≤ r.val then (1 : EReal) else 0) * g (b + k)) 512]
  refine (Finset.sum_subset (s₁ := Finset.range (r.val + 1)) (fun s hs => ?_) (fun s _ hs => ?_)).symm.trans (Finset.sum_congr rfl fun s hs => ?_)
  · rw [Finset.mem_range] at hs ⊢; omega
  · rw [Finset.mem_range] at hs
    rw [if_neg (by omega), zero_mul]
  · rw [Finset.mem_range] at hs
    rw [if_pos (by omega), one_mul]

/-- A tile's running sum on top of what the tiles before it carry. -/
theorem run_tile (g : ℕ → EReal) (b r : ℕ) : (∑ s ∈ Finset.range (r + 1), g (b + s)) + ∑ s ∈ Finset.range b, g s = run g (b + r) := by
  unfold run
  rw [show b + r + 1 = b + (r + 1) by omega, Finset.sum_range_add _ b (r + 1), add_comm]

/-! ## The window sum that a cumulative sum is -/

theorem foldl_sum {α : Type} (l : List α) (g : α → EReal) (v : EReal) : l.foldl (fun r n => r + g n) v = v + (l.map g).sum := by
  induction l generalizing v with
  | nil => simp
  | cons a l ih => rw [List.foldl_cons, ih, List.map_cons, List.sum_cons, add_assoc]

theorem sum_rowMajor (W : Shape) (f : W.Idx → EReal) : ((List.finRange W.numel).map fun n => f (W.rowMajor.symm n)).sum = ∑ w : W.Idx, f w := by
  rw [← Fin.sum_univ_def]
  exact Equiv.sum_comp W.rowMajor.symm f

/-- The sum of a window of which a prefix lies inside. -/
theorem sum_shift (N j : ℕ) (hj : j < N) (x : ℕ → EReal) :
    (∑ w : Fin N, if N - 1 ≤ j + w.val then x (j + w.val - (N - 1)) else 0) = run x j := by
  rw [Fin.sum_univ_eq_sum_range (fun w => if N - 1 ≤ j + w then x (j + w - (N - 1)) else 0) N]
  obtain ⟨d, rfl⟩ : ∃ d, N = d + (j + 1) := ⟨N - (j + 1), by omega⟩
  rw [Finset.sum_range_add]
  rw [Finset.sum_eq_zero (fun w hw => if_neg (by rw [Finset.mem_range] at hw; omega)), zero_add]
  exact Finset.sum_congr rfl fun s hs => by
    rw [if_pos (by omega)]
    congr 1
    omega

end Cert.FcumMath

end
-- ==== Proof.BoundsMath.lean ====
module

public import proofs.«01_k».proof.Proof.FcumMath

@[expose] public section

set_option maxRecDepth 16384

noncomputable section

namespace Cert.BoundsMath

open Idealize.ShloMosaic Cert.FcumMath

/-! ## A softmax over four rows, and its running sums less the first -/

variable (x : Fin 4 → EReal)

def mx : EReal := max (max (max (x 0) (x 1)) (x 2)) (x 3)
def ex (i : Fin 4) : EReal := Ideal.exp (x i - mx x)
def tot : EReal := ex x 0 + ex x 1 + ex x 2 + ex x 3
def sm (i : Fin 4) : EReal := Ideal.div (ex x i) (tot x)
def bound (d : ℕ) : EReal := run (fun u => if h : u < 4 then sm x ⟨u, h⟩ else 0) d - sm x 0

end Cert.BoundsMath

end
-- ==== Proof.BoundsRef.lean ====
module

public import proofs.«01_k».proof.Proof.Gen.BoundsRefIdeal.Run
public import proofs.«01_k».proof.Proof.BoundsMath
public import Idealize.ShloMosaic.Lib.Pointwise
public import Idealize.ShloMosaic.Lib.KernelVsHost

@[expose] public section

set_option maxRecDepth 16384

noncomputable section

namespace Cert.BoundsRefIdeal.RefValue

open Cert.BoundsRefIdeal Cert.BoundsRefIdeal.Gen Cert.BoundsRefIdeal.Value Idealize.ShloMosaic Idealize.ShloMosaic.TcCoe Idealize.SL.Sem Cert.FcumMath Cert.BoundsMath

section
variable {F : FTy → Type} [FloatOps F]

/-! ## The reference's term -/

def mxV (A0 : FVec F S4x512 .f32) : FVec F S512 .f32 :=
  (maximumf (broadcastInDim S512 ![] bcast_S_S512 (constant S_ .f32 0xFF800000#32)) (Host.reduce FloatOps.maximumf A0 (constant S_ .f32 0xFF800000#32) reducesTo_S4x512_S512_d0 h_S_))

def exV (A0 : FVec F S4x512 .f32) : FVec F S4x512 .f32 :=
  (Host.exp (subf A0 (broadcastInDim S4x512 ![0, 1] bcast_S1x512_S4x512_0_1 (broadcastInDim S1x512 ![1] bcast_S512_S1x512_1 (mxV A0)))))

def smV (A0 : FVec F S4x512 .f32) : FVec F S4x512 .f32 :=
  (Host.divf (exV A0) (broadcastInDim S4x512 ![0, 1] bcast_S1x512_S4x512_0_1 (broadcastInDim S1x512 ![1] bcast_S512_S1x512_1 (Host.reduceAdd (exV A0) (constant S_ .f32 0x00000000#32) reducesTo_S4x512_S512_d0 h_S_))))

def res (A0 : FVec F S4x512 .f32) : FVec F S4x512 .f32 :=
  subf (Host.reduceWindowAdd ![4, 1] ![1, 1] ![3, 0] ![0, 0] (smV A0) (broadcastInDim S_ ![] bcast_S_S_ (constant S_ .f32 0x00000000#32)) reduceWindows_S4x512_S4x512_w4s1p3_0_w1s1p0_0 h_S_) (broadcastInDim S4x512 ![0, 1] bcast_S1x512_S4x512_0_1 (extractStridedSlice S1x512 ![0, 0] (smV A0) slices_S4x512_S1x512_0_0))

end

theorem mxV_apply (A0 : FVec Ideal S4x512 .f32) (n : Fin 512) :
    mxV (F := Ideal) A0 (ix1 n) = mx fun i => A0 (ix2 i n) := by
  pointwise [mxV, mx]
  have e : ∀ b (f : Fin 4 → EReal), Finset.fold max b f Finset.univ = max (f 0) (max (f 1) (max (f 2) (max (f 3) b))) := fun b f => rfl
  have hb : Ideal.ofBits FTy.f32 4286578688#32 = (⊥ : EReal) := by
    simp [Ideal.ofBits, Ideal.ieee]
  rw [e, hb, max_bot_right, max_bot_left, max_assoc, max_assoc]

theorem exV_apply (A0 : FVec Ideal S4x512 .f32) (i : Fin 4) (n : Fin 512) :
    exV (F := Ideal) A0 (ix2 i n) = ex (fun i => A0 (ix2 i n)) i := by
  unfold ex
  rw [← mxV_apply]
  pointwise [exV]

theorem smV_apply (A0 : FVec Ideal S4x512 .f32) (i : Fin 4) (n : Fin 512) :
    smV (F := Ideal) A0 (ix2 i n) = sm (fun i => A0 (ix2 i n)) i := by
  unfold sm tot
  simp only [← exV_apply]
  pointwise [smV]
  rw [Fin.sum_univ_four]

theorem sum_line (f : Fin 4 → EReal) : (∑ w : (⟨2, ![4, 1]⟩ : Shape).Idx, f (w 0)) = ∑ k : Fin 4, f k := by
  rw [sum_idx2]
  simp only [Fin.sum_univ_one]
  rfl

/-- The cumulative sum down the rows, read at an entry. -/
theorem cumsum_apply (x : FVec Ideal S4x512 .f32) (init : FVec Ideal S_ .f32) (hi : ∀ i, init i = 0) (s : Fin 4) (n : Fin 512) :
    Host.reduceWindowAdd (F := Ideal) ![4, 1] ![1, 1] ![3, 0] ![0, 0] x init reduceWindows_S4x512_S4x512_w4s1p3_0_w1s1p0_0 h_S_ (ix2 s n)
      = run (fun u => if h : u < 4 then x (ix2 ⟨u, h⟩ n) else 0) s.val := by
  have hs := s.isLt
  have hn := n.isLt
  unfold Host.reduceWindowAdd
  rw [Ideal.hostReduceWindowAdd_def, hi]
  unfold Ideal.hostReduceWindowAdd Host.reduceWindow
  dsimp only
  rw [foldl_sum, zero_add]
  refine (congrArg List.sum (List.map_congr_left fun q _ => ?_)).trans ((sum_rowMajor ⟨2, ![4, 1]⟩ (fun w => if 4 - 1 ≤ s.val + (w 0).val then
    (fun u => if h : u < 4 then x (ix2 ⟨u, h⟩ n) else 0) (s.val + (w 0).val - (4 - 1)) else 0)).trans ?_)
  · have h1 : ((⟨2, ![4, 1]⟩ : Shape).rowMajor.symm q 0).val < 4 := ((⟨2, ![4, 1]⟩ : Shape).rowMajor.symm q 0).isLt
    have h2 : ((⟨2, ![4, 1]⟩ : Shape).rowMajor.symm q 1).val < 1 := ((⟨2, ![4, 1]⟩ : Shape).rowMajor.symm q 1).isLt
    by_cases hle : 4 - 1 ≤ s.val + ((⟨2, ![4, 1]⟩ : Shape).rowMajor.symm q 0).val
    · rw [if_pos hle, dif_pos (fun a => by
        fin_cases a
        · show 3 ≤ s.val * 1 + ((⟨2, ![4, 1]⟩ : Shape).rowMajor.symm q 0).val ∧ s.val * 1 + ((⟨2, ![4, 1]⟩ : Shape).rowMajor.symm q 0).val - 3 < 4; omega
        · show 0 ≤ n.val * 1 + ((⟨2, ![4, 1]⟩ : Shape).rowMajor.symm q 1).val ∧ n.val * 1 + ((⟨2, ![4, 1]⟩ : Shape).rowMajor.symm q 1).val - 0 < 512; omega)]
      dsimp only
      rw [dif_pos (show s.val + ((⟨2, ![4, 1]⟩ : Shape).rowMajor.symm q 0).val - (4 - 1) < 4 by omega)]
      refine congrArg x (funext fun a => Fin.ext ?_)
      fin_cases a
      · show s.val * 1 + ((⟨2, ![4, 1]⟩ : Shape).rowMajor.symm q 0).val - 3 = s.val + ((⟨2, ![4, 1]⟩ : Shape).rowMajor.symm q 0).val - (4 - 1); omega
      · show n.val * 1 + ((⟨2, ![4, 1]⟩ : Shape).rowMajor.symm q 1).val - 0 = n.val; omega
    · rw [if_neg hle, dif_neg (fun h => hle (by
        have h1' : 3 ≤ s.val * 1 + ((⟨2, ![4, 1]⟩ : Shape).rowMajor.symm q 0).val := (h 0).1
        omega))]
  · exact (sum_line (fun k => if 4 - 1 ≤ s.val + k.val then (fun u => if h : u < 4 then x (ix2 ⟨u, h⟩ n) else 0) (s.val + k.val - (4 - 1)) else 0)).trans
      (sum_shift 4 s.val hs (fun u => if h : u < 4 then x (ix2 ⟨u, h⟩ n) else 0))

theorem res_apply (A0 : FVec Ideal S4x512 .f32) (s : Fin 4) (n : Fin 512) :
    res (F := Ideal) A0 (ix2 s n) = bound (fun i => A0 (ix2 i n)) s.val := by
  unfold bound
  simp only [← smV_apply]
  rw [← cumsum_apply (smV (F := Ideal) A0) (broadcastInDim S_ ![] bcast_S_S_ (constant S_ .f32 0x00000000#32)) (fun i => by pointwise)]
  pointwise [res]

end Cert.BoundsRefIdeal.RefValue

end
-- ==== Proof.BoundsKernel.lean ====
module

public import proofs.«01_k».proof.Proof.Gen.BoundsIdeal.Value
public import proofs.«01_k».proof.Proof.BoundsMath
public import Idealize.ShloMosaic.Lib.Pointwise
public import Idealize.ShloMosaic.Lib.Pipeline.ValueKit.Tiles

@[expose] public section

set_option maxRecDepth 16384

noncomputable section

namespace Cert.BoundsIdeal.Bounds

open Cert.BoundsIdeal Cert.BoundsIdeal.Gen Cert.BoundsIdeal.Value Idealize.ShloMosaic Idealize.ShloMosaic.TcCoe Idealize.SL.Sem Cert.FcumMath Cert.BoundsMath

/-! ## The payloads, read at an entry -/

theorem pay1_apply (x : Vec Ideal S4x512 .f32) (i : Fin 4) (n : Fin 512) :
    k0_pay1 (F := Ideal) x (ix2 i n) = sm (fun i => x (ix2 i n)) i := by
  pointwise [k0_pay1, sm, tot, ex, mx]

theorem pay3_apply (x : Vec Ideal S4x512 .f32) (n : Fin 512) : k0_pay3 (F := Ideal) x (ix2 0 n) = bound (fun i => x (ix2 i n)) 0 := by
  unfold bound FcumMath.run
  simp only [← pay1_apply]
  pointwise [k0_pay3, k0_pay2]
  simp only [Finset.sum_range_succ, Finset.sum_range_zero, zero_add]
  rfl

theorem pay5_apply (x : Vec Ideal S4x512 .f32) (n : Fin 512) : k0_pay5 (F := Ideal) x (ix2 0 n) = bound (fun i => x (ix2 i n)) 1 := by
  unfold bound FcumMath.run
  simp only [← pay1_apply]
  pointwise [k0_pay5, k0_pay4, k0_pay2]
  simp only [Finset.sum_range_succ, Finset.sum_range_zero, zero_add]
  rfl

theorem pay7_apply (x : Vec Ideal S4x512 .f32) (n : Fin 512) : k0_pay7 (F := Ideal) x (ix2 0 n) = bound (fun i => x (ix2 i n)) 2 := by
  unfold bound FcumMath.run
  simp only [← pay1_apply]
  pointwise [k0_pay7, k0_pay6, k0_pay4, k0_pay2]
  simp only [Finset.sum_range_succ, Finset.sum_range_zero, zero_add]
  rfl

theorem pay8_apply (x : Vec Ideal S4x512 .f32) (n : Fin 512) : k0_pay8 (F := Ideal) x (ix2 0 n) = bound (fun i => x (ix2 i n)) 3 := by
  unfold bound FcumMath.run
  simp only [← pay1_apply]
  pointwise [k0_pay8, k0_pay6, k0_pay4, k0_pay2]
  simp only [Finset.sum_range_succ, Finset.sum_range_zero, zero_add]
  rfl

/-! ## The four stored rows -/

/-- A row's piece at an entry: where row `d`'s store holds `(s, n)`, it is row `s`. -/
theorem tile_row (d : ℕ) (w : Vec Ideal S1x512 .f32) (s : Fin 4) (n : Fin 512) (g : ℕ → EReal) (hw : w (ix2 0 n) = g d) :
    View.TileAt (S := S4x512) (Val := Elt Ideal) (e := .f32) (ix2 s n) ![d, 0] S1x512.size w (g s.val) := by
  intro x hx
  have h0 : s.val = d + (x 0).val := hx 0
  have h1 : n.val = 0 + (x 1).val := hx 1
  have hl : (x 0).val < 1 := (x 0).isLt
  have e : x = ix2 0 n := by
    funext a
    apply Fin.ext
    fin_cases a
    · show (x 0).val = 0
      omega
    · show (x 1).val = n.val
      omega
  have hd : d = s.val := by omega
  rw [e, ← hd]
  exact hw

theorem G_apply (x : Vec Ideal S4x512 .f32) (s : Fin 4) (n : Fin 512) :
    G1 (F := Ideal) x (ix2 s n) = bound (fun i => x (ix2 i n)) s.val := by
  refine View.canon_eq_of_allAt _ _ _ (cover0_1 _ _ _ _ _) ?_
  refine View.allAt_cons_unit _ _ _ _ _ (tile_row 3 _ s n _ (pay8_apply x n)) ?_
  refine View.allAt_cons_unit _ _ _ _ _ (tile_row 2 _ s n _ (pay7_apply x n)) ?_
  refine View.allAt_cons_unit _ _ _ _ _ (tile_row 1 _ s n _ (pay5_apply x n)) ?_
  refine View.allAt_cons_unit _ _ _ _ _ (tile_row 0 _ s n _ (pay3_apply x n)) ?_
  exact View.allAt_nil _ _

end Cert.BoundsIdeal.Bounds

end
-- ==== Proof.FcumRef.lean ====
module

public import proofs.«01_k».proof.Proof.Gen.FcumRefIdeal.Run
public import proofs.«01_k».proof.Proof.FcumMath
public import Idealize.ShloMosaic.Lib.Pointwise
public import Idealize.ShloMosaic.Lib.KernelVsHost

@[expose] public section

set_option maxRecDepth 16384

noncomputable section

namespace Cert.FcumRefIdeal.RefValue

open Cert.FcumRefIdeal Cert.FcumRefIdeal.Gen Cert.FcumRefIdeal.Value Idealize.ShloMosaic Idealize.ShloMosaic.TcCoe Idealize.SL.Sem Cert.FcumMath

section
variable {F : FTy → Type} [FloatOps F]

/-! ## The reference's term -/

def gate (A0 : FVec F S4x4096x6912 .f32) (A1 : FVec F S6 .f32) : FVec F S4x4096x128 .f32 :=
  (addf (extractStridedSlice S4x4096x128 ![0, 0, 4352] A0 slices_S4x4096x6912_S4x4096x128_0_0_4352) (broadcastInDim S4x4096x128 ![0, 1, 2] bcast_S1x1x128_S4x4096x128_0_1_2 (broadcastInDim S1x1x128 ![2] bcast_S128_S1x1x128_2 (concatenate S128 0 [⟨S6, A1⟩, ⟨S122, (broadcastInDim S122 ![] bcast_S_S122 (constant S_ .f32 0x00000000#32))⟩] concatenates_S6_S122_S128_d0))))

def lsV (A0 : FVec F S4x4096x6912 .f32) (A1 : FVec F S6 .f32) : FVec F S4x4096x128 .f32 :=
  (Host.negf (select (cmpf .une (subf (Host.negf (gate A0 A1)) (broadcastInDim S4x4096x128 ![] bcast_S_S4x4096x128 (constant S_ .f32 0x00000000#32))) (subf (Host.negf (gate A0 A1)) (broadcastInDim S4x4096x128 ![] bcast_S_S4x4096x128 (constant S_ .f32 0x00000000#32)))) (addf (Host.negf (gate A0 A1)) (broadcastInDim S4x4096x128 ![] bcast_S_S4x4096x128 (constant S_ .f32 0x00000000#32))) (addf (maximumf (Host.negf (gate A0 A1)) (broadcastInDim S4x4096x128 ![] bcast_S_S4x4096x128 (constant S_ .f32 0x00000000#32))) (Host.log1p (Host.exp (Host.negf (Host.absf (subf (Host.negf (gate A0 A1)) (broadcastInDim S4x4096x128 ![] bcast_S_S4x4096x128 (constant S_ .f32 0x00000000#32))))))))))

def res (A0 : FVec F S4x4096x6912 .f32) (A1 : FVec F S6 .f32) : FVec F S4x4096x128 .f32 :=
  Host.divf (Host.reduceWindowAdd ![1, 4096, 1] ![1, 1, 1] ![0, 4095, 0] ![0, 0, 0] (lsV A0 A1) (broadcastInDim S_ ![] bcast_S_S_ (constant S_ .f32 0x00000000#32)) reduceWindows_S4x4096x128_S4x4096x128_w1s1p0_0_w4096s1p4095_0_w1s1p0_0 h_S_) (broadcastInDim S4x4096x128 ![] bcast_S_S4x4096x128 (Host.log (constant S_ .f32 0x40000000#32)))

end

theorem gate_apply (A0 : FVec Ideal S4x4096x6912 .f32) (A1 : FVec Ideal S6 .f32) (b : Fin 4) (s : Fin 4096) (n : Fin 128) :
    gate (F := Ideal) A0 A1 (ix3 b s n) = A0 (ix3 b s ⟨4352 + n.val, by omega⟩) + (if h : n.val < 6 then A1 (ix1 ⟨n.val, h⟩) else 0) := by
  pointwise [gate]

theorem lsV_apply (A0 : FVec Ideal S4x4096x6912 .f32) (A1 : FVec Ideal S6 .f32) (b : Fin 4) (s : Fin 4096) (n : Fin 128) :
    lsV (F := Ideal) A0 A1 (ix3 b s n) = logSig (gate (F := Ideal) A0 A1 (ix3 b s n)) := by
  pointwise [lsV, logSig]
  rw [if_neg (fun h => h rfl)]
  rfl

theorem sum_line (f : Fin 4096 → EReal) : (∑ w : (⟨3, ![1, 4096, 1]⟩ : Shape).Idx, f (w 1)) = ∑ k : Fin 4096, f k := by
  rw [sum_idx3]
  simp only [Fin.sum_univ_one]
  rfl

/-- The cumulative sum along the sequence, read at an entry. -/
theorem cumsum_apply (x : FVec Ideal S4x4096x128 .f32) (init : FVec Ideal S_ .f32) (hi : ∀ i, init i = 0) (b : Fin 4) (s : Fin 4096) (n : Fin 128) :
    Host.reduceWindowAdd (F := Ideal) ![1, 4096, 1] ![1, 1, 1] ![0, 4095, 0] ![0, 0, 0] x init reduceWindows_S4x4096x128_S4x4096x128_w1s1p0_0_w4096s1p4095_0_w1s1p0_0 h_S_ (ix3 b s n)
      = run (fun u => if h : u < 4096 then x (ix3 b ⟨u, h⟩ n) else 0) s.val := by
  have hb := b.isLt
  have hs := s.isLt
  have hn := n.isLt
  unfold Host.reduceWindowAdd
  rw [Ideal.hostReduceWindowAdd_def, hi]
  unfold Ideal.hostReduceWindowAdd Host.reduceWindow
  dsimp only
  rw [foldl_sum, zero_add]
  refine (congrArg List.sum (List.map_congr_left fun q _ => ?_)).trans ((sum_rowMajor ⟨3, ![1, 4096, 1]⟩ (fun w => if 4096 - 1 ≤ s.val + (w 1).val then
    (fun u => if h : u < 4096 then x (ix3 b ⟨u, h⟩ n) else 0) (s.val + (w 1).val - (4096 - 1)) else 0)).trans ?_)
  · have h0 : ((⟨3, ![1, 4096, 1]⟩ : Shape).rowMajor.symm q 0).val < 1 := ((⟨3, ![1, 4096, 1]⟩ : Shape).rowMajor.symm q 0).isLt
    have h1 : ((⟨3, ![1, 4096, 1]⟩ : Shape).rowMajor.symm q 1).val < 4096 := ((⟨3, ![1, 4096, 1]⟩ : Shape).rowMajor.symm q 1).isLt
    have h2 : ((⟨3, ![1, 4096, 1]⟩ : Shape).rowMajor.symm q 2).val < 1 := ((⟨3, ![1, 4096, 1]⟩ : Shape).rowMajor.symm q 2).isLt
    by_cases hle : 4096 - 1 ≤ s.val + ((⟨3, ![1, 4096, 1]⟩ : Shape).rowMajor.symm q 1).val
    · rw [if_pos hle, dif_pos (fun a => by
        fin_cases a
        · show 0 ≤ b.val * 1 + ((⟨3, ![1, 4096, 1]⟩ : Shape).rowMajor.symm q 0).val ∧ b.val * 1 + ((⟨3, ![1, 4096, 1]⟩ : Shape).rowMajor.symm q 0).val - 0 < 4; omega
        · show 4095 ≤ s.val * 1 + ((⟨3, ![1, 4096, 1]⟩ : Shape).rowMajor.symm q 1).val ∧ s.val * 1 + ((⟨3, ![1, 4096, 1]⟩ : Shape).rowMajor.symm q 1).val - 4095 < 4096; omega
        · show 0 ≤ n.val * 1 + ((⟨3, ![1, 4096, 1]⟩ : Shape).rowMajor.symm q 2).val ∧ n.val * 1 + ((⟨3, ![1, 4096, 1]⟩ : Shape).rowMajor.symm q 2).val - 0 < 128; omega)]
      dsimp only
      rw [dif_pos (show s.val + ((⟨3, ![1, 4096, 1]⟩ : Shape).rowMajor.symm q 1).val - (4096 - 1) < 4096 by omega)]
      refine congrArg x (funext fun a => Fin.ext ?_)
      fin_cases a
      · show b.val * 1 + ((⟨3, ![1, 4096, 1]⟩ : Shape).rowMajor.symm q 0).val - 0 = b.val; omega
      · show s.val * 1 + ((⟨3, ![1, 4096, 1]⟩ : Shape).rowMajor.symm q 1).val - 4095 = s.val + ((⟨3, ![1, 4096, 1]⟩ : Shape).rowMajor.symm q 1).val - (4096 - 1); omega
      · show n.val * 1 + ((⟨3, ![1, 4096, 1]⟩ : Shape).rowMajor.symm q 2).val - 0 = n.val; omega
    · rw [if_neg hle, dif_neg (fun h => hle (by
        have h1' : 4095 ≤ s.val * 1 + ((⟨3, ![1, 4096, 1]⟩ : Shape).rowMajor.symm q 1).val := (h 1).1
        omega))]
  · exact (sum_line (fun k => if 4096 - 1 ≤ s.val + k.val then (fun u => if h : u < 4096 then x (ix3 b ⟨u, h⟩ n) else 0) (s.val + k.val - (4096 - 1)) else 0)).trans
      (sum_shift 4096 s.val hs (fun u => if h : u < 4096 then x (ix3 b ⟨u, h⟩ n) else 0))

/-- A quotient by the host's logarithm of 2. -/
theorem div_log2 (x : EReal) : Ideal.div x (Ideal.log (Ideal.ofBits .f32 0x40000000#32)) = x * (((Real.log 2)⁻¹ : ℝ) : EReal) := by
  have h2 : Ideal.ofBits .f32 0x40000000#32 = ((2 : ℝ) : EReal) := by
    simp [Ideal.ofBits, Ideal.ieee, -EReal.coe_mul]
    try norm_num
  have hl : Ideal.log ((2 : ℝ) : EReal) = ((Real.log 2 : ℝ) : EReal) := if_neg (by norm_num)
  rw [h2, hl, Ideal.div_coe (Real.log_pos (by norm_num)).ne', one_div]

theorem res_apply (A0 : FVec Ideal S4x4096x6912 .f32) (A1 : FVec Ideal S6 .f32) (b : Fin 4) (s : Fin 4096) (n : Fin 128) :
    res (F := Ideal) A0 A1 (ix3 b s n)
      = run (fun u => if h : u < 4096 then logSig (A0 (ix3 b ⟨u, h⟩ ⟨4352 + n.val, by omega⟩) + (if h : n.val < 6 then A1 (ix1 ⟨n.val, h⟩) else 0)) else 0) s.val
        * (((Real.log 2)⁻¹ : ℝ) : EReal) := by
  unfold res
  refine (congrArg₂ Ideal.div ((cumsum_apply _ _ (fun i => ?_) b s n).trans ?_) rfl).trans (div_log2 _)
  · pointwise
  · simp only [lsV_apply, gate_apply]

end Cert.FcumRefIdeal.RefValue

end
-- ==== Proof.FcumTerm.lean ====
module

public import proofs.«01_k».proof.Proof.Gen.FcumIdeal.Value
public import proofs.«01_k».proof.Proof.FcumMath
public import Idealize.ShloMosaic.Lib.Pointwise
public import Idealize.ShloMosaic.Lib.WritesUnit
public import Idealize.ShloMosaic.Lib.Claim

@[expose] public section

set_option maxRecDepth 16384

noncomputable section

namespace Cert.FcumIdeal.Fcum

open Cert.FcumIdeal Cert.FcumIdeal.Gen Idealize.ShloMosaic Idealize.ShloMosaic.TcCoe Idealize.SL.Sem Cert.FcumMath

theorem hz2 : (![0, 0] : Fin 2 → Nat) = fun _ => 0 := funext fun a => by fin_cases a <;> rfl
theorem hz3 : (![0, 0, 0] : Fin 3 → Nat) = fun _ => 0 := funext fun a => by fin_cases a <;> rfl

section
variable {F : FTy → Type} [FloatOps F] [Named F]

variable (c : Dev nD) (i : grid0.Coords)
  (a2 : Memref sig .tc .vmem S1x512x128 .f32) (h2 : a2.IsWhole) (a3 : Memref sig .tc .vmem S1x128 .f32) (h3 : a3.IsWhole)
  (a4 : Memref sig .tc .vmem S512x512 .f32) (h4 : a4.IsWhole) (a5 : Memref sig .tc .vmem S1x512x128 .f32) (h5 : a5.IsWhole)
  (a6 : Memref sig .tc .vmem S1x128 .f32) (h6 : a6.IsWhole)
  (x0 : Vec F S1x512x128 .f32) (x1 : Vec F S1x128 .f32) (x2 : Vec F S512x512 .f32) (xs0 : Vec F S1x128 .f32)

/-! ## What a grid point leaves -/

theorem out_B (hc0 : ¬cond0_0 i) : out0_B_3 c i a2 h2 a3 h3 a4 h4 a5 h5 a6 h6 hc0 x0 x1 x2 xs0 = k0_pay3 x0 x1 x2 xs0 := by
  unfold out0_B_3
  rw [View.read_writes_eq_canon _ _ _ (cover0_B_3 c i a2 h2 a3 h3 a4 h4 a5 h5 a6 h6 hc0 x0 x1 x2 xs0)]
  unfold kernelRun0_B
  dsimp only
  sl_unfold_words
  rw [View.canon_unit_zero hz3]
  simp only [View.readAt_eq_ld, h2.read_unread, h3.read_unread, h4.read_unread, h6.read_unread,
    View.ld_unit_zero (S := S1x128) hz2, View.ld_unit_zero (S := S512x512) hz2, View.ld_unit_zero (S := S1x512x128) hz3]

theorem scr_B (hc0 : ¬cond0_0 i) : sout0_B_0 c i a2 h2 a3 h3 a4 h4 a5 h5 a6 h6 hc0 x0 x1 x2 xs0 = k0_pay4 x0 x1 x2 xs0 := by
  unfold sout0_B_0
  rw [View.read_writes_eq_canon _ _ _ (scover0_B_0 c i a2 h2 a3 h3 a4 h4 a5 h5 a6 h6 hc0 x0 x1 x2 xs0)]
  unfold kernelRun0_B
  dsimp only
  sl_unfold_words
  rw [View.canon_unit_zero hz2]
  simp only [View.readAt_eq_ld, h2.read_unread, h3.read_unread, h4.read_unread, h6.read_unread,
    View.ld_unit_zero (S := S1x128) hz2, View.ld_unit_zero (S := S512x512) hz2, View.ld_unit_zero (S := S1x512x128) hz3]

theorem out_A (hc0 : cond0_0 i) : out0_A_3 c i a2 h2 a3 h3 a4 h4 a5 h5 a6 h6 hc0 x0 x1 x2 = k0_pay3 x0 x1 x2 k0_pay1 := by
  unfold out0_A_3
  rw [View.read_writes_eq_canon _ _ _ (cover0_A_3 c i a2 h2 a3 h3 a4 h4 a5 h5 a6 h6 hc0 x0 x1 x2)]
  unfold kernelRun0_A
  dsimp only
  sl_unfold_words
  rw [View.canon_unit_zero hz3]
  simp only [View.readAt_eq_ld, h2.read_unread, h3.read_unread, h4.read_unread, h6.read_unread,
    View.ld_unit_zero (S := S1x128) hz2, View.ld_unit_zero (S := S512x512) hz2, View.ld_unit_zero (S := S1x512x128) hz3, View.readCov_unit_zero (S := S1x128) _ hz2]

theorem scr_A (hc0 : cond0_0 i) : sout0_A_0 c i a2 h2 a3 h3 a4 h4 a5 h5 a6 h6 hc0 x0 x1 x2 = k0_pay4 x0 x1 x2 k0_pay1 := by
  unfold sout0_A_0
  rw [View.read_writes_eq_canon _ _ _ (scover0_A_0 c i a2 h2 a3 h3 a4 h4 a5 h5 a6 h6 hc0 x0 x1 x2)]
  unfold kernelRun0_A
  dsimp only
  sl_unfold_words
  rw [View.canon_cons_unit_zero (S := S1x128) hz2]
  simp only [View.readAt_eq_ld, h2.read_unread, h3.read_unread, h4.read_unread, h6.read_unread,
    View.ld_unit_zero (S := S1x128) hz2, View.ld_unit_zero (S := S512x512) hz2, View.ld_unit_zero (S := S1x512x128) hz3, View.readCov_unit_zero (S := S1x128) _ hz2]

end

/-! ## The payloads, read at an entry -/

theorem pay1_apply (n : Fin 128) : k0_pay1 (F := Ideal) (ix2 0 n) = 0 := by
  pointwise [k0_pay1]

theorem pay2_apply (v3 : Vec Ideal S1x512x128 .f32) (v5 : Vec Ideal S1x128 .f32) (v19 : Vec Ideal S512x512 .f32) (v22 : Vec Ideal S1x128 .f32) (r : Fin 512) (n : Fin 128) :
    k0_pay2 (F := Ideal) v3 v5 v19 v22 (ix2 r n) = (∑ k : Fin 512, v19 (ix2 r k) * logSig (v3 (ix3 0 k n) + v5 (ix2 0 n))) + v22 (ix2 0 n) := by
  simp only [← logSig_kernel]
  pointwise [k0_pay2]
  rfl

/-- The named constant is log₂ e. -/
theorem log2_e : Named.named (F := Ideal) κ "log2_e" (φ := .f32) 0x3FB8AA3B#32 = (((Real.log 2)⁻¹ : ℝ) : EReal) :=
  IdealRules.named_const.ideal_named_scalar _ _ _ _ rfl

theorem pay3_apply (v3 : Vec Ideal S1x512x128 .f32) (v5 : Vec Ideal S1x128 .f32) (v19 : Vec Ideal S512x512 .f32) (v22 : Vec Ideal S1x128 .f32) (r : Fin 512) (n : Fin 128) :
    k0_pay3 (F := Ideal) v3 v5 v19 v22 (ix3 0 r n) = k0_pay2 (F := Ideal) v3 v5 v19 v22 (ix2 r n) * (((Real.log 2)⁻¹ : ℝ) : EReal) := by
  rw [← log2_e]
  pointwise [k0_pay3]

theorem pay4_apply (v3 : Vec Ideal S1x512x128 .f32) (v5 : Vec Ideal S1x128 .f32) (v19 : Vec Ideal S512x512 .f32) (v22 : Vec Ideal S1x128 .f32) (n : Fin 128) :
    k0_pay4 (F := Ideal) v3 v5 v19 v22 (ix2 0 n) = k0_pay2 (F := Ideal) v3 v5 v19 v22 (ix2 511 n) := by
  pointwise [k0_pay4]

end Cert.FcumIdeal.Fcum

end
-- ==== Proof.FcumBlk.lean ====
module

public import proofs.«01_k».proof.Proof.FcumTerm
public import Idealize.ShloMosaic.Lib.Pointwise
public import Idealize.ShloMosaic.Lib.Claim
public import Idealize.ShloMosaic.Lib.Routing.OpsSet
public import Idealize.ShloMosaic.Lib.Pipeline.ValueKit.Point

@[expose] public section

set_option maxRecDepth 16384
set_option maxRecDepth 16384

noncomputable section

namespace Cert.FcumIdeal.Fcum

open Cert.FcumIdeal Cert.FcumIdeal.Gen Idealize.ShloMosaic Idealize.ShloMosaic.TcCoe Idealize.SL.Sem Cert.FcumMath
open Idealize.ShloMosaic.Pipeline (Dat)

variable (m : (ℓ : Loc nD τ sig) → Buf (Elt Ideal) ℓ) (c : Dev nD)

abbrev A0 : FVec Ideal S4x4096x6912 .f32 := m ((c : Thread nD τ).loc main_arg0)
abbrev A1 : FVec Ideal S6 .f32 := m ((c : Thread nD τ).loc main_arg1)

/-- The bias on lane `n`: the argument's on the six heads' lanes, zero on the padding. -/
abbrev bF (n : Fin 128) : EReal := if h : n.val < 6 then A1 m c (ix1 ⟨n.val, h⟩) else 0

theorem idx_facts : ∀ t : Fin cfg0.N,
    win0_0.index t = ![t.val / 8, t.val % 8, 34] ∧ win0_1.index t = ![0, 0] ∧ win0_2.index t = ![0, 0] ∧ win0_3.index t = ![t.val / 8, t.val % 8, 0] :=
  (by decide +kernel : ∀ t : Fin grid0.N, _)

theorem t_lt (t : Fin cfg0.N) : t.val < 32 := lt_of_lt_of_eq t.isLt N_0

/-! ## The padded bias -/

theorem scatter_bias (x : FVec Ideal S1x128 .f32) (u : FVec Ideal S6 .f32) (idx : IVec S2 32) (hidx : ∀ j, (idx j).toInt = 0) (n : Fin 128) :
    Host.scatter scatter_S1x128_S2_S6_0_0_01_0 (fun _ b => b) x idx u (ix2 0 n) = if h : n.val < 6 then u (ix1 ⟨n.val, h⟩) else x (ix2 0 n) := by
  have hs : ∀ (k : S6.Idx) a, scatter_S1x128_S2_S6_0_0_01_0.start k idx a = 0 := by
    intro k a
    unfold ScatterDims.start
    split
    · exact hidx _
    · rfl
  have hw0 : ∀ k : S6.Idx, scatter_S1x128_S2_S6_0_0_01_0.window k 0 = 0 := fun k => rfl
  have hw1 : ∀ k : S6.Idx, scatter_S1x128_S2_S6_0_0_01_0.window k 1 = (k 0).val := fun k => rfl
  have hr : ∀ k : S6.Idx, scatter_S1x128_S2_S6_0_0_01_0.resultIdx? k idx = some (ix2 (0 : Fin 1) (⟨(k 0).val, by have h : (k 0).val < 6 := (k 0).isLt; omega⟩ : Fin 128)) := by
    intro k
    have h0 : (k 0).val < 6 := (k 0).isLt
    unfold ScatterDims.resultIdx?
    rw [dif_pos]
    · refine congrArg some (funext fun a => Fin.ext ?_)
      fin_cases a
      · show (scatter_S1x128_S2_S6_0_0_01_0.start k idx 0 + scatter_S1x128_S2_S6_0_0_01_0.window k 0).toNat = 0
        rw [hs, hw0]; rfl
      · show (scatter_S1x128_S2_S6_0_0_01_0.start k idx 1 + scatter_S1x128_S2_S6_0_0_01_0.window k 1).toNat = (k 0).val
        rw [hs, hw1]; omega
    · intro a
      rw [hs]
      fin_cases a
      · show (0 : Int) ≤ 0 + (scatter_S1x128_S2_S6_0_0_01_0.window k 0 : Int) ∧ 0 + (scatter_S1x128_S2_S6_0_0_01_0.window k 0 : Int) < (1 : ℕ)
        rw [hw0]; omega
      · show (0 : Int) ≤ 0 + (scatter_S1x128_S2_S6_0_0_01_0.window k 1 : Int) ∧ 0 + (scatter_S1x128_S2_S6_0_0_01_0.window k 1 : Int) < (128 : ℕ)
        rw [hw1]; omega
  by_cases h : n.val < 6
  · rw [dif_pos h]
    refine Routing.scatter_set_hit _ x idx u _ _ (fun k hk => ?_) (ix1 (⟨n.val, h⟩ : Fin 6)) ?_
    · rw [hr] at hk
      have e := Option.some.inj hk
      have e1 : (k 0).val = n.val := congrArg (fun y : S1x128.Idx => (y 1).val) e
      refine congrArg u (funext fun a => Fin.ext ?_)
      fin_cases a
      exact e1
    · exact hr _
  · rw [dif_neg h]
    refine Routing.scatter_set_miss _ x idx u _ (fun k hk => h ?_)
    rw [hr] at hk
    have e := Option.some.inj hk
    have e1 : (k 0).val = n.val := congrArg (fun y : S1x128.Idx => (y 1).val) e
    have h0 : (k 0).val < 6 := (k 0).isLt
    omega

theorem idx_zero (a b : IVec S1 32) (ha : ∀ j, (a j).toInt = 0) (hb : ∀ j, (b j).toInt = 0) (j : S2.Idx) :
    (concatenate S2 0 [⟨S1, a⟩, ⟨S1, b⟩] concatenates_S1_S1_S2_d0 j).toInt = 0 := by
  obtain ⟨k, rfl⟩ : ∃ k : Fin 2, j = ix1 k := ⟨j 0, eq_ix1 j⟩
  match k with
  | 0 => exact ha _
  | 1 => exact hb _

theorem V_bias_eq : V m c main_v6 = Host.scatter scatter_S1x128_S2_S6_0_0_01_0 (fun _ b => b) (broadcastInDim S1x128 ![] bcast_S_S1x128 (constant (F := Ideal) S_ .f32 0x00000000#32))
    (concatenate S2 0 [⟨S1, broadcastInDim S1 ![] bcast_S_S1 (constantI S_ 32 0#32)⟩, ⟨S1, broadcastInDim S1 ![] bcast_S_S1 (constantI S_ 32 0#32)⟩] concatenates_S1_S1_S2_d0) (A1 m c) := by
  show StableHlo.after (List.flatten [hostOps0, hostOps0_1, hostOps0_2]) (fun b => m (c, b)) (Proc.devRef .tc main_v6) = _
  simp only [hostOps0, hostOps0_1, hostOps0_2, List.flatten_cons, List.flatten_nil, List.append_nil, List.cons_append, List.nil_append]
  simp only [StableHlo.TRef.binary, StableHlo.TRef.nullary, StableHlo.TRef.ternary, StableHlo.TRef.unary, StableHlo.TRef.toBuf, StableHlo.TRef.ofBuf, cast_eq]
  after_results

theorem V_bias (n : Fin 128) : V m c main_v6 (ix2 0 n) = bF m c n := by
  rw [V_bias_eq]
  refine (scatter_bias _ _ _ ?_ n).trans ?_
  · intro j
    exact idx_zero _ _ (fun _ => rfl) (fun _ => rfl) j
  unfold bF
  split
  · rfl
  · pointwise

/-! ## The lower triangle of ones -/

abbrev triF (r k : Fin 512) : EReal := if k.val ≤ r.val then 1 else 0

theorem V_tri_eq : V m c main_v1 = select (cmpi .sge (addi (iotaInDim S512x512 32 0) (broadcastInDim S512x512 ![] bcast_S_S512x512 (constantI S_ 32 0#32))) (iotaInDim S512x512 32 1))
    (broadcastInDim S512x512 ![] bcast_S_S512x512 (constant (F := Ideal) S_ .f32 0x3F800000#32)) (broadcastInDim S512x512 ![] bcast_S_S512x512 (constant (F := Ideal) S_ .f32 0x00000000#32)) := by
  show StableHlo.after (List.flatten [hostOps0, hostOps0_1, hostOps0_2]) (fun b => m (c, b)) (Proc.devRef .tc main_v1) = _
  simp only [hostOps0, hostOps0_1, hostOps0_2, List.flatten_cons, List.flatten_nil, List.append_nil, List.cons_append, List.nil_append]
  simp only [StableHlo.TRef.binary, StableHlo.TRef.nullary, StableHlo.TRef.ternary, StableHlo.TRef.unary, StableHlo.TRef.toBuf, StableHlo.TRef.ofBuf, cast_eq]
  after_results

theorem V_tri (r k : Fin 512) : V m c main_v1 (ix2 r k) = triF r k := by
  have h : (BitVec.ofNat 32 k.val).sle (IntOp.addi (BitVec.ofNat 32 r.val) 0#32) = decide (k.val ≤ r.val) := by
    have hr : (BitVec.ofNat 32 r.val).toInt = r.val := by
      have h := r.isLt
      rw [BitVec.toInt_eq_toNat_of_lt] <;> rw [BitVec.toNat_ofNat, Nat.mod_eq_of_lt] <;> omega
    have hk : (BitVec.ofNat 32 k.val).toInt = k.val := by
      have h := k.isLt
      rw [BitVec.toInt_eq_toNat_of_lt] <;> rw [BitVec.toNat_ofNat, Nat.mod_eq_of_lt] <;> omega
    unfold BitVec.sle IntOp.addi
    rw [BitVec.add_zero, hr, hk]
    exact decide_eq_decide.mpr Int.ofNat_le
  rw [V_tri_eq]
  pointwise [triF]
  unfold IntOp.cmpi Scalar.select
  simp only [h]
  by_cases hk : k.val ≤ r.val <;> simp [hk]

/-! ## The blocks -/

theorem blk0 (t : Fin cfg0.N) (r : Fin 512) (n : Fin 128) :
    iblk m c 0 t (ix3 0 r n) = A0 m c (ix3 ⟨t.val / 8, by have h := t_lt t; omega⟩ ⟨512 * (t.val % 8) + r.val, by omega⟩ ⟨4352 + n.val, by omega⟩) := by
  have e : V m c main_arg0 = A0 m c := V_main_arg0 m c
  rw [← e]
  blk_ext [iblk, (idx_facts t).1]
theorem blk1 (t : Fin cfg0.N) (n : Fin 128) : iblk m c 1 t (ix2 0 n) = bF m c n := by
  rw [← V_bias]
  blk_ext [iblk, (idx_facts t).2.1]
theorem blk2 (t : Fin cfg0.N) (r k : Fin 512) : iblk m c 2 t (ix2 r k) = triF r k := by
  rw [← V_tri m c]
  blk_ext [iblk, (idx_facts t).2.2.1]

end Cert.FcumIdeal.Fcum

end
-- ==== Proof.FcumKernel.lean ====
module

public import proofs.«01_k».proof.Proof.FcumBlk

@[expose] public section

set_option maxRecDepth 16384

noncomputable section

namespace Cert.FcumIdeal.Fcum

open Cert.FcumIdeal Cert.FcumIdeal.Gen Cert.FcumIdeal.Value Idealize.ShloMosaic Idealize.ShloMosaic.TcCoe Idealize.SL.Sem Cert.FcumMath

variable (m : (ℓ : Loc nD τ sig) → Buf (Elt Ideal) ℓ) (c : Dev nD)

/-! ## The kernel's sweep over a sequence -/

/-- The log-gate of position `u` of sequence `b` on lane `n`. -/
abbrev gF (b : Fin 4) (n : Fin 128) (u : ℕ) : EReal := if h : u < 4096 then logSig (A0 m c (ix3 b ⟨u, h⟩ ⟨4352 + n.val, by omega⟩) + bF m c n) else 0

theorem outs_A (t : Fin cfg0.N) (h0 : t.val % 8 = 0) :
    outsAt0 m c t.val t.isLt = (k0_pay3 (F := Ideal) (iblk m c 0 t) (iblk m c 1 t) (iblk m c 2 t) (k0_pay1 (F := Ideal)), k0_pay4 (F := Ideal) (iblk m c 0 t) (iblk m c 1 t) (iblk m c 2 t) (k0_pay1 (F := Ideal))) := by
  rw [outsAt0_A m c t h0, out_A, scr_A]

theorem outs_B (t : Fin cfg0.N) (h0 : ¬t.val % 8 = 0) :
    outsAt0 m c t.val t.isLt = (k0_pay3 (F := Ideal) (iblk m c 0 t) (iblk m c 1 t) (iblk m c 2 t) (outsAt0 m c (t.val - 1) (Nat.lt_of_le_of_lt (Nat.sub_le _ _) t.isLt)).2,
      k0_pay4 (F := Ideal) (iblk m c 0 t) (iblk m c 1 t) (iblk m c 2 t) (outsAt0 m c (t.val - 1) (Nat.lt_of_le_of_lt (Nat.sub_le _ _) t.isLt)).2) := by
  rw [outsAt0_B m c t h0, out_B, scr_B]

/-- One tile's running sums over a carry that holds the tiles before. -/
theorem tile_at (t : Fin cfg0.N) (b : Fin 4) (hb : b.val = t.val / 8) (xs0 : Vec Ideal S1x128 .f32)
    (h0 : ∀ n, xs0 (ix2 0 n) = ∑ s ∈ Finset.range (512 * (t.val % 8)), gF m c b n s) (r : Fin 512) (n : Fin 128) :
    k0_pay2 (F := Ideal) (iblk m c 0 t) (iblk m c 1 t) (iblk m c 2 t) xs0 (ix2 r n) = run (gF m c b n) (512 * (t.val % 8) + r.val) := by
  have ht := t_lt t
  rw [pay2_apply, h0, ← run_tile, ← tri_sum]
  refine congrArg (· + _) (Finset.sum_congr rfl fun k _ => ?_)
  rw [blk0, blk1, blk2]
  refine congrArg ((if k.val ≤ r.val then (1 : EReal) else 0) * ·) ?_
  have hk : 512 * (t.val % 8) + k.val < 4096 := by omega
  unfold gF
  rw [dif_pos hk]
  have e : (⟨t.val / 8, by omega⟩ : Fin 4) = b := Fin.ext hb.symm
  rw [e]

theorem inv (n : ℕ) (hn : n < cfg0.N) (b : Fin 4) (hb : b.val = n / 8) :
    (∀ r k, (outsAt0 m c n hn).1 (ix3 0 r k) = run (gF m c b k) (512 * (n % 8) + r.val) * (((Real.log 2)⁻¹ : ℝ) : EReal))
      ∧ ∀ k, (outsAt0 m c n hn).2 (ix2 0 k) = ∑ s ∈ Finset.range (512 * (n % 8 + 1)), gF m c b k s := by
  have fin : ∀ (t : Fin cfg0.N) (hb : b.val = t.val / 8) (xs0 : Vec Ideal S1x128 .f32), (∀ n, xs0 (ix2 0 n) = ∑ s ∈ Finset.range (512 * (t.val % 8)), gF m c b n s) →
      outsAt0 m c t.val t.isLt = (k0_pay3 (F := Ideal) (iblk m c 0 t) (iblk m c 1 t) (iblk m c 2 t) xs0, k0_pay4 (F := Ideal) (iblk m c 0 t) (iblk m c 1 t) (iblk m c 2 t) xs0) →
      (∀ r k, (outsAt0 m c t.val t.isLt).1 (ix3 0 r k) = run (gF m c b k) (512 * (t.val % 8) + r.val) * (((Real.log 2)⁻¹ : ℝ) : EReal))
        ∧ ∀ k, (outsAt0 m c t.val t.isLt).2 (ix2 0 k) = ∑ s ∈ Finset.range (512 * (t.val % 8 + 1)), gF m c b k s := by
    intro t hb xs0 h0 e
    rw [e]
    refine ⟨fun r k => ?_, fun k => ?_⟩
    · dsimp only
      rw [pay3_apply, tile_at m c t b hb xs0 h0]
    · dsimp only
      rw [pay4_apply, tile_at m c t b hb xs0 h0]
      rfl
  induction n with
  | zero =>
    refine fin ⟨0, hn⟩ hb _ (fun n => ?_) (outs_A m c ⟨0, hn⟩ rfl)
    rw [pay1_apply]
    exact Finset.sum_range_zero _ |>.symm
  | succ n ih =>
    by_cases h0 : (n + 1) % 8 = 0
    · refine fin ⟨n + 1, hn⟩ hb _ (fun k => ?_) (outs_A m c ⟨n + 1, hn⟩ h0)
      rw [pay1_apply]
      dsimp only
      rw [h0]
      exact Finset.sum_range_zero _ |>.symm
    · refine fin ⟨n + 1, hn⟩ hb _ (fun k => ?_) (outs_B m c ⟨n + 1, hn⟩ h0)
      have hm : (n + 1) % 8 = n % 8 + 1 := by omega
      dsimp only
      rw [hm]
      exact (ih (Nat.lt_of_succ_lt hn) (by omega)).2 k

theorem G_apply (b : Fin 4) (s : Fin 4096) (n : Fin 128) :
    G3 m c (ix3 b s n) = run (gF m c b n) s.val * (((Real.log 2)⁻¹ : ℝ) : EReal) := by
  have hp : pt3Of (ix3 b s n) = 8 * b.val + s.val / 512 := by
    show 8 * (b.val / 1 - 0) + 1 * (s.val / 512 - 0) + 1 * (n.val / 128 - 0) = _
    omega
  have hN : pt3Of (ix3 b s n) < cfg0.N := by rw [hp]; exact lt_of_lt_of_eq (by omega : _ < 32) N_0.symm
  unfold G3
  rw [dif_pos hN, ← outsAt0_sweep m c (pt3Of (ix3 b s n)) hN]
  have hl : loc3Of (ix3 b s n) = ix3 0 ⟨s.val % 512, by omega⟩ n := by
    funext a
    apply Fin.ext
    fin_cases a
    · exact Nat.mod_one _
    · rfl
    · exact Nat.mod_eq_of_lt n.isLt
  rw [hl, (inv m c (pt3Of (ix3 b s n)) hN b (by rw [hp]; omega)).1]
  refine congrArg (run (gF m c b n) · * _) ?_
  rw [hp]
  dsimp only
  omega

end Cert.FcumIdeal.Fcum

end
-- ==== Proof.FfnMath.lean ====
module

public import Idealize.ShloMosaic.Lib.Pointwise

@[expose] public section

noncomputable section

namespace Cert.Ffn

open Idealize.ShloMosaic

/-! ## The layer's function, on extended reals

The rows of the four sequences of 4096 tokens are numbered `4096 b + t`. -/

/-- A row of 2048 entries scaled to unit root mean square, then by the gains. -/
def nrm (x g : Fin 2048 → EReal) (k : Fin 2048) : EReal :=
  x k * Ideal.rsqrt (Ideal.div (∑ l, x l * x l) (Ideal.ofBits .f32 0x45000000#32) + Ideal.ofBits .f32 0x358637BD#32) * g k

/-- The activation: gelu by `tanh` of the convolution `y`, times the up projection `u`. -/
def gelu (y u : EReal) : EReal :=
  Ideal.ofBits .f32 0x3F000000#32 * y
    * (Ideal.ofBits .f32 0x3F800000#32 + Ideal.tanh (Ideal.ofBits .f32 0x3F4C422A#32 * (y + Ideal.ofBits .f32 0x3D372713#32 * y * y * y))) * u

variable (H : Fin 16384 → Fin 2048 → EReal) (g : Fin 2048 → EReal) (wg wu : Fin 2048 → Fin 5632 → EReal)
  (cw : Fin 3 → Fin 5632 → EReal) (cb : Fin 5632 → EReal) (wd : Fin 5632 → Fin 2048 → EReal)

/-- One row's projection. -/
def proj (w : Fin 2048 → Fin 5632 → EReal) (r : Fin 16384) (f : Fin 5632) : EReal := ∑ k, nrm (H r) g k * w k f

/-- The gate `d` tokens back; zero before the sequence's first token. -/
def back (d : ℕ) (r : Fin 16384) (f : Fin 5632) : EReal :=
  if d ≤ r.val % 4096 then proj H g wg ⟨r.val - d, by omega⟩ f else 0

/-- The causal convolution of width 3 over a sequence. -/
def conv (r : Fin 16384) (f : Fin 5632) : EReal :=
  back H g wg 2 r f * cw 0 f + back H g wg 1 r f * cw 1 f + back H g wg 0 r f * cw 2 f + cb f

def act (r : Fin 16384) (f : Fin 5632) : EReal := gelu (conv H g wg cw cb r f) (proj H g wu r f)

def out (r : Fin 16384) (n : Fin 2048) : EReal := H r n + ∑ f, act H g wg wu cw cb r f * wd f n

end Cert.Ffn

end
-- ==== Proof.InMath.lean ====
module

public import Idealize.ShloMosaic.Lib.Pointwise
public import proofs.«01_k».proof.Proof.FfnMath

@[expose] public section

set_option maxRecDepth 16384

noncomputable section

namespace Cert.InMath

open Idealize.ShloMosaic Cert.Ffn

/-! ## The input projection, on extended reals -/

/-- The weight with its columns padded to whole lanes: zeros after the six-column gate, and at the end. -/
def wpad (w : Fin 2048 → Fin 6662 → EReal) (k : Fin 2048) (n : Fin 6912) : EReal :=
  if h : n.val < 4358 then w k ⟨n.val, by omega⟩
  else if n.val < 4480 then 0
  else if h : n.val < 6784 then w k ⟨n.val - 122, by omega⟩
  else 0

/-- The normed rows times the padded weight. -/
def inOut (H : Fin 16384 → Fin 2048 → EReal) (g : Fin 2048 → EReal) (w : Fin 2048 → Fin 6662 → EReal) (r : Fin 16384) (n : Fin 6912) : EReal :=
  ∑ k, nrm (H r) g k * wpad w k n

/-- A column of the projection itself. -/
def col (H : Fin 16384 → Fin 2048 → EReal) (g : Fin 2048 → EReal) (w : Fin 2048 → Fin 6662 → EReal) (r : Fin 16384) (n : Fin 6662) : EReal :=
  ∑ k, nrm (H r) g k * w k n

variable (H : Fin 16384 → Fin 2048 → EReal) (g : Fin 2048 → EReal) (w : Fin 2048 → Fin 6662 → EReal) (r : Fin 16384) (n : Fin 6912)

theorem inOut_eq : inOut H g w r n = if h : n.val < 4358 then col H g w r ⟨n.val, by omega⟩
    else if n.val < 4480 then 0 else if h : n.val < 6784 then col H g w r ⟨n.val - 122, by omega⟩ else 0 := by
  unfold inOut wpad col
  split_ifs
  · rfl
  · exact Finset.sum_eq_zero fun k _ => mul_zero _
  · rfl
  · exact Finset.sum_eq_zero fun k _ => mul_zero _

end Cert.InMath

end
-- ==== Proof.InRef.lean ====
module

public import proofs.«01_k».proof.Proof.Gen.InProjRefIdeal.Run
public import proofs.«01_k».proof.Proof.InMath
public import Idealize.ShloMosaic.Lib.Pointwise
public import Idealize.ShloMosaic.Lib.KernelVsHost

@[expose] public section

set_option maxRecDepth 16384

noncomputable section

namespace Cert.InProjRefIdeal.RefValue

open Cert.InProjRefIdeal Cert.InProjRefIdeal.Gen Cert.InProjRefIdeal.Value Idealize.ShloMosaic Idealize.ShloMosaic.TcCoe Idealize.SL.Sem Cert.Ffn Cert.InMath

section
variable {F : FTy → Type} [FloatOps F]

/-! ## The reference's term -/

def norm (A0 : FVec F S4x4096x2048 .f32) (A1 : FVec F S2048 .f32) : FVec F S4x4096x2048 .f32 :=
  (mulf (mulf A0 (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf A0 A0) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 A1)))

def proj (A0 : FVec F S4x4096x2048 .f32) (A1 : FVec F S2048 .f32) (A2 : FVec F S2048x6662 .f32) : FVec F S16384x6662 .f32 :=
  (shapeCast _ (Host.dotGeneral dot_S4x4096x2048_S2048x6662_S4x4096x6662_2_0_01_1_n_n none (norm A0 A1) A2) shapeCasts_S4x4096x6662_S16384x6662)

def res (A0 : FVec F S4x4096x2048 .f32) (A1 : FVec F S2048 .f32) (A2 : FVec F S2048x6662 .f32) : FVec F S16384x6912 .f32 :=
  (concatenate S16384x6912 1 [⟨S16384x4358, ((extractStridedSlice S16384x4358 ![0, 0] (proj A0 A1 A2) slices_S16384x6662_S16384x4358_0_0) : (⟨S16384x4358, .f32⟩ : BufTy).Contents (Elt F))⟩, ⟨S16384x122, ((broadcastInDim S16384x122 ![] bcast_S_S16384x122 (constant S_ .f32 0x00000000#32)) : (⟨S16384x122, .f32⟩ : BufTy).Contents (Elt F))⟩, ⟨S16384x2304, ((extractStridedSlice S16384x2304 ![0, 4358] (proj A0 A1 A2) slices_S16384x6662_S16384x2304_0_4358) : (⟨S16384x2304, .f32⟩ : BufTy).Contents (Elt F))⟩, ⟨S16384x128, ((broadcastInDim S16384x128 ![] bcast_S_S16384x128 (constant S_ .f32 0x00000000#32)) : (⟨S16384x128, .f32⟩ : BufTy).Contents (Elt F))⟩] concatenates_S16384x4358_S16384x122_S16384x2304_S16384x128_S16384x6912_d1 : (⟨S16384x6912, .f32⟩ : BufTy).Contents (Elt F))

end

theorem norm_apply (A0 : FVec Ideal S4x4096x2048 .f32) (A1 : FVec Ideal S2048 .f32) (b : Fin 4) (t : Fin 4096) (k : Fin 2048) :
    norm (F := Ideal) A0 A1 (ix3 b t k) = nrm (fun l => A0 (ix3 b t l)) (fun l => A1 (ix1 l)) k := by
  pointwise [norm, nrm]

theorem proj_apply (A0 : FVec Ideal S4x4096x2048 .f32) (A1 : FVec Ideal S2048 .f32) (A2 : FVec Ideal S2048x6662 .f32) (r : Fin 16384) (n : Fin 6662) :
    proj (F := Ideal) A0 A1 A2 (ix2 r n)
      = col (fun r k => A0 (ix3 ⟨r.val / 4096, by omega⟩ ⟨r.val % 4096, by omega⟩ k)) (fun k => A1 (ix1 k)) (fun k n => A2 (ix2 k n)) r n := by
  pointwise [proj, col, norm_apply]

theorem res_apply (A0 : FVec Ideal S4x4096x2048 .f32) (A1 : FVec Ideal S2048 .f32) (A2 : FVec Ideal S2048x6662 .f32) (r : Fin 16384) (n : Fin 6912) :
    res (F := Ideal) A0 A1 A2 (ix2 r n)
      = inOut (fun r k => A0 (ix3 ⟨r.val / 4096, by omega⟩ ⟨r.val % 4096, by omega⟩ k)) (fun k => A1 (ix1 k)) (fun k n => A2 (ix2 k n)) r n := by
  rw [inOut_eq]
  pointwise [res, proj_apply]
  have hn := n.isLt
  by_cases h1 : n.val < 4358
  · rw [dif_pos h1, dif_pos h1]
  rw [dif_neg h1, dif_neg h1]
  by_cases h2 : n.val < 4480
  · rw [dif_pos (show n.val - 4358 < 122 by omega), if_pos h2]
  rw [dif_neg (show ¬ n.val - 4358 < 122 by omega), if_neg h2]
  by_cases h3 : n.val < 6784
  · rw [dif_pos (show n.val - 4358 - 122 < 2304 by omega), dif_pos h3]
    refine congrArg (col _ _ _ r) (Fin.ext ?_)
    show 4358 + (n.val - 4358 - 122) = n.val - 122
    omega
  · rw [dif_neg (show ¬ n.val - 4358 - 122 < 2304 by omega), dif_neg h3]

end Cert.InProjRefIdeal.RefValue

end
-- ==== Proof.InRun.lean ====
module

public import proofs.«01_k».proof.Proof.Gen.InProjIdeal.Frame
public import proofs.«01_k».proof.Proof.Gen.InProjIdeal.Skeleton
public import Idealize.ShloMosaic.Lib.WritesUnit
public import Idealize.ShloMosaic.Lib.Pointwise

@[expose] public section

set_option maxRecDepth 16384

noncomputable section

namespace Cert.InProjIdeal.In

open Cert.InProjIdeal Cert.InProjIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! What the body does at a point, with the two scratch tiles named: the one read (the tile of this row of
    the grid) and the one filled (the next tile, 128 rows per point). -/

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The condition of the first branch: the first point of the grid. -/
abbrev first (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

/-- The tile `s` with rows `[o, o + 128)` replaced by `w`. -/
def slab (o : ℕ) (w : Vec F S128x2048 .bf16) (s : Vec F S1024x2048 .bf16) : Vec F S1024x2048 .bf16 := fun y =>
  if h : o ≤ (y (0 : Fin 2)).val ∧ (y (0 : Fin 2)).val < o + 128 then
    w (ix2 (⟨(y (0 : Fin 2)).val - o, by omega⟩ : Fin 128) (⟨(y (1 : Fin 2)).val, (y (1 : Fin 2)).isLt⟩ : Fin 2048))
  else s y

/-- A whole store leaves its payload. -/
theorem read_whole {Val : EltTy → Type} {sp : Space} {S : Shape} {e : EltTy} (v : View sig .tc sp S e) (f : v.ty.Contents Val) {off : Fin S.rank → ℕ}
    (h : off = fun _ => 0) (inb : ∀ a, off a + S.size a ≤ S.size a) (w : S.Idx → Val e) :
    v.read Val (v.writes Val f [(⟨Rect.unit off S.size inb, w⟩ : View.Piece Val S e)]) = w :=
  funext fun y => View.read_writes_cons_unit_of_mem v f inb w [] y y h (fun a => (Nat.zero_add _).symm)

/-- A store of 128 whole rows replaces them. -/
theorem read_slab {Val : EltTy → Type} {sp : Space} {e : EltTy} (v : View sig .tc sp S1024x2048 e) (f : v.ty.Contents Val) {off : Fin 2 → ℕ} {o : ℕ}
    (inb : ∀ a, off a + S128x2048.size a ≤ S1024x2048.size a) (w : S128x2048.Idx → Val e) (Ls : List (View.Piece Val S1024x2048 e)) (ho : off = ![o, 0]) (y : S1024x2048.Idx) :
    v.read Val (v.writes Val f ((⟨Rect.unit off S128x2048.size inb, w⟩ : View.Piece Val S1024x2048 e) :: Ls)) y
      = if h : o ≤ (y (0 : Fin 2)).val ∧ (y (0 : Fin 2)).val < o + 128 then
          w (ix2 (⟨(y (0 : Fin 2)).val - o, by omega⟩ : Fin 128) (⟨(y (1 : Fin 2)).val, (y (1 : Fin 2)).isLt⟩ : Fin 2048))
        else v.read Val (v.writes Val f Ls) y := by
  split_ifs with h
  · exact View.read_writes_cons_rows_of_mem v f inb w Ls y
      (ix2 (⟨(y (0 : Fin 2)).val - o, by omega⟩ : Fin 128) (⟨(y (1 : Fin 2)).val, (y (1 : Fin 2)).isLt⟩ : Fin 2048)) ho
      (by show (y (0 : Fin 2)).val = o + ((y (0 : Fin 2)).val - o); omega) rfl
  · exact View.read_writes_cons_rows_of_not_mem v f inb w Ls y ho (W := 128) rfl (by omega)

set_option maxHeartbeats 2000000 in
/-- The first point: the whole first tile is stored, then rows of the next, and the product with the first tile. -/
theorem run_first (c : Dev nD) (i : grid0.Coords) (arg2 : Memref sig .tc .vmem S1024x2048 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S1x2048x768 .bf16) (harg5 : arg5.IsWhole) (arg6 : Memref sig .tc .vmem S1024x768 .f32) (harg6 : arg6.IsWhole) (arg7 : Memref sig .tc .vmem S1024x2048 .bf16) (harg7 : arg7.IsWhole) (arg8 : Memref sig .tc .vmem S1024x2048 .bf16) (harg8 : arg8.IsWhole)
    (hc0 : first i) (hc1 : k0_cond2 i = 1#1) (hc2 : ¬ k0_cond3 i = 1#1) (o : ℕ) (ho : k0_off1 i = ![o, 0])
    (x0 : Vec F S1024x2048 .f32) (x1 : Vec F S128x2048 .f32) (x2 : Vec F S1x2048 .f32) (x3 : Vec F S1x2048x768 .bf16) (s0 s1 : Vec F S1024x2048 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare s0 ∗ owns (c : Thread nD τ) arg8 fullShare s1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 (k0_pay1 x0 x2) x3) ∗ owns (c : Thread nD τ) arg7 fullShare (k0_pay1 x0 x2) ∗ owns (c : Thread nD τ) arg8 fullShare (slab o (k0_pay2 x1 x2) s1)) -∗ K ⟨⟩))
          ⊢ wp frame (wpE (defs₀ (F := F)) Variants.none c none) E (cc0_norm_in_proj i arg2 harg2 arg3 harg3 arg4 harg4 arg5 harg5 arg6 harg6 arg7 harg7 arg8 harg8) K := by
  intro E K
  simp only [cc0_norm_in_proj_eq_skeleton]; unfold cc0_norm_in_proj_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg7.eq_unread hfs0; obtain rfl := harg8.eq_unread hfs1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    sl_unfold_words
    rw [read_whole _ _ hz2]
    simp only [View.readAt_eq_ld, harg2.read_unread, harg3.read_unread, harg4.read_unread, harg5.read_unread, harg7.read_unread, harg8.read_unread, View.ld_unit_zero (S := S1024x2048) hz2, View.ld_unit_zero (S := S128x2048) hz2, View.ld_unit_zero (S := S1x2048) hz2, View.ld_unit_zero (S := S1x2048x768) hz3, View.readCov_unit_zero (S := S1024x2048) _ hz2]
    try rfl
  isplitl [HS0]
  · iexists _; isplitr; swap; · iexact HS0
    ipureintro
    sl_unfold_words
    rw [read_whole _ _ hz2]
    simp only [View.readAt_eq_ld, harg2.read_unread, harg3.read_unread, harg4.read_unread, harg5.read_unread, harg7.read_unread, harg8.read_unread, View.ld_unit_zero (S := S1024x2048) hz2, View.ld_unit_zero (S := S128x2048) hz2, View.ld_unit_zero (S := S1x2048) hz2, View.ld_unit_zero (S := S1x2048x768) hz3, View.readCov_unit_zero (S := S1024x2048) _ hz2]
  · iexists _; isplitr; swap; · iexact HS1
    ipureintro
    funext y
    refine (read_slab _ _ _ _ _ ho y).trans ?_
    simp only [View.writes_nil, View.readAt_eq_ld, harg2.read_unread, harg3.read_unread, harg4.read_unread, harg5.read_unread, harg7.read_unread, harg8.read_unread, View.ld_unit_zero (S := S1024x2048) hz2, View.ld_unit_zero (S := S128x2048) hz2, View.ld_unit_zero (S := S1x2048) hz2, View.ld_unit_zero (S := S1x2048x768) hz3, View.readCov_unit_zero (S := S1024x2048) _ hz2]
    rfl

set_option maxHeartbeats 2000000 in
/-- A point of an even row of the grid: the first scratch is read, the second filled. -/
theorem run_even (c : Dev nD) (i : grid0.Coords) (arg2 : Memref sig .tc .vmem S1024x2048 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S1x2048x768 .bf16) (harg5 : arg5.IsWhole) (arg6 : Memref sig .tc .vmem S1024x768 .f32) (harg6 : arg6.IsWhole) (arg7 : Memref sig .tc .vmem S1024x2048 .bf16) (harg7 : arg7.IsWhole) (arg8 : Memref sig .tc .vmem S1024x2048 .bf16) (harg8 : arg8.IsWhole)
    (hc0 : ¬ first i) (hc1 : k0_cond2 i = 1#1) (hc2 : ¬ k0_cond3 i = 1#1) (o : ℕ) (ho : k0_off1 i = ![o, 0])
    (x0 : Vec F S1024x2048 .f32) (x1 : Vec F S128x2048 .f32) (x2 : Vec F S1x2048 .f32) (x3 : Vec F S1x2048x768 .bf16) (s0 s1 : Vec F S1024x2048 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare s0 ∗ owns (c : Thread nD τ) arg8 fullShare s1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 s0 x3) ∗ owns (c : Thread nD τ) arg7 fullShare s0 ∗ owns (c : Thread nD τ) arg8 fullShare (slab o (k0_pay2 x1 x2) s1)) -∗ K ⟨⟩))
          ⊢ wp frame (wpE (defs₀ (F := F)) Variants.none c none) E (cc0_norm_in_proj i arg2 harg2 arg3 harg3 arg4 harg4 arg5 harg5 arg6 harg6 arg7 harg7 arg8 harg8) K := by
  intro E K
  simp only [cc0_norm_in_proj_eq_skeleton]; unfold cc0_norm_in_proj_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg7.eq_unread hfs0; obtain rfl := harg8.eq_unread hfs1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    sl_unfold_words
    rw [read_whole _ _ hz2]
    simp only [View.readAt_eq_ld, harg2.read_unread, harg3.read_unread, harg4.read_unread, harg5.read_unread, harg7.read_unread, harg8.read_unread, View.ld_unit_zero (S := S1024x2048) hz2, View.ld_unit_zero (S := S128x2048) hz2, View.ld_unit_zero (S := S1x2048) hz2, View.ld_unit_zero (S := S1x2048x768) hz3, View.readCov_unit_zero (S := S1024x2048) _ hz2]
    try rfl
  isplitl [HS0]
  · iexists _; isplitr; · ipureintro; exact harg7.read_unread _
    iexact HS0
  · iexists _; isplitr; swap; · iexact HS1
    ipureintro
    funext y
    refine (read_slab _ _ _ _ _ ho y).trans ?_
    simp only [View.writes_nil, View.readAt_eq_ld, harg2.read_unread, harg3.read_unread, harg4.read_unread, harg5.read_unread, harg7.read_unread, harg8.read_unread, View.ld_unit_zero (S := S1024x2048) hz2, View.ld_unit_zero (S := S128x2048) hz2, View.ld_unit_zero (S := S1x2048) hz2, View.ld_unit_zero (S := S1x2048x768) hz3, View.readCov_unit_zero (S := S1024x2048) _ hz2]
    rfl

set_option maxHeartbeats 2000000 in
/-- A point of an odd row: the other way round. -/
theorem run_odd (c : Dev nD) (i : grid0.Coords) (arg2 : Memref sig .tc .vmem S1024x2048 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S1x2048x768 .bf16) (harg5 : arg5.IsWhole) (arg6 : Memref sig .tc .vmem S1024x768 .f32) (harg6 : arg6.IsWhole) (arg7 : Memref sig .tc .vmem S1024x2048 .bf16) (harg7 : arg7.IsWhole) (arg8 : Memref sig .tc .vmem S1024x2048 .bf16) (harg8 : arg8.IsWhole)
    (hc0 : ¬ first i) (hc1 : ¬ k0_cond2 i = 1#1) (hc2 : k0_cond3 i = 1#1) (o : ℕ) (ho : k0_off2 i = ![o, 0])
    (x0 : Vec F S1024x2048 .f32) (x1 : Vec F S128x2048 .f32) (x2 : Vec F S1x2048 .f32) (x3 : Vec F S1x2048x768 .bf16) (s0 s1 : Vec F S1024x2048 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare s0 ∗ owns (c : Thread nD τ) arg8 fullShare s1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 s1 x3) ∗ owns (c : Thread nD τ) arg7 fullShare (slab o (k0_pay2 x1 x2) s0) ∗ owns (c : Thread nD τ) arg8 fullShare s1) -∗ K ⟨⟩))
          ⊢ wp frame (wpE (defs₀ (F := F)) Variants.none c none) E (cc0_norm_in_proj i arg2 harg2 arg3 harg3 arg4 harg4 arg5 harg5 arg6 harg6 arg7 harg7 arg8 harg8) K := by
  intro E K
  simp only [cc0_norm_in_proj_eq_skeleton]; unfold cc0_norm_in_proj_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg7.eq_unread hfs0; obtain rfl := harg8.eq_unread hfs1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    sl_unfold_words
    rw [read_whole _ _ hz2]
    simp only [View.readAt_eq_ld, harg2.read_unread, harg3.read_unread, harg4.read_unread, harg5.read_unread, harg7.read_unread, harg8.read_unread, View.ld_unit_zero (S := S1024x2048) hz2, View.ld_unit_zero (S := S128x2048) hz2, View.ld_unit_zero (S := S1x2048) hz2, View.ld_unit_zero (S := S1x2048x768) hz3, View.readCov_unit_zero (S := S1024x2048) _ hz2]
    try rfl
  isplitl [HS0]
  · iexists _; isplitr; swap; · iexact HS0
    ipureintro
    funext y
    refine (read_slab _ _ _ _ _ ho y).trans ?_
    simp only [View.writes_nil, View.readAt_eq_ld, harg2.read_unread, harg3.read_unread, harg4.read_unread, harg5.read_unread, harg7.read_unread, harg8.read_unread, View.ld_unit_zero (S := S1024x2048) hz2, View.ld_unit_zero (S := S128x2048) hz2, View.ld_unit_zero (S := S1x2048) hz2, View.ld_unit_zero (S := S1x2048x768) hz3, View.readCov_unit_zero (S := S1024x2048) _ hz2]
    rfl
  · iexists _; isplitr; · ipureintro; exact harg8.read_unread _
    iexact HS1

end Cert.InProjIdeal.In

end
-- ==== Proof.InFrame.lean ====
module

public import proofs.«01_k».proof.Proof.InRun
public import Idealize.ShloMosaic.Lib.Claim
public import Idealize.ShloMosaic.Lib.Quiescent

@[expose] public section

set_option maxRecDepth 16384

noncomputable section

namespace Cert.InProjIdeal.In

open Cert.InProjIdeal Cert.InProjIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The pipeline's proof data, the two scratch tiles tracked from point to point, and the run. -/

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem off1 : ∀ t : Fin cfg0.N, k0_off1 (grid0.coords t) = ![128 * min (t.val % 9) 7, 0] :=
  (by decide +kernel : ∀ t : Fin grid0.N, k0_off1 (grid0.coords t) = ![128 * min (t.val % 9) 7, 0])
theorem off2 : ∀ t : Fin cfg0.N, k0_off2 (grid0.coords t) = ![128 * min (t.val % 9) 7, 0] :=
  (by decide +kernel : ∀ t : Fin grid0.N, k0_off2 (grid0.coords t) = ![128 * min (t.val % 9) 7, 0])
theorem first_iff : ∀ t : Fin cfg0.N, first (grid0.coords t) ↔ t.val = 0 :=
  (by decide +kernel : ∀ t : Fin grid0.N, first (grid0.coords t) ↔ t.val = 0)
theorem even_iff : ∀ t : Fin cfg0.N, k0_cond2 (grid0.coords t) = 1#1 ↔ t.val / 9 % 2 = 0 :=
  (by decide +kernel : ∀ t : Fin grid0.N, k0_cond2 (grid0.coords t) = 1#1 ↔ t.val / 9 % 2 = 0)
theorem odd_iff : ∀ t : Fin cfg0.N, k0_cond3 (grid0.coords t) = 1#1 ↔ t.val / 9 % 2 = 1 :=
  (by decide +kernel : ∀ t : Fin grid0.N, k0_cond3 (grid0.coords t) = 1#1 ↔ t.val / 9 % 2 = 1)

/-- The point of number `n` (read modulo the grid's size). -/
def pt (n : ℕ) : Fin cfg0.N := ⟨n % 144, by rw [show cfg0.N = 144 from N_0]; exact Nat.mod_lt _ (by decide)⟩
theorem pt_val (t : Fin cfg0.N) : pt t.val = t :=
  Fin.ext (Nat.mod_eq_of_lt (lt_of_lt_of_eq t.isLt (show cfg0.N = 144 from N_0)))

/-! ## The tiles -/

/-- The rows one point stores into the next tile. -/
def rows (c : Dev nD) (t : Fin cfg0.N) : Vec F S128x2048 .bf16 := k0_pay2 (iblk m c 1 t) (iblk m c 2 t)

/-- The point that stores chunk `h` last, counted within its row of the grid: chunk 7 is stored twice. -/
def last (h : ℕ) : ℕ := if h = 7 then 8 else h

/-- The normed tile of row `q` of the grid. -/
def tile (c : Dev nD) : ℕ → Vec F S1024x2048 .bf16
  | 0 => k0_pay1 (iblk m c 0 (pt 0)) (iblk m c 2 (pt 0))
  | q + 1 => fun y => rows m c (pt (9 * q + last ((y (0 : Fin 2)).val / 128)))
      (ix2 (⟨(y (0 : Fin 2)).val % 128, Nat.mod_lt _ (by decide)⟩ : Fin 128) (⟨(y (1 : Fin 2)).val, (y (1 : Fin 2)).isLt⟩ : Fin 2048))

/-- Before point `n`: `cur` is the tile of its row, and `nxt` agrees with the next tile on the rows stored so far. -/
def Good (c : Dev nD) (n : ℕ) (cur nxt : Vec F S1024x2048 .bf16) : Prop :=
  cur = tile m c (n / 9) ∧ ∀ y : S1024x2048.Idx, (y (0 : Fin 2)).val < 128 * min (n % 9) 7 → nxt y = tile m c (n / 9 + 1) y

/-- What a point leaves in the tile it fills. -/
def filled (c : Dev nD) (t : Fin cfg0.N) (nxt : Vec F S1024x2048 .bf16) : Vec F S1024x2048 .bf16 :=
  slab (128 * min (t.val % 9) 7) (rows m c t) nxt

theorem slab_in {o : ℕ} {w : Vec F S128x2048 .bf16} {s : Vec F S1024x2048 .bf16} (y : S1024x2048.Idx)
    (h : o ≤ (y (0 : Fin 2)).val ∧ (y (0 : Fin 2)).val < o + 128) :
    slab o w s y = w (ix2 (⟨(y (0 : Fin 2)).val - o, by omega⟩ : Fin 128) (⟨(y (1 : Fin 2)).val, (y (1 : Fin 2)).isLt⟩ : Fin 2048)) := dif_pos h
theorem slab_out {o : ℕ} {w : Vec F S128x2048 .bf16} {s : Vec F S1024x2048 .bf16} (y : S1024x2048.Idx)
    (h : ¬(o ≤ (y (0 : Fin 2)).val ∧ (y (0 : Fin 2)).val < o + 128)) : slab o w s y = s y := dif_neg h

/-- A row the point stores for the last time is the next tile's. -/
theorem stored (c : Dev nD) (t : Fin cfg0.N) (nxt : Vec F S1024x2048 .bf16) (y : S1024x2048.Idx) (h : ℕ) (hh : h = min (t.val % 9) 7)
    (hl : last h = t.val % 9) (hy : (y (0 : Fin 2)).val / 128 = h) :
    filled m c t nxt y = tile m c (t.val / 9 + 1) y := by
  unfold filled
  rw [slab_in y (by omega)]
  show _ = rows m c (pt (9 * (t.val / 9) + last ((y (0 : Fin 2)).val / 128))) _
  rw [hy, hl, show 9 * (t.val / 9) + t.val % 9 = t.val from Nat.div_add_mod _ _, pt_val]
  congr 1
  exact congrArg (fun k : Fin 128 => ix2 k _) (Fin.ext (by show (y (0 : Fin 2)).val - 128 * min (t.val % 9) 7 = (y (0 : Fin 2)).val % 128; omega))

/-- Within a row of the grid. -/
theorem good_step (c : Dev nD) (t : Fin cfg0.N) (cur nxt : Vec F S1024x2048 .bf16) (hg : Good m c t.val cur nxt) (hj : t.val % 9 < 8) :
    Good m c (t.val + 1) cur (filled m c t nxt) := by
  have e1 : (t.val + 1) / 9 = t.val / 9 := by omega
  have e2 : (t.val + 1) % 9 = t.val % 9 + 1 := by omega
  refine ⟨by rw [e1]; exact hg.1, fun y hy => ?_⟩
  rw [e1]; rw [e2] at hy
  by_cases h : (y (0 : Fin 2)).val / 128 = min (t.val % 9) 7
  · have h7 : t.val % 9 ≠ 7 := by intro h7; rw [h7] at h hy; omega
    exact stored m c t nxt y _ h (by unfold last; rw [h]; split_ifs <;> omega) rfl
  · refine (slab_out y (by omega)).trans (hg.2 y (by omega))

/-- At the end of a row of the grid the tiles change places. -/
theorem good_turn (c : Dev nD) (t : Fin cfg0.N) (cur nxt : Vec F S1024x2048 .bf16) (hg : Good m c t.val cur nxt) (hj : t.val % 9 = 8) :
    Good m c (t.val + 1) (filled m c t nxt) cur := by
  have e1 : (t.val + 1) / 9 = t.val / 9 + 1 := by omega
  have e2 : (t.val + 1) % 9 = 0 := by omega
  refine ⟨?_, fun y hy => ?_⟩
  · rw [e1]; funext y
    have hy : (y (0 : Fin 2)).val < 1024 := (y (0 : Fin 2)).isLt
    by_cases h : (y (0 : Fin 2)).val / 128 = 7
    · exact stored m c t nxt y 7 (by omega) (by unfold last; rw [if_pos rfl]; omega) h
    · refine (slab_out y (by omega)).trans (hg.2 y (by omega))
  · rw [e2] at hy; exact absurd hy (by simp)

/-! ## The invariant -/

abbrev sc0 : Memref sig .tc .vmem S1024x2048 .bf16 := Memref.whole cc0_scratch0
abbrev sc1 : Memref sig .tc .vmem S1024x2048 .bf16 := Memref.whole cc0_scratch1

theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The two scratches before point `n`: the first holds the even rows' tiles. -/
def Inv (c : Dev nD) (n : ℕ) (s0 s1 : Vec F S1024x2048 .bf16) : Prop :=
  if n / 9 % 2 = 0 then Good m c n s0 s1 else Good m c n s1 s0

def Scr (c : Dev nD) (n : ℕ) : sProp 𝕄 :=
  iprop((∃ s0 s1, ⌜Inv m c n s0 s1⌝ ∗ owns (c : Thread nD τ) sc0 fullShare s0 ∗ owns (c : Thread nD τ) sc1 fullShare s1) ∗ (∃ r, prngReg c r))

def Phi (c : Dev nD) (n : ℕ) : sProp 𝕄 := if n = 0 then Pipeline.ΦA spec0 c else Scr m c n

/-- The proof data: the inputs stay, the output is the product of the row's tile. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay3 (tile m c (t.val / 9)) (iblk m c 3 t)
  Φ t := Phi m c t.val
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = k0_pay3 (tile m c (t.val / 9)) (iblk m c 3 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-! ## The body at a point -/
abbrev st0 (t : Fin cfg0.N) : Memref sig .tc .vmem S1024x2048 .f32 := win0_0.stage (cfg0.slots t 0)
abbrev st1 (t : Fin cfg0.N) : Memref sig .tc .vmem S128x2048 .f32 := win0_1.stage (cfg0.slots t 1)
abbrev st2 (t : Fin cfg0.N) : Memref sig .tc .vmem S1x2048 .f32 := win0_2.stage (cfg0.slots t 2)
abbrev st3 (t : Fin cfg0.N) : Memref sig .tc .vmem S1x2048x768 .bf16 := win0_3.stage (cfg0.slots t 3)
abbrev st4 (t : Fin cfg0.N) : Memref sig .tc .vmem S1024x768 .f32 := win0_4.stage (cfg0.slots t 4)

/-- The output is written at every point. -/
theorem live_4 : ∀ t : Fin cfg0.N, cfg0.idle 4 (grid0.coords t) = false :=
  (by decide +kernel : ∀ t : Fin grid0.N, idle0 4 (grid0.coords t) = false)

theorem leaves_4 (c : Dev nD) (t : Fin cfg0.N) :
    (dats m 0 c).leavesExact 4 t = owns (c : Thread nD τ) (st4 t) fullShare ((dats m 0 c).after 4 t) := by
  unfold Dat.leavesExact; rw [live_4 t]

def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ (dats m 0 c).leavesExact 4 t)

theorem Phi_zero (c : Dev nD) : Phi m c 0 = Pipeline.ΦA spec0 c := if_pos rfl
theorem Phi_pos (c : Dev nD) (n : ℕ) (h : n ≠ 0) : Phi m c n = Scr m c n := if_neg h

theorem good_first (c : Dev nD) (nxt : Vec F S1024x2048 .bf16) : Good m c 0 (tile m c 0) nxt :=
  ⟨rfl, fun y hy => absurd hy (by simp)⟩

/-- A point of an even row. -/
theorem inv_even (c : Dev nD) (t : Fin cfg0.N) (s0 s1 : Vec F S1024x2048 .bf16) (h : t.val / 9 % 2 = 0) (hg : Good m c t.val s0 s1) :
    Inv m c (t.val + 1) s0 (filled m c t s1) := by
  unfold Inv
  by_cases hj : t.val % 9 = 8
  · rw [if_neg (by omega)]; exact good_turn m c t s0 s1 hg hj
  · rw [if_pos (by omega)]; exact good_step m c t s0 s1 hg (by omega)

/-- A point of an odd row. -/
theorem inv_odd (c : Dev nD) (t : Fin cfg0.N) (s0 s1 : Vec F S1024x2048 .bf16) (h : t.val / 9 % 2 = 1) (hg : Good m c t.val s1 s0) :
    Inv m c (t.val + 1) (filled m c t s0) s1 := by
  unfold Inv
  by_cases hj : t.val % 9 = 8
  · rw [if_pos (by omega)]; exact good_turn m c t s1 s0 hg hj
  · rw [if_neg (by omega)]; exact good_step m c t s1 s0 hg (by omega)

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [leaves_4]
  simp only [before_0, before_1, before_2, before_3, after_0, after_1, after_2, after_3, after_4]
  rw [show (dats m 0 c).Φ t.succ = Scr m c (t.val + 1) from Phi_pos m c (t.val + 1) (Nat.succ_ne_zero _),
    show (dats m 0 c).owesAt () t.succ = (dats m 0 c).owesAt () t.castSucc from rfl,
    show (dats m 0 c).Φ t.castSucc = Phi m c t.val from rfl]
  have hN : t.val < 144 := lt_of_lt_of_eq t.isLt (show cfg0.N = 144 from N_0)
  unfold Scr
  by_cases h0 : t.val = 0
  · have e0 : pt 0 = t := by rw [← h0]; exact pt_val t
    have eT : tile m c (t.val / 9) = k0_pay1 (iblk m c 0 t) (iblk m c 2 t) := by
      rw [h0]; show k0_pay1 (iblk m c 0 (pt 0)) (iblk m c 2 (pt 0)) = _; rw [e0]
    rw [show Phi m c t.val = Pipeline.ΦA spec0 c from by rw [h0]; exact Phi_zero m c, PhiA_eq]
    iintro ⟨⟨⟨⟨%s0, HS0⟩, ⟨%s1, HS1⟩⟩, Hg⟩, Ho, ⟨%d0, H0⟩, ⟨%d1, H1⟩, ⟨%d2, H2⟩, ⟨%d3, H3⟩, ⟨%d4, H4⟩⟩
    iapply (run_first (F := F) c (grid0.coords t) _ _ _ _ _ _ _ _ _ _ _ _ _ _ ((first_iff t).mpr h0) ((even_iff t).mpr (by omega)) (fun h => absurd ((odd_iff t).mp h) (by omega)) _ (off1 t) (iblk m c 0 t) (iblk m c 1 t) (iblk m c 2 t) (iblk m c 3 t) s0 s1 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, H4, HS0, HS1⟩
    isplitl [HS0 HS1 Hg]
    · isplitl [HS0 HS1]
      · iexists _, _; isplitr
        · ipureintro
          exact inv_even m c t (k0_pay1 (iblk m c 0 t) (iblk m c 2 t)) s1 (by omega) (by rw [← eT]; rw [h0]; exact good_first m c s1)
        isplitl [HS0]; · iexact HS0
        iexact HS1
      iexact Hg
    isplitl [Ho]; · iexact Ho
    isplitl [H0]; · iexact H0
    isplitl [H1]; · iexact H1
    isplitl [H2]; · iexact H2
    isplitl [H3]; · iexact H3
    rw [eT]; iexact H4
  rw [Phi_pos m c t.val h0]
  unfold Scr
  by_cases h1 : t.val / 9 % 2 = 0
  · iintro ⟨⟨⟨%s0, %s1, %hI, HS0, HS1⟩, Hg⟩, Ho, ⟨%d0, H0⟩, ⟨%d1, H1⟩, ⟨%d2, H2⟩, ⟨%d3, H3⟩, ⟨%d4, H4⟩⟩
    have hG : Good m c t.val s0 s1 := by unfold Inv at hI; rw [if_pos h1] at hI; exact hI
    iapply (run_even (F := F) c (grid0.coords t) _ _ _ _ _ _ _ _ _ _ _ _ _ _ (fun h => h0 ((first_iff t).mp h)) ((even_iff t).mpr h1) (fun h => absurd ((odd_iff t).mp h) (by omega)) _ (off1 t) (iblk m c 0 t) (iblk m c 1 t) (iblk m c 2 t) (iblk m c 3 t) s0 s1 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, H4, HS0, HS1⟩
    isplitl [HS0 HS1 Hg]
    · isplitl [HS0 HS1]
      · iexists _, _; isplitr
        · ipureintro; exact inv_even m c t s0 s1 h1 hG
        isplitl [HS0]; · iexact HS0
        iexact HS1
      iexact Hg
    isplitl [Ho]; · iexact Ho
    isplitl [H0]; · iexact H0
    isplitl [H1]; · iexact H1
    isplitl [H2]; · iexact H2
    isplitl [H3]; · iexact H3
    rw [← hG.1]; iexact H4
  · iintro ⟨⟨⟨%s0, %s1, %hI, HS0, HS1⟩, Hg⟩, Ho, ⟨%d0, H0⟩, ⟨%d1, H1⟩, ⟨%d2, H2⟩, ⟨%d3, H3⟩, ⟨%d4, H4⟩⟩
    have hG : Good m c t.val s1 s0 := by unfold Inv at hI; rw [if_neg h1] at hI; exact hI
    iapply (run_odd (F := F) c (grid0.coords t) _ _ _ _ _ _ _ _ _ _ _ _ _ _ (fun h => h0 ((first_iff t).mp h)) (fun h => h1 ((even_iff t).mp h)) ((odd_iff t).mpr (by omega)) _ (off2 t) (iblk m c 0 t) (iblk m c 1 t) (iblk m c 2 t) (iblk m c 3 t) s0 s1 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, H4, HS0, HS1⟩
    isplitl [HS0 HS1 Hg]
    · isplitl [HS0 HS1]
      · iexists _, _; isplitr
        · ipureintro; exact inv_odd m c t s0 s1 (by omega) hG
        isplitl [HS0]; · iexact HS0
        iexact HS1
      iexact Hg
    isplitl [Ho]; · iexact Ho
    isplitl [H0]; · iexact H0
    isplitl [H1]; · iexact H1
    isplitl [H2]; · iexact H2
    isplitl [H3]; · iexact H3
    rw [← hG.1]; iexact H4

/-! ## The obligation, the launch and the frame -/

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 from rfl, Phi_zero]
  try exact Idealize.SL.BI.Entails.refl _

theorem hout (c : Dev nD) : (dats m 0 c).Φ (Fin.last cfg0.N) ⊢ Pipeline.ΦA spec0 c := by
  have h : (Fin.last cfg0.N).val ≠ 0 := by rw [Fin.val_last]; have : cfg0.N = 144 := N_0; omega
  rw [show (dats m 0 c).Φ (Fin.last cfg0.N) = Phi m c (Fin.last cfg0.N).val from rfl, Phi_pos m c _ h, PhiA_eq]
  unfold Scr
  iintro ⟨⟨%s0, %s1, -, HS0, HS1⟩, Hg⟩
  isplitl [HS0 HS1]
  · isplitl [HS0]
    · iexists _; iexact HS0
    iexists _; iexact HS1
  iexact Hg

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.InProjIdeal.In

end
-- ==== Proof.InKernel.lean ====
module

public import proofs.«01_k».proof.Proof.InFrame
public import proofs.«01_k».proof.Proof.InMath
public import Idealize.ShloMosaic.Lib.Pointwise
public import Idealize.ShloMosaic.Lib.Pipeline.ValueKit.Point

@[expose] public section

set_option maxRecDepth 16384

noncomputable section

namespace Cert.InProjIdeal.In

open Cert.InProjIdeal Cert.InProjIdeal.Gen Idealize.ShloMosaic Idealize.ShloMosaic.TcCoe Idealize.SL.Sem Cert.Ffn Cert.InMath

/-! ## Each block and each payload, at an index -/

theorem pay1_apply (x : Vec Ideal S1024x2048 .f32) (g : Vec Ideal S1x2048 .f32) (r : Fin 1024) (k : Fin 2048) :
    k0_pay1 (F := Ideal) x g (ix2 r k) = nrm (fun l => x (ix2 r l)) (fun l => g (ix2 0 l)) k := by
  pointwise [k0_pay1, nrm]
theorem pay2_apply (x : Vec Ideal S128x2048 .f32) (g : Vec Ideal S1x2048 .f32) (r : Fin 128) (k : Fin 2048) :
    k0_pay2 (F := Ideal) x g (ix2 r k) = nrm (fun l => x (ix2 r l)) (fun l => g (ix2 0 l)) k := by
  pointwise [k0_pay2, nrm]
theorem pay3_apply (e : Vec Ideal S1024x2048 .bf16) (w : Vec Ideal S1x2048x768 .bf16) (r : Fin 1024) (n : Fin 768) :
    k0_pay3 (F := Ideal) e w (ix2 r n) = ∑ k : Fin 2048, e (ix2 r k) * w (ix3 0 k n) := by
  pointwise [k0_pay3]

variable (m : (ℓ : Loc nD τ sig) → Buf (Elt Ideal) ℓ) (ρ : Dev nD → PrngReg) (c : Dev nD)

abbrev A0 : FVec Ideal S4x4096x2048 .f32 := m ((c : Thread nD τ).loc main_arg0)
abbrev A1 : FVec Ideal S2048 .f32 := m ((c : Thread nD τ).loc main_arg1)
abbrev A2 : FVec Ideal S2048x6662 .f32 := m ((c : Thread nD τ).loc main_arg2)

abbrev H (r : Fin 16384) (k : Fin 2048) : EReal := A0 m c (ix3 ⟨r.val / 4096, by omega⟩ ⟨r.val % 4096, by omega⟩ k)
abbrev gF (k : Fin 2048) : EReal := A1 m c (ix1 k)
abbrev wF (k : Fin 2048) (n : Fin 6662) : EReal := A2 m c (ix2 k n)

theorem idx_facts : ∀ t : Fin cfg0.N,
    win0_0.index t = ![0, 0] ∧ win0_1.index t = ![8 * min (t.val / 9 + 1) 15 + min (t.val % 9) 7, 0] ∧ win0_2.index t = ![0, 0]
    ∧ win0_3.index t = ![0, 0, t.val % 9] ∧ win0_4.index t = ![t.val / 9, t.val % 9] :=
  (by decide +kernel : ∀ t : Fin grid0.N, _)

theorem t_lt (t : Fin cfg0.N) : t.val < 144 := lt_of_lt_of_eq t.isLt N_0

theorem V_h (r : Fin 16384) (k : Fin 2048) : V m c main_v0 (ix2 r k) = H m c r k := by
  entry_read
  pointwise
theorem V_g (k : Fin 2048) : V m c main_v9 (ix2 0 k) = gF m c k := by
  entry_read
  pointwise
/-- The padded weight's term. -/
def padV {F : FTy → Type} [FloatOps F] (A2 : FVec F S2048x6662 .f32) : FVec F S1x2048x6912 .bf16 :=
  concatenate S1x2048x6912 2 [⟨S1x2048x4352, ((extractStridedSlice S1x2048x4352 ![0, 0, 0] (truncf .bf16 (broadcastInDim S1x2048x6662 ![1, 2] bcast_S2048x6662_S1x2048x6662_1_2 A2) bitsLt_bf16_f32) slices_S1x2048x6662_S1x2048x4352_0_0_0) : (⟨S1x2048x4352, .bf16⟩ : BufTy).Contents (Elt F))⟩, ⟨S1x2048x6, ((extractStridedSlice S1x2048x6 ![0, 0, 4352] (truncf .bf16 (broadcastInDim S1x2048x6662 ![1, 2] bcast_S2048x6662_S1x2048x6662_1_2 A2) bitsLt_bf16_f32) slices_S1x2048x6662_S1x2048x6_0_0_4352) : (⟨S1x2048x6, .bf16⟩ : BufTy).Contents (Elt F))⟩, ⟨S1x2048x122, ((broadcastInDim S1x2048x122 ![] bcast_S_S1x2048x122 (constant S_ .bf16 0x0000#16)) : (⟨S1x2048x122, .bf16⟩ : BufTy).Contents (Elt F))⟩, ⟨S1x2048x2304, ((extractStridedSlice S1x2048x2304 ![0, 0, 4358] (truncf .bf16 (broadcastInDim S1x2048x6662 ![1, 2] bcast_S2048x6662_S1x2048x6662_1_2 A2) bitsLt_bf16_f32) slices_S1x2048x6662_S1x2048x2304_0_0_4358) : (⟨S1x2048x2304, .bf16⟩ : BufTy).Contents (Elt F))⟩, ⟨S1x2048x128, ((broadcastInDim S1x2048x128 ![] bcast_S_S1x2048x128 (constant S_ .bf16 0x0000#16)) : (⟨S1x2048x128, .bf16⟩ : BufTy).Contents (Elt F))⟩] concatenates_S1x2048x4352_S1x2048x6_S1x2048x122_S1x2048x2304_S1x2048x128_S1x2048x6912_d2

theorem V_pad : V m c main_v8 = padV (A2 m c) := by
  show StableHlo.after hostOps0 (fun b => m (c, b)) (Proc.devRef .tc main_v8) = _
  unfold hostOps0
  after_results <;> rfl

theorem pad_apply (A2 : FVec Ideal S2048x6662 .f32) (k : Fin 2048) (n : Fin 6912) : padV (F := Ideal) A2 (ix3 0 k n) = wpad (fun k n => A2 (ix2 k n)) k n := by
  pointwise [padV, wpad]
  have hn := n.isLt
  by_cases h0 : n.val < 4352
  · rw [dif_pos h0, dif_pos (show n.val < 4358 by omega)]
  rw [dif_neg h0]
  by_cases h1 : n.val < 4358
  · rw [dif_pos (show n.val - 4352 < 6 by omega), dif_pos h1]
    exact congrArg (fun i => A2 (ix2 k i)) (Fin.ext (by show 4352 + (n.val - 4352) = n.val; omega))
  rw [dif_neg (show ¬ n.val - 4352 < 6 by omega), dif_neg h1]
  by_cases h2 : n.val < 4480
  · rw [dif_pos (show n.val - 4352 - 6 < 122 by omega), if_pos h2]
  rw [dif_neg (show ¬ n.val - 4352 - 6 < 122 by omega), if_neg h2]
  by_cases h3 : n.val < 6784
  · rw [dif_pos (show n.val - 4352 - 6 - 122 < 2304 by omega), dif_pos h3]
    exact congrArg (fun i => A2 (ix2 k i)) (Fin.ext (by show 4358 + (n.val - 4352 - 6 - 122) = n.val - 122; omega))
  · rw [dif_neg (show ¬ n.val - 4352 - 6 - 122 < 2304 by omega), dif_neg h3]

theorem V_w (k : Fin 2048) (n : Fin 6912) : V m c main_v8 (ix3 0 k n) = wpad (wF m c) k n :=
  (congrFun (V_pad m c) _).trans (pad_apply _ k n)

theorem blk0 (t : Fin cfg0.N) (r : Fin 1024) (k : Fin 2048) : iblk m c 0 t (ix2 r k) = H m c ⟨r.val, by omega⟩ k := by
  rw [← V_h]
  blk_ext [iblk, (idx_facts t).1]
theorem blk1 (t : Fin cfg0.N) (r : Fin 128) (k : Fin 2048) :
    iblk m c 1 t (ix2 r k) = H m c ⟨128 * (8 * min (t.val / 9 + 1) 15 + min (t.val % 9) 7) + r.val, by omega⟩ k := by
  rw [← V_h]
  blk_ext [iblk, (idx_facts t).2.1]
theorem blk2 (t : Fin cfg0.N) (k : Fin 2048) : iblk m c 2 t (ix2 0 k) = gF m c k := by
  rw [← V_g]
  blk_ext [iblk, (idx_facts t).2.2.1]
theorem blk3 (t : Fin cfg0.N) (k : Fin 2048) (n : Fin 768) :
    iblk m c 3 t (ix3 0 k n) = wpad (wF m c) k ⟨768 * (t.val % 9) + n.val, by omega⟩ := by
  rw [← V_w]
  blk_ext [iblk, (idx_facts t).2.2.2.1]
theorem read4 (t : Fin cfg0.N) (X : Buf (Elt Ideal) ((c : Thread nD τ).loc main_v10)) (r : Fin 1024) (n : Fin 768) :
    ((cfg0.win 4).blk t).view.read (Elt Ideal) X (ix2 r n) = X (ix2 ⟨1024 * (t.val / 9) + r.val, by have h := t_lt t; omega⟩ ⟨768 * (t.val % 9) + n.val, by omega⟩) := by
  blk_ext [(idx_facts t).2.2.2.2]

/-- The tile of a row of the grid is the normed rows. -/
theorem tile_apply (q : ℕ) (hq : q < 16) (r : Fin 1024) (k : Fin 2048) :
    tile m c q (ix2 r k) = nrm (H m c ⟨1024 * q + r.val, by omega⟩) (gF m c) k := by
  cases q with
  | zero =>
    refine (pay1_apply _ _ r k).trans (congrArg₂ (fun x g => nrm x g k) (funext fun l => (blk0 m c (pt 0) r l).trans ?_) (funext fun l => blk2 m c (pt 0) l))
    exact congrArg (fun i => H m c i l) (Fin.ext (by show r.val = 1024 * 0 + r.val; omega))
  | succ q =>
    refine (pay2_apply _ _ _ _).trans (congrArg₂ (fun x g => nrm x g k) (funext fun l => (blk1 m c _ _ l).trans ?_) (funext fun l => blk2 m c _ l))
    refine congrArg (fun i => H m c i l) (Fin.ext ?_)
    show 128 * (8 * min ((9 * q + last (r.val / 128)) % 144 / 9 + 1) 15 + min ((9 * q + last (r.val / 128)) % 144 % 9) 7) + r.val % 128 = 1024 * (q + 1) + r.val
    have hr := r.isLt
    unfold last
    split_ifs <;> omega

/-! ## The array the call returns -/

theorem idx_inj4 : ∀ t t' : Fin cfg0.N, win0_4.index t = win0_4.index t' → t = t' :=
  (by decide +kernel : ∀ t t' : Fin grid0.N, win0_4.index t = win0_4.index t' → t = t')
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

theorem blocks4 (t : Fin cfg0.N) :
    ((cfg0.win 4).blk t).view.read (Elt Ideal) ((dats m 0 c).arrAt 4 cfg0.N) = (cfg0.win 4).cut (grid0.coords t) (k0_pay3 (tile m c (t.val / 9)) (iblk m c 3 t)) := by
  refine ((dats m 0 c).read_blk_arrAt_eq_flushed 4 disjoint4 cfg0.N t t.isLt (flush0_4 t)).trans ?_
  show (cfg0.win 4).cut (grid0.coords t) ((dats m 0 c).after 4 t) = _
  rw [after_4]

theorem point (t : Fin cfg0.N) (r : Fin 1024) (n : Fin 768) :
    k0_pay3 (F := Ideal) (tile m c (t.val / 9)) (iblk m c 3 t) (ix2 r n)
      = inOut (H m c) (gF m c) (wF m c) ⟨1024 * (t.val / 9) + r.val, by have h := t_lt t; omega⟩ ⟨768 * (t.val % 9) + n.val, by omega⟩ := by
  rw [pay3_apply]
  unfold inOut
  exact Finset.sum_congr rfl fun k _ => congrArg₂ (· * ·) (tile_apply m c _ (by have h := t_lt t; omega) r k) (blk3 m c t k n)

theorem array_apply (r : Fin 16384) (n : Fin 6912) :
    (dats m 0 c).arrAt 4 cfg0.N (ix2 r n) = inOut (H m c) (gF m c) (wF m c) r n := by
  have hN : 9 * (r.val / 1024) + n.val / 768 < cfg0.N := lt_of_lt_of_eq (by omega : _ < 144) N_0.symm
  have e := blocks4 m c ⟨9 * (r.val / 1024) + n.val / 768, hN⟩
  have e1 := (read4 c ⟨9 * (r.val / 1024) + n.val / 768, hN⟩ _ ⟨r.val % 1024, by omega⟩ ⟨n.val % 768, by omega⟩).symm.trans
    ((congrFun e (ix2 (⟨r.val % 1024, by omega⟩ : Fin 1024) (⟨n.val % 768, by omega⟩ : Fin 768))).trans (point m c _ _ _))
  have hr : (⟨1024 * ((9 * (r.val / 1024) + n.val / 768) / 9) + r.val % 1024, by omega⟩ : Fin 16384) = r := Fin.ext (by dsimp only; omega)
  have hn : (⟨768 * ((9 * (r.val / 1024) + n.val / 768) % 9) + n.val % 768, by omega⟩ : Fin 6912) = n := Fin.ext (by dsimp only; omega)
  dsimp only at e1
  rw [hr, hn] at e1
  exact e1

/-- The run, with the array the call returns and the arguments it leaves. -/
theorem run_array : θ_run defs (onTc (τ := τ) (main (F := Ideal))) ⟨m, fun _ => 0, ρ⟩ fun r => ∀ c : Dev nD,
      r.2.mem ((c : Thread nD τ).loc main_v10) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 4,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.InProjIdeal.In

end
-- ==== Proof.FoxRuns.lean ====
module

public import proofs.«01_k».proof.Proof.Gen.Fox.Launch
public import proofs.«01_k».proof.Proof.Gen.Fox.Skeleton
public import proofs.«01_k».proof.Proof.Gen.Fox.Loops
public import proofs.«01_k».proof.Proof.Gen.Fox.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Fox.Attention

open Cert.Fox.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Fox`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 2) — decided over the grid. -/
theorem hcond0_0 : ∀ t : Fin cfg0.N, cond0_0 (grid0.coords t) ↔ t.val % 2 = 0 :=
  (by decide +kernel : ∀ t : Fin grid0.N, cond0_0 (grid0.coords t) ↔ t.val % 2 = 0)

/-- The condition of the body's `scf.if` 1 (`k0_h2`), from the grid coordinates (the skeleton's scalar
    chain substituted). -/
abbrev cond0_1 (i : grid0.Coords) : Prop := k0_cond2 i = 1#1
/-- It holds at the points ≡ 1 (mod 2) — decided over the grid. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x6x1x256x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x6x4096x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x6x16x144x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x768 .bf16 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S6x144x256 .f32 := Memref.whole cc0_scratch0
abbrev scM0_1 : Memref sig .tc .vmem S6x256x256 .f32 := Memref.whole cc0_scratch1
abbrev scM0_2 : Memref sig .tc .vmem S6x256x256 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Fox.Attention

end
-- ==== Proof.FoxRunA.lean ====
module

public import proofs.«01_k».proof.Proof.FoxRuns

@[expose] public section

-- membership in a rectangle of production extents (`View.cover_of_tiled`): the elaborator's structural look
-- recurses once per coordinate of the long axes
set_option maxRecDepth 16384

noncomputable section

namespace Cert.Fox.Attention

open Cert.Fox.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken, `scf.if` 1 not taken: points 0, 2, … 62: 32 of 64): on whole staging memrefs — the inputs' at their contents,
    the FORGOTTEN outputs' (3) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg3 : Memref sig .tc .vmem S1x6x1x256x256 .bf16) (harg3 : arg3.IsWhole) (arg4 : Memref sig .tc .vmem S1x6x4096x256 .bf16) (harg4 : arg4.IsWhole) (arg5 : Memref sig .tc .vmem S1x6x16x144x256 .bf16) (harg5 : arg5.IsWhole) (arg6 : Memref sig .tc .vmem S1x256x768 .bf16) (harg6 : arg6.IsWhole) (arg7 : Memref sig .tc .vmem S6x144x256 .f32) (harg7 : arg7.IsWhole) (arg8 : Memref sig .tc .vmem S6x256x256 .f32) (harg8 : arg8.IsWhole) (arg9 : Memref sig .tc .vmem S6x256x256 .f32) (harg9 : arg9.IsWhole) (hc0 : cond0_0 i) (hc1 : ¬cond0_1 i)
    (x0 : Vec F S1x6x1x256x256 .bf16) (x1 : Vec F S1x6x4096x256 .bf16) (x2 : Vec F S1x6x16x144x256 .bf16) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_fox_attn i arg3 harg3 arg4 harg4 arg5 harg5 arg6 harg6 arg7 harg7 arg8 harg8 arg9 harg9) K := by
    intro E K
    simp only [cc0_fox_attn_eq_skeleton]; unfold cc0_fox_attn_skel
    simp only [k0_part45_eq_skeleton, k0_part46_eq_skeleton, k0_part47_eq_skeleton, k0_part48_eq_skeleton, k0_part27_eq_skeleton, k0_part28_eq_skeleton, k0_part29_eq_skeleton, k0_part30_eq_skeleton, k0_part31_eq_skeleton, k0_part32_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _, _; isplitr; swap; · iexact H3
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Fox.Attention

end
-- ==== Proof.FoxRunB.lean ====
module

public import proofs.«01_k».proof.Proof.FoxRunA

@[expose] public section

-- membership in a rectangle of production extents (`View.cover_of_tiled`): the elaborator's structural look
-- recurses once per coordinate of the long axes
set_option maxRecDepth 16384

noncomputable section

namespace Cert.Fox.Attention

open Cert.Fox.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1304000 in
/-- The body's triple IN CASE B (`scf.if` 0 not taken, `scf.if` 1 taken: points 1, 3, … 63: 32 of 64): on whole staging memrefs — the inputs' at their contents,
    the FORGOTTEN outputs' (3) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg3 : Memref sig .tc .vmem S1x6x1x256x256 .bf16) (harg3 : arg3.IsWhole) (arg4 : Memref sig .tc .vmem S1x6x4096x256 .bf16) (harg4 : arg4.IsWhole) (arg5 : Memref sig .tc .vmem S1x6x16x144x256 .bf16) (harg5 : arg5.IsWhole) (arg6 : Memref sig .tc .vmem S1x256x768 .bf16) (harg6 : arg6.IsWhole) (arg7 : Memref sig .tc .vmem S6x144x256 .f32) (harg7 : arg7.IsWhole) (arg8 : Memref sig .tc .vmem S6x256x256 .f32) (harg8 : arg8.IsWhole) (arg9 : Memref sig .tc .vmem S6x256x256 .f32) (harg9 : arg9.IsWhole) (hc0 : ¬cond0_0 i) (hc1 : cond0_1 i)
    (x0 : Vec F S1x6x1x256x256 .bf16) (x1 : Vec F S1x6x4096x256 .bf16) (x2 : Vec F S1x6x16x144x256 .bf16) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_fox_attn i arg3 harg3 arg4 harg4 arg5 harg5 arg6 harg6 arg7 harg7 arg8 harg8 arg9 harg9) K := by
    intro E K
    simp only [cc0_fox_attn_eq_skeleton]; unfold cc0_fox_attn_skel
    simp only [k0_part45_eq_skeleton, k0_part46_eq_skeleton, k0_part47_eq_skeleton, k0_part48_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _, _; isplitr; swap; · iexact H3
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Fox.Attention

end
-- ==== Proof.FoxFrame.lean ====
module

public import proofs.«01_k».proof.Proof.FoxRunB
public import Idealize.ShloMosaic.Lib.Claim

@[expose] public section

-- membership in a rectangle of production extents (`View.cover_of_tiled`): the elaborator's structural look
-- recurses once per coordinate of the long axes
set_option maxRecDepth 16384

noncomputable section

namespace Cert.Fox.Attention

open Cert.Fox.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (3): nothing reads what the kernel leaves in them, so nothing
    of it is named (Lib/Pipeline/Dat.lean `Dat.toRForget`). -/
def forgets0 : Fin 4 → Bool := fun w => w.val == 3

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d))

set_option maxHeartbeats 800000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 64 := lt_of_lt_of_eq t.isLt (show cfg0.N = 64 from N_0)
  by_cases h0 : t.val % 2 = 0
  · by_cases h1 : t.val % 2 = 1
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      iintro ⟨⟨⟨HS0, HS1, HS2⟩, Hg⟩, Ho, ⟨%d0, H0⟩, ⟨%d1, H1⟩, ⟨%d2, H2⟩, ⟨%d3, H3⟩⟩
      iapply ((kernelRun0_A c (grid0.coords t) _ _ _ _ _ _ _ _ _ _ _ _ _ _ ((hcond0_0 t).mpr h0) (fun h => h1 ((hcond0_1 t).mp h)) (iblk m c 0 t) (iblk m c 1 t) (iblk m c 2 t)) Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      iexact H3
  · by_cases h1 : t.val % 2 = 1
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      iintro ⟨⟨⟨HS0, HS1, HS2⟩, Hg⟩, Ho, ⟨%d0, H0⟩, ⟨%d1, H1⟩, ⟨%d2, H2⟩, ⟨%d3, H3⟩⟩
      iapply ((kernelRun0_B c (grid0.coords t) _ _ _ _ _ _ _ _ _ _ _ _ _ _ (fun h => h0 ((hcond0_0 t).mp h)) ((hcond0_1 t).mpr h1) (iblk m c 0 t) (iblk m c 1 t) (iblk m c 2 t)) Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      iexact H3
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 3) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- THE FRAME: `Cert.quiescent_Fox`'s statement (Defs.lean) at any `F` — Proof.lean cites it at `Bits`:
    `theorem Cert.Proof.claim : Cert.Claim := ⟨Cert.Fox.Gen.facts, fun m ρ _ => Cert.Fox.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Fox.Attention

end
-- ==== Proof.FfnRef.lean ====
module

public import proofs.«01_k».proof.Proof.Gen.ReferenceIdeal.Run
public import proofs.«01_k».proof.Proof.FfnMath
public import Idealize.ShloMosaic.Lib.Pointwise
public import Idealize.ShloMosaic.Lib.KernelVsHost

@[expose] public section

set_option maxRecDepth 16384

noncomputable section

namespace Cert.ReferenceIdeal.RefValue

open Cert.ReferenceIdeal Cert.ReferenceIdeal.Gen Cert.ReferenceIdeal.Value Idealize.ShloMosaic Idealize.ShloMosaic.TcCoe Idealize.SL.Sem Cert.Ffn

section
variable {F : FTy → Type} [FloatOps F]

/-! ## The reference's term in named parts -/

def norm (A0 : FVec F S4x4096x2048 .f32) (A1 : FVec F S2048 .f32) : FVec F S4x4096x2048 .f32 :=
  mulf (mulf A0 (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf A0 A0) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 A1))

def projV (A0 : FVec F S4x4096x2048 .f32) (A1 : FVec F S2048 .f32) (W : FVec F S2048x5632 .f32) : FVec F S4x4096x5632 .f32 :=
  Host.dotGeneral dot_S4x4096x2048_S2048x5632_S4x4096x5632_2_0_01_1_n_n none (norm A0 A1) W

def padV (A0 : FVec F S4x4096x2048 .f32) (A1 : FVec F S2048 .f32) (A2 : FVec F S2048x5632 .f32) : FVec F S4x4098x5632 .f32 :=
  pad S4x4098x5632 ![0, 2, 0] ![0, 0, 0] ![0, 0, 0] (projV A0 A1 A2) (sitofp .f32 (constantI S_ 32 0#32)) pads_S4x4096x5632_S4x4098x5632_000_200_000 h_S_

def convV (A0 : FVec F S4x4096x2048 .f32) (A1 : FVec F S2048 .f32) (A2 : FVec F S2048x5632 .f32) (A4 : FVec F S3x5632 .f32) (A5 : FVec F S5632 .f32) : FVec F S4x4096x5632 .f32 :=
  addf (addf (addf (addf (broadcastInDim S4x4096x5632 ![] bcast_S_S4x4096x5632 (constant S_ .f32 0x00000000#32)) (mulf (extractStridedSlice S4x4096x5632 ![0, 0, 0] (padV A0 A1 A2) slices_S4x4098x5632_S4x4096x5632_0_0_0) (broadcastInDim S4x4096x5632 ![0, 1, 2] bcast_S1x1x5632_S4x4096x5632_0_1_2 (broadcastInDim S1x1x5632 ![2] bcast_S5632_S1x1x5632_2 (shapeCast _ (extractStridedSlice S1x5632 ![0, 0] A4 slices_S3x5632_S1x5632_0_0) shapeCasts_S1x5632_S5632))))) (mulf (extractStridedSlice S4x4096x5632 ![0, 1, 0] (padV A0 A1 A2) slices_S4x4098x5632_S4x4096x5632_0_1_0) (broadcastInDim S4x4096x5632 ![0, 1, 2] bcast_S1x1x5632_S4x4096x5632_0_1_2 (broadcastInDim S1x1x5632 ![2] bcast_S5632_S1x1x5632_2 (shapeCast _ (extractStridedSlice S1x5632 ![1, 0] A4 slices_S3x5632_S1x5632_1_0) shapeCasts_S1x5632_S5632))))) (mulf (extractStridedSlice S4x4096x5632 ![0, 2, 0] (padV A0 A1 A2) slices_S4x4098x5632_S4x4096x5632_0_2_0) (broadcastInDim S4x4096x5632 ![0, 1, 2] bcast_S1x1x5632_S4x4096x5632_0_1_2 (broadcastInDim S1x1x5632 ![2] bcast_S5632_S1x1x5632_2 (shapeCast _ (extractStridedSlice S1x5632 ![2, 0] A4 slices_S3x5632_S1x5632_2_0) shapeCasts_S1x5632_S5632))))) (broadcastInDim S4x4096x5632 ![0, 1, 2] bcast_S1x1x5632_S4x4096x5632_0_1_2 (broadcastInDim S1x1x5632 ![2] bcast_S5632_S1x1x5632_2 A5))

def actV (A0 : FVec F S4x4096x2048 .f32) (A1 : FVec F S2048 .f32) (A2 : FVec F S2048x5632 .f32) (A3 : FVec F S2048x5632 .f32) (A4 : FVec F S3x5632 .f32) (A5 : FVec F S5632 .f32) : FVec F S4x4096x5632 .f32 :=
  mulf (mulf (convV A0 A1 A2 A4 A5) (mulf (broadcastInDim S4x4096x5632 ![] bcast_S_S4x4096x5632 (constant S_ .f32 0x3F000000#32)) (addf (broadcastInDim S4x4096x5632 ![] bcast_S_S4x4096x5632 (constant S_ .f32 0x3F800000#32)) (Host.tanh (mulf (broadcastInDim S4x4096x5632 ![] bcast_S_S4x4096x5632 (constant S_ .f32 0x3F4C422A#32)) (addf (convV A0 A1 A2 A4 A5) (mulf (broadcastInDim S4x4096x5632 ![] bcast_S_S4x4096x5632 (constant S_ .f32 0x3D372713#32)) (mulf (mulf (convV A0 A1 A2 A4 A5) (convV A0 A1 A2 A4 A5)) (convV A0 A1 A2 A4 A5))))))))) (projV A0 A1 A3)

def resV (A0 : FVec F S4x4096x2048 .f32) (A1 : FVec F S2048 .f32) (A2 : FVec F S2048x5632 .f32) (A3 : FVec F S2048x5632 .f32) (A4 : FVec F S3x5632 .f32) (A5 : FVec F S5632 .f32) (A6 : FVec F S5632x2048 .f32) : FVec F S16384x2048 .f32 :=
  shapeCast _ (addf A0 (Host.dotGeneral dot_S4x4096x5632_S5632x2048_S4x4096x2048_2_0_01_1_n_n none (actV A0 A1 A2 A3 A4 A5) A6)) shapeCasts_S4x4096x2048_S16384x2048

theorem res_eq (m : (ℓ : Loc nD τ sig) → Buf (Elt F) ℓ) (c : Dev nD) :
    res_main_v57 m c = resV (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := rfl

end

/-- The row `4096 b + t`. -/
abbrev row (b : Fin 4) (t : Fin 4096) : Fin 16384 := ⟨4096 * b.val + t.val, by omega⟩
/-- The tokens as rows. -/
abbrev rows (A0 : FVec Ideal S4x4096x2048 .f32) (r : Fin 16384) (k : Fin 2048) : EReal := A0 (ix3 ⟨r.val / 4096, by omega⟩ ⟨r.val % 4096, by omega⟩ k)

theorem norm_apply (A0 : FVec Ideal S4x4096x2048 .f32) (A1 : FVec Ideal S2048 .f32) (b : Fin 4) (t : Fin 4096) (k : Fin 2048) :
    norm (F := Ideal) A0 A1 (ix3 b t k) = nrm (fun l => A0 (ix3 b t l)) (fun l => A1 (ix1 l)) k := by
  pointwise [norm, nrm]

theorem projV_apply (A0 : FVec Ideal S4x4096x2048 .f32) (A1 : FVec Ideal S2048 .f32) (W : FVec Ideal S2048x5632 .f32) (b : Fin 4) (t : Fin 4096) (f : Fin 5632) :
    projV (F := Ideal) A0 A1 W (ix3 b t f) = ∑ k : Fin 2048, nrm (fun l => A0 (ix3 b t l)) (fun l => A1 (ix1 l)) k * W (ix2 k f) := by
  pointwise [projV]
  refine Finset.sum_congr rfl fun k _ => ?_
  rw [norm_apply]

theorem padV_apply (A0 : FVec Ideal S4x4096x2048 .f32) (A1 : FVec Ideal S2048 .f32) (A2 : FVec Ideal S2048x5632 .f32) (b : Fin 4) (t : Fin 4098) (f : Fin 5632) :
    padV (F := Ideal) A0 A1 A2 (ix3 b t f) = if h : 2 ≤ t.val then projV (F := Ideal) A0 A1 A2 (ix3 b ⟨t.val - 2, by omega⟩ f) else 0 := by
  pointwise [padV]
  by_cases h : 2 ≤ t.val
  · rw [dif_pos ⟨h, by omega⟩, dif_pos h]
  · rw [dif_neg (fun hh => h hh.1), dif_neg h]
    exact sitofp_zero

theorem convV_apply (A0 : FVec Ideal S4x4096x2048 .f32) (A1 : FVec Ideal S2048 .f32) (A2 : FVec Ideal S2048x5632 .f32) (A4 : FVec Ideal S3x5632 .f32) (A5 : FVec Ideal S5632 .f32) (b : Fin 4) (t : Fin 4096) (f : Fin 5632) :
    convV (F := Ideal) A0 A1 A2 A4 A5 (ix3 b t f)
      = padV (F := Ideal) A0 A1 A2 (ix3 b ⟨t.val, by omega⟩ f) * A4 (ix2 0 f) + padV (F := Ideal) A0 A1 A2 (ix3 b ⟨1 + t.val, by omega⟩ f) * A4 (ix2 1 f)
        + padV (F := Ideal) A0 A1 A2 (ix3 b ⟨2 + t.val, by omega⟩ f) * A4 (ix2 2 f) + A5 (ix1 f) := by
  pointwise [convV]

theorem actV_apply (A0 : FVec Ideal S4x4096x2048 .f32) (A1 : FVec Ideal S2048 .f32) (A2 : FVec Ideal S2048x5632 .f32) (A3 : FVec Ideal S2048x5632 .f32) (A4 : FVec Ideal S3x5632 .f32) (A5 : FVec Ideal S5632 .f32) (b : Fin 4) (t : Fin 4096) (f : Fin 5632) :
    actV (F := Ideal) A0 A1 A2 A3 A4 A5 (ix3 b t f)
      = gelu (convV (F := Ideal) A0 A1 A2 A4 A5 (ix3 b t f)) (projV (F := Ideal) A0 A1 A3 (ix3 b t f)) := by
  pointwise! [actV, gelu]

theorem resV_apply (A0 : FVec Ideal S4x4096x2048 .f32) (A1 : FVec Ideal S2048 .f32) (A2 : FVec Ideal S2048x5632 .f32) (A3 : FVec Ideal S2048x5632 .f32) (A4 : FVec Ideal S3x5632 .f32) (A5 : FVec Ideal S5632 .f32) (A6 : FVec Ideal S5632x2048 .f32) (r : Fin 16384) (n : Fin 2048) :
    resV (F := Ideal) A0 A1 A2 A3 A4 A5 A6 (ix2 r n)
      = rows A0 r n + ∑ f : Fin 5632, actV (F := Ideal) A0 A1 A2 A3 A4 A5 (ix3 ⟨r.val / 4096, by omega⟩ ⟨r.val % 4096, by omega⟩ f) * A6 (ix2 f n) := by
  pointwise [resV]

theorem projV_rows (A0 : FVec Ideal S4x4096x2048 .f32) (A1 : FVec Ideal S2048 .f32) (W : FVec Ideal S2048x5632 .f32) (r s : Fin 16384) (b : Fin 4) (t : Fin 4096) (f : Fin 5632)
    (hb : b.val = s.val / 4096) (ht : t.val = s.val % 4096) :
    projV (F := Ideal) A0 A1 W (ix3 b t f) = proj (rows A0) (fun k => A1 (ix1 k)) (fun k f => W (ix2 k f)) s f := by
  have hb' : b = ⟨s.val / 4096, by omega⟩ := Fin.ext hb
  have ht' : t = ⟨s.val % 4096, by omega⟩ := Fin.ext ht
  rw [hb', ht']
  exact projV_apply _ _ _ _ _ _

theorem padV_back (A0 : FVec Ideal S4x4096x2048 .f32) (A1 : FVec Ideal S2048 .f32) (A2 : FVec Ideal S2048x5632 .f32) (d : ℕ) (r : Fin 16384) (e : Fin 4098) (f : Fin 5632)
    (he : e.val + d = r.val % 4096 + 2) (hd : d ≤ 2) :
    padV (F := Ideal) A0 A1 A2 (ix3 ⟨r.val / 4096, by omega⟩ e f) = back (rows A0) (fun k => A1 (ix1 k)) (fun k f => A2 (ix2 k f)) d r f := by
  rw [padV_apply, back]
  by_cases h : d ≤ r.val % 4096
  · rw [if_pos h, dif_pos (by omega)]
    exact projV_rows _ _ _ r _ _ _ _ (by show r.val / 4096 = (r.val - d) / 4096; omega) (by show e.val - 2 = (r.val - d) % 4096; omega)
  · rw [if_neg h, dif_neg (by omega)]

theorem res_apply (A0 : FVec Ideal S4x4096x2048 .f32) (A1 : FVec Ideal S2048 .f32) (A2 : FVec Ideal S2048x5632 .f32) (A3 : FVec Ideal S2048x5632 .f32) (A4 : FVec Ideal S3x5632 .f32) (A5 : FVec Ideal S5632 .f32) (A6 : FVec Ideal S5632x2048 .f32) (r : Fin 16384) (n : Fin 2048) :
    resV (F := Ideal) A0 A1 A2 A3 A4 A5 A6 (ix2 r n)
      = out (rows A0) (fun k => A1 (ix1 k)) (fun k f => A2 (ix2 k f)) (fun k f => A3 (ix2 k f)) (fun d f => A4 (ix2 d f)) (fun f => A5 (ix1 f)) (fun f n => A6 (ix2 f n)) r n := by
  rw [resV_apply]
  refine congrArg (rows A0 r n + ·) (Finset.sum_congr rfl fun f _ => ?_)
  rw [actV_apply, convV_apply, padV_back A0 A1 A2 2 r _ f (by show r.val % 4096 + 2 = _; omega) (by omega),
    padV_back A0 A1 A2 1 r _ f (by show 1 + r.val % 4096 + 1 = _; omega) (by omega),
    padV_back A0 A1 A2 0 r _ f (by show 2 + r.val % 4096 + 0 = _; omega) (by omega),
    projV_rows A0 A1 A3 r r _ _ f rfl rfl]
  rfl

end Cert.ReferenceIdeal.RefValue

end
-- ==== Proof.FfnPay.lean ====
module

public import proofs.«01_k».proof.Proof.Gen.KernelIdeal.Value
public import proofs.«01_k».proof.Proof.FfnMath
public import Idealize.ShloMosaic.Lib.Pointwise

@[expose] public section

set_option maxRecDepth 16384

noncomputable section

namespace Cert.KernelIdeal.Ffn

open Cert.KernelIdeal Cert.KernelIdeal.Gen Idealize.ShloMosaic Idealize.ShloMosaic.TcCoe Idealize.SL.Sem Cert.Ffn
open Idealize.ShloMosaic.Pipeline (Dat)

/-! ## The payloads read at an index -/

theorem pay4_apply (g : Vec Ideal S1x2048 .f32) (x : Vec Ideal S512x2048 .f32) (r : Fin 512) (k : Fin 2048) :
    k0_pay4 (F := Ideal) g x (ix2 r k) = nrm (fun l => x (ix2 r l)) (fun l => g (ix2 0 l)) k := by
  pointwise [k0_pay4, k0_pay3, nrm]

theorem pay8_apply (g : Vec Ideal S1x2048 .f32) (s : Ideal .f32) (x : Vec Ideal S16x2048 .f32) (r : Fin 16) (k : Fin 2048) :
    k0_pay8 (F := Ideal) (k0_pay3 g) s (k0_pay6 x) (k0_pay7 x) (Scalar.ofBits .f32 0x45000000#32) (ix2 r k)
      = s * nrm (fun l => x (ix2 r l)) (fun l => g (ix2 0 l)) k := by
  pointwise [k0_pay8, k0_pay3, k0_pay6, k0_pay7, nrm]

theorem pay9_apply (j : S512x2048.Idx) : k0_pay9 (F := Ideal) j = 0 := by
  pointwise [k0_pay9]

theorem pay2_apply (x y : Vec Ideal S512x2048 .f32) (j : S512x2048.Idx) : k0_pay2 (F := Ideal) x y j = x j + y j := by
  pointwise [k0_pay2]

theorem pay10_apply (x : Vec Ideal S528x2048 .bf16) (w : Vec Ideal S1x2048x512 .bf16) (r : Fin 512) (f : Fin 512) :
    k0_pay10 (F := Ideal) x w (ix2 r f) = ∑ k : Fin 2048, x (ix2 ⟨16 + r.val, by omega⟩ k) * w (ix3 0 k f) := by
  pointwise [k0_pay10]

theorem pay11_apply (x : Vec Ideal S528x2048 .bf16) (w : Vec Ideal S1x2048x512 .bf16) (cw : Vec Ideal S8x512 .f32) (cb : Vec Ideal S1x512 .f32)
    (r : Fin 512) (f : Fin 512) :
    k0_pay11 (F := Ideal) x w cw cb (ix2 r f)
      = (∑ k : Fin 2048, x (ix2 ⟨14 + r.val, by omega⟩ k) * w (ix3 0 k f)) * cw (ix2 0 f)
        + (∑ k : Fin 2048, x (ix2 ⟨15 + r.val, by omega⟩ k) * w (ix3 0 k f)) * cw (ix2 1 f)
        + (∑ k : Fin 2048, x (ix2 ⟨16 + r.val, by omega⟩ k) * w (ix3 0 k f)) * cw (ix2 2 f) + cb (ix2 0 f) := by
  pointwise [k0_pay11]

theorem pay12_apply (x : Vec Ideal S528x2048 .bf16) (w : Vec Ideal S1x2048x512 .bf16) (cw : Vec Ideal S8x512 .f32) (cb : Vec Ideal S1x512 .f32)
    (j : S512x512.Idx) :
    k0_pay12 (F := Ideal) x w cw cb j = Ideal.ofBits .f32 0x3F000000#32 * k0_pay11 (F := Ideal) x w cw cb j := by
  pointwise [k0_pay12]

theorem pay13_apply (x : Vec Ideal S528x2048 .bf16) (w : Vec Ideal S1x2048x512 .bf16) (cw : Vec Ideal S8x512 .f32) (cb : Vec Ideal S1x512 .f32)
    (j : S512x512.Idx) :
    k0_pay13 (F := Ideal) x w cw cb j = k0_pay11 (F := Ideal) x w cw cb j + Ideal.ofBits .f32 0x3D372713#32 * k0_pay11 (F := Ideal) x w cw cb j
      * k0_pay11 (F := Ideal) x w cw cb j * k0_pay11 (F := Ideal) x w cw cb j := by
  pointwise [k0_pay13]

theorem pay1_apply (v10 v32 v37 : Vec Ideal S512x512 .f32) (s : Ideal .f32) (acc : Vec Ideal S512x2048 .f32) (w : Vec Ideal S1x512x2048 .bf16) (r : Fin 512) (n : Fin 2048) :
    k0_pay1 (F := Ideal) v10 v32 v37 s acc w (ix2 r n)
      = acc (ix2 r n) + ∑ f : Fin 512, v32 (ix2 r f) * (Ideal.ofBits .f32 0x3F800000#32 + Ideal.tanh (s * v37 (ix2 r f))) * v10 (ix2 r f) * w (ix3 0 f n) := by
  pointwise [k0_pay1]

theorem pay5_eq : ∀ i : Fin 32, k0_pay5 (F := Ideal) (BitVec.ofNat 32 i.val) = if i.val % 8 = 0 then Ideal.ofBits .f32 0x00000000#32 else Ideal.ofBits .f32 0x3F800000#32 := by
  intro i
  fin_cases i <;> rfl

end Cert.KernelIdeal.Ffn

end
-- ==== Proof.FfnTerm.lean ====
module

public import proofs.«01_k».proof.Proof.Gen.KernelIdeal.Value
public import Idealize.ShloMosaic.Lib.Pointwise
public import Idealize.ShloMosaic.Lib.WritesUnit

@[expose] public section

set_option maxRecDepth 16384

noncomputable section

namespace Cert.KernelIdeal.Ffn

open Cert.KernelIdeal Cert.KernelIdeal.Gen Idealize.ShloMosaic Idealize.ShloMosaic.TcCoe Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
  (a2 : Memref sig .tc .vmem S512x2048 .f32) (h2 : a2.IsWhole) (a3 : Memref sig .tc .vmem S16x2048 .f32) (h3 : a3.IsWhole)
  (a4 : Memref sig .tc .vmem S1x2048 .f32) (h4 : a4.IsWhole) (a5 : Memref sig .tc .vmem S1x2048x512 .bf16) (h5 : a5.IsWhole)
  (a6 : Memref sig .tc .vmem S1x2048x512 .bf16) (h6 : a6.IsWhole) (a7 : Memref sig .tc .vmem S8x512 .f32) (h7 : a7.IsWhole)
  (a8 : Memref sig .tc .vmem S1x512 .f32) (h8 : a8.IsWhole) (a9 : Memref sig .tc .vmem S1x512x2048 .bf16) (h9 : a9.IsWhole)
  (a10 : Memref sig .tc .vmem S512x2048 .f32) (h10 : a10.IsWhole) (a11 : Memref sig .tc .vmem S528x2048 .bf16) (h11 : a11.IsWhole)
  (a12 : Memref sig .tc .vmem S512x2048 .f32) (h12 : a12.IsWhole)
  (x0 : Vec F S512x2048 .f32) (x1 : Vec F S16x2048 .f32) (x2 : Vec F S1x2048 .f32) (x3 : Vec F S1x2048x512 .bf16) (x4 : Vec F S1x2048x512 .bf16)
  (x5 : Vec F S8x512 .f32) (x6 : Vec F S1x512 .f32) (x7 : Vec F S1x512x2048 .bf16) (xs0 : Vec F S528x2048 .bf16) (xs1 : Vec F S512x2048 .f32)

/-- One tile's part added to the running sum. -/
def step (xs0 : Vec F S528x2048 .bf16) (x3 x4 : Vec F S1x2048x512 .bf16) (x5 : Vec F S8x512 .f32) (x6 : Vec F S1x512 .f32) (x7 : Vec F S1x512x2048 .bf16)
    (xs1 : Vec F S512x2048 .f32) : Vec F S512x2048 .f32 :=
  k0_pay1 (k0_pay10 xs0 x4) (k0_pay12 xs0 x3 x5 x6) (k0_pay13 xs0 x3 x5 x6) (Scalar.ofBits .f32 0x3F4C422A#32) xs1 x7

theorem term_B (hc0 : ¬cond0_0 i) (hc1 : ¬cond0_1 i) :
    sout0_B_1 c i a2 h2 a3 h3 a4 h4 a5 h5 a6 h6 a7 h7 a8 h8 a9 h9 a10 h10 a11 h11 a12 h12 hc0 hc1 x0 x1 x2 x3 x4 x5 x6 x7 xs0 xs1
      = step xs0 x3 x4 x5 x6 x7 xs1 := by
  unfold sout0_B_1
  rw [View.read_writes_eq_canon _ _ _ (scover0_B_1 c i a2 h2 a3 h3 a4 h4 a5 h5 a6 h6 a7 h7 a8 h8 a9 h9 a10 h10 a11 h11 a12 h12 hc0 hc1 x0 x1 x2 x3 x4 x5 x6 x7 xs0 xs1)]
  unfold kernelRun0_B
  dsimp only
  sl_unfold_words
  rw [View.canon_unit_zero hz2]
  simp only [View.readAt_eq_ld, h11.read_unread, h12.read_unread, h5.read_unread, h6.read_unread, h7.read_unread, h8.read_unread, h9.read_unread,
    View.ld_unit_zero (S := S528x2048) hz2, View.ld_unit_zero (S := S512x2048) hz2, View.ld_unit_zero (S := S8x512) hz2, View.ld_unit_zero (S := S1x512) hz2,
    View.ld_unit_zero (S := S1x2048x512) hz3, View.ld_unit_zero (S := S1x512x2048) hz3, shapeCast_self]
  rfl

theorem term_C (hc0 : ¬cond0_0 i) (hc1 : cond0_1 i) :
    out0_C_8 c i a2 h2 a3 h3 a4 h4 a5 h5 a6 h6 a7 h7 a8 h8 a9 h9 a10 h10 a11 h11 a12 h12 hc0 hc1 x0 x1 x2 x3 x4 x5 x6 x7 xs0 xs1
      = k0_pay2 x0 (step xs0 x3 x4 x5 x6 x7 xs1) := by
  unfold out0_C_8
  rw [View.read_writes_eq_canon _ _ _ (cover0_C_8 c i a2 h2 a3 h3 a4 h4 a5 h5 a6 h6 a7 h7 a8 h8 a9 h9 a10 h10 a11 h11 a12 h12 hc0 hc1 x0 x1 x2 x3 x4 x5 x6 x7 xs0 xs1)]
  unfold kernelRun0_C
  dsimp only
  sl_unfold_words
  rw [View.canon_unit_zero hz2]
  simp only [View.readAt_eq_ld, h11.read_unread, h12.read_unread, h2.read_unread, h5.read_unread, h6.read_unread, h7.read_unread, h8.read_unread, h9.read_unread,
    View.ld_unit_zero (S := S528x2048) hz2, View.ld_unit_zero (S := S512x2048) hz2, View.ld_unit_zero (S := S8x512) hz2, View.ld_unit_zero (S := S1x512) hz2,
    View.ld_unit_zero (S := S1x2048x512) hz3, View.ld_unit_zero (S := S1x512x2048) hz3, shapeCast_self, View.readCov_unit_zero (S := S512x2048) _ hz2]
  rfl

/-- The normalised rows a block begins with: the 16 halo rows, scaled by `k0_pay5`, over the block's own 512. -/
def scr (i : grid0.Coords) (x0 : Vec F S512x2048 .f32) (x1 : Vec F S16x2048 .f32) (x2 : Vec F S1x2048 .f32) : Vec F S528x2048 .bf16 := fun y =>
  if h : (y 0).val < 16 then k0_pay8 (k0_pay3 x2) (k0_pay5 (BitVec.ofNat 32 (i 0).val)) (k0_pay6 x1) (k0_pay7 x1) (Scalar.ofBits .f32 0x45000000#32) (ix2 ⟨(y 0).val, h⟩ (y 1))
  else k0_pay4 x2 x0 (ix2 ⟨(y 0).val - 16, by have h : (y 0).val < 528 := (y 0).isLt; omega⟩ (y 1))

theorem canon_scr (i : grid0.Coords) (x0 : Vec F S512x2048 .f32) (x1 : Vec F S16x2048 .f32) (x2 : Vec F S1x2048 .f32)
    (hcov : ∀ y, ∃ p ∈ ([⟨Rect.unit ![0, 0] ![16, 2048] inb_S528x2048_S16x2048_0_0, k0_pay8 (k0_pay3 x2) (k0_pay5 (BitVec.ofNat 32 (i 0).val)) (k0_pay6 x1) (k0_pay7 x1) (FloatOps.ofBits FTy.f32 0x45000000#32)⟩,
      ⟨Rect.unit ![16, 0] ![512, 2048] inb_S528x2048_S512x2048_16_0, k0_pay4 x2 x0⟩] : List (View.Piece (Elt F) S528x2048 .bf16)), y ∈ p.1.set) :
    View.canon ([⟨Rect.unit ![0, 0] ![16, 2048] inb_S528x2048_S16x2048_0_0, k0_pay8 (k0_pay3 x2) (k0_pay5 (BitVec.ofNat 32 (i 0).val)) (k0_pay6 x1) (k0_pay7 x1) (FloatOps.ofBits FTy.f32 0x45000000#32)⟩,
      ⟨Rect.unit ![16, 0] ![512, 2048] inb_S528x2048_S512x2048_16_0, k0_pay4 x2 x0⟩] : List (View.Piece (Elt F) S528x2048 .bf16)) = scr i x0 x1 x2 := by
  funext y
  refine View.canon_apply_of_pieces (scr i x0 x1 x2) _ ?_ y (hcov y)
  intro p hp x
  simp only [List.mem_cons, List.not_mem_nil, or_false] at hp
  rcases hp with rfl | rfl
  · have hx : (x 0).val < 16 := (x 0).isLt
    have h0 : ((Rect.unit (s := S528x2048) ![0, 0] ![16, 2048] inb_S528x2048_S16x2048_0_0).emb x 0).val < 16 := by
      show 0 + 1 * (x 0).val < 16; omega
    unfold scr
    rw [dif_pos h0]
    refine congrArg _ (funext fun a => Fin.ext ?_)
    fin_cases a
    · show (x 0).val = 0 + 1 * (x 0).val; omega
    · show (x 1).val = 0 + 1 * (x 1).val; omega
  · have hx : (x 0).val < 512 := (x 0).isLt
    have h0 : ¬((Rect.unit (s := S528x2048) ![16, 0] ![512, 2048] inb_S528x2048_S512x2048_16_0).emb x 0).val < 16 := by
      show ¬(16 + 1 * (x 0).val < 16); omega
    unfold scr
    rw [dif_neg h0]
    refine congrArg _ (funext fun a => Fin.ext ?_)
    fin_cases a
    · show (x 0).val = 16 + 1 * (x 0).val - 16; omega
    · show (x 1).val = 0 + 1 * (x 1).val; omega

theorem term_A0 (hc0 : cond0_0 i) (hc1 : ¬cond0_1 i) :
    sout0_A_0 c i a2 h2 a3 h3 a4 h4 a5 h5 a6 h6 a7 h7 a8 h8 a9 h9 a10 h10 a11 h11 a12 h12 hc0 hc1 x0 x1 x2 x3 x4 x5 x6 x7
      = scr i x0 x1 x2 := by
  have hcov := scover0_A_0 c i a2 h2 a3 h3 a4 h4 a5 h5 a6 h6 a7 h7 a8 h8 a9 h9 a10 h10 a11 h11 a12 h12 hc0 hc1 x0 x1 x2 x3 x4 x5 x6 x7
  unfold sout0_A_0
  rw [View.read_writes_eq_canon _ _ _ hcov]
  revert hcov
  unfold kernelRun0_A
  dsimp only
  sl_unfold_words
  simp only [View.readAt_eq_ld, h2.read_unread, h3.read_unread, h4.read_unread, h5.read_unread, h6.read_unread, h7.read_unread, h8.read_unread, h9.read_unread, h11.read_unread, h12.read_unread,
    View.ld_unit_zero (S := S528x2048) hz2, View.ld_unit_zero (S := S512x2048) hz2, View.ld_unit_zero (S := S16x2048) hz2, View.ld_unit_zero (S := S1x2048) hz2,
    View.ld_unit_zero (S := S8x512) hz2, View.ld_unit_zero (S := S1x512) hz2, View.ld_unit_zero (S := S1x2048x512) hz3, View.ld_unit_zero (S := S1x512x2048) hz3]
  exact canon_scr i x0 x1 x2

theorem term_A1 (hc0 : cond0_0 i) (hc1 : ¬cond0_1 i) :
    sout0_A_1 c i a2 h2 a3 h3 a4 h4 a5 h5 a6 h6 a7 h7 a8 h8 a9 h9 a10 h10 a11 h11 a12 h12 hc0 hc1 x0 x1 x2 x3 x4 x5 x6 x7
      = step (scr i x0 x1 x2) x3 x4 x5 x6 x7 k0_pay9 := by
  have hcov := scover0_A_0 c i a2 h2 a3 h3 a4 h4 a5 h5 a6 h6 a7 h7 a8 h8 a9 h9 a10 h10 a11 h11 a12 h12 hc0 hc1 x0 x1 x2 x3 x4 x5 x6 x7
  unfold sout0_A_1
  rw [View.read_writes_eq_canon _ _ _ (scover0_A_1 c i a2 h2 a3 h3 a4 h4 a5 h5 a6 h6 a7 h7 a8 h8 a9 h9 a10 h10 a11 h11 a12 h12 hc0 hc1 x0 x1 x2 x3 x4 x5 x6 x7)]
  revert hcov
  unfold kernelRun0_A
  dsimp only
  sl_unfold_words
  rw [View.canon_cons_unit_zero (S := S512x2048) hz2]
  simp only [View.readAt_eq_ld, h2.read_unread, h3.read_unread, h4.read_unread, h5.read_unread, h6.read_unread, h7.read_unread, h8.read_unread, h9.read_unread, h11.read_unread, h12.read_unread,
    View.ld_unit_zero (S := S528x2048) hz2, View.ld_unit_zero (S := S512x2048) hz2, View.ld_unit_zero (S := S16x2048) hz2, View.ld_unit_zero (S := S1x2048) hz2,
    View.ld_unit_zero (S := S8x512) hz2, View.ld_unit_zero (S := S1x512) hz2, View.ld_unit_zero (S := S1x2048x512) hz3, View.ld_unit_zero (S := S1x512x2048) hz3, View.readCov_unit_zero (S := S512x2048) _ hz2]
  intro hcov
  have e := (View.readCov_eq_canon_ld a11.view _ (Rect.unit (s := S528x2048) ![0, 0] S528x2048.size inb_S528x2048_S528x2048_0_0) hcov).trans
    ((View.ld_unit_zero (S := S528x2048) hz2 _ _).trans (canon_scr i x0 x1 x2 hcov))
  simp only [show S528x2048.size = ![528, 2048] from rfl] at e
  simp only [e]
  rfl

end Cert.KernelIdeal.Ffn

end
-- ==== Proof.FfnStep.lean ====
module

public import proofs.«01_k».proof.Proof.FfnPay
public import proofs.«01_k».proof.Proof.FfnTerm
public import Idealize.ShloMosaic.Lib.IdealHost

@[expose] public section

noncomputable section

namespace Cert.KernelIdeal.Ffn

open Cert.KernelIdeal Cert.KernelIdeal.Gen Idealize.ShloMosaic Idealize.ShloMosaic.TcCoe Idealize.SL.Sem Cert.Ffn

variable (H : Fin 16384 → Fin 2048 → EReal) (g : Fin 2048 → EReal) (wg wu : Fin 2048 → Fin 5632 → EReal)
  (cw : Fin 3 → Fin 5632 → EReal) (cb : Fin 5632 → EReal) (wd : Fin 5632 → Fin 2048 → EReal)

/-- The normalised rows a row tile works on: 16 rows before it (zero where a sequence starts), then its 512. -/
def scE (i : Fin 32) (y : Fin 528) (k : Fin 2048) : EReal :=
  if y.val < 16 ∧ i.val % 8 = 0 then 0 else nrm (H ⟨512 * i.val + y.val - 16, by omega⟩) g k

/-- `d` rows back in those rows is `d` tokens back in the sequence. -/
theorem scE_sum (i : Fin 32) (r : Fin 512) (d : ℕ) (hd : d ≤ 2) (f : Fin 5632) (y : Fin 528) (hy : y.val + d = 16 + r.val) :
    ∑ k, scE H g i y k * wg k f = back H g wg d ⟨512 * i.val + r.val, by omega⟩ f := by
  unfold back
  by_cases h : d ≤ (512 * i.val + r.val) % 4096
  · rw [if_pos h]
    unfold proj
    refine Finset.sum_congr rfl fun k _ => ?_
    unfold scE
    rw [if_neg (by omega)]
    have e : (⟨512 * i.val + y.val - 16, by omega⟩ : Fin 16384) = ⟨512 * i.val + r.val - d, by omega⟩ := Fin.ext (by show 512 * i.val + y.val - 16 = 512 * i.val + r.val - d; omega)
    rw [e]
  · rw [if_neg h]
    refine Finset.sum_eq_zero fun k _ => ?_
    unfold scE
    rw [if_pos (by omega), zero_mul]

theorem scE_proj (w : Fin 2048 → Fin 5632 → EReal) (i : Fin 32) (r : Fin 512) (f : Fin 5632) (y : Fin 528) (hy : y.val = 16 + r.val) :
    ∑ k, scE H g i y k * w k f = proj H g w ⟨512 * i.val + r.val, by omega⟩ f :=
  (scE_sum H g w i r 0 (by omega) f y (by omega)).trans (if_pos (Nat.zero_le _))

/-- One tile of 512 hidden columns adds its part of the down projection. -/
theorem step_apply (i : Fin 32) (q : Fin 11) (xs0 : Vec Ideal S528x2048 .bf16) (x3 x4 : Vec Ideal S1x2048x512 .bf16) (x5 : Vec Ideal S8x512 .f32) (x6 : Vec Ideal S1x512 .f32)
    (x7 : Vec Ideal S1x512x2048 .bf16) (acc : Vec Ideal S512x2048 .f32)
    (h0 : ∀ y k, xs0 (ix2 y k) = scE H g i y k)
    (h3 : ∀ (k : Fin 2048) (f : Fin 512), x3 (ix3 0 k f) = wg k ⟨512 * q.val + f.val, by omega⟩)
    (h4 : ∀ (k : Fin 2048) (f : Fin 512), x4 (ix3 0 k f) = wu k ⟨512 * q.val + f.val, by omega⟩)
    (h5 : ∀ (d : Fin 3) (f : Fin 512), x5 (ix2 ⟨d.val, by omega⟩ f) = cw d ⟨512 * q.val + f.val, by omega⟩)
    (h6 : ∀ (f : Fin 512), x6 (ix2 0 f) = cb ⟨512 * q.val + f.val, by omega⟩)
    (h7 : ∀ (f : Fin 512) (n : Fin 2048), x7 (ix3 0 f n) = wd ⟨512 * q.val + f.val, by omega⟩ n) (r : Fin 512) (n : Fin 2048) :
    step (F := Ideal) xs0 x3 x4 x5 x6 x7 acc (ix2 r n)
      = acc (ix2 r n) + ∑ f : Fin 512, act H g wg wu cw cb ⟨512 * i.val + r.val, by omega⟩ ⟨512 * q.val + f.val, by omega⟩ * wd ⟨512 * q.val + f.val, by omega⟩ n := by
  unfold step
  rw [pay1_apply]
  refine congrArg (acc (ix2 r n) + ·) (Finset.sum_congr rfl fun f _ => ?_)
  have hsum : ∀ (d : ℕ) (hd : d ≤ 2) (y : Fin 528) (hy : y.val + d = 16 + r.val), ∑ k : Fin 2048, xs0 (ix2 y k) * x3 (ix3 0 k f)
      = back H g wg d ⟨512 * i.val + r.val, by omega⟩ ⟨512 * q.val + f.val, by omega⟩ := fun d hd y hy =>
    (Finset.sum_congr rfl fun k _ => by rw [h0, h3]).trans (scE_sum H g wg i r d hd _ y hy)
  have eu : ∑ k : Fin 2048, xs0 (ix2 ⟨16 + r.val, by omega⟩ k) * x4 (ix3 0 k f) = proj H g wu ⟨512 * i.val + r.val, by omega⟩ ⟨512 * q.val + f.val, by omega⟩ :=
    (Finset.sum_congr rfl fun k _ => by rw [h0, h4]).trans (scE_proj H g wu i r _ _ rfl)
  have c0 : x5 (ix2 0 f) = cw 0 ⟨512 * q.val + f.val, by omega⟩ := h5 0 f
  have c1 : x5 (ix2 1 f) = cw 1 ⟨512 * q.val + f.val, by omega⟩ := h5 1 f
  have c2 : x5 (ix2 2 f) = cw 2 ⟨512 * q.val + f.val, by omega⟩ := h5 2 f
  have e11 : k0_pay11 (F := Ideal) xs0 x3 x5 x6 (ix2 r f) = conv H g wg cw cb ⟨512 * i.val + r.val, by omega⟩ ⟨512 * q.val + f.val, by omega⟩ := by
    rw [pay11_apply, hsum 2 (by omega) _ (by show 14 + r.val + 2 = 16 + r.val; omega), hsum 1 (by omega) _ (by show 15 + r.val + 1 = 16 + r.val; omega),
      hsum 0 (by omega) _ rfl, c0, c1, c2, h6]
    rfl
  rw [pay12_apply, pay13_apply, e11, pay10_apply, eu, h7]
  rfl

/-- The scratch the first tile of a row tile fills. -/
theorem scr_apply (i : Fin 32) (co : grid0.Coords) (hco : (co 0).val = i.val) (x0 : Vec Ideal S512x2048 .f32) (x1 : Vec Ideal S16x2048 .f32) (x2 : Vec Ideal S1x2048 .f32)
    (h0 : ∀ (r : Fin 512) (k : Fin 2048), x0 (ix2 r k) = H ⟨512 * i.val + r.val, by omega⟩ k)
    (h1 : ∀ (r : Fin 16) (k : Fin 2048), x1 (ix2 r k) = H ⟨(i.val * 32 - 1) * 16 + r.val, by omega⟩ k)
    (h2 : ∀ k : Fin 2048, x2 (ix2 0 k) = g k) (y : Fin 528) (k : Fin 2048) :
    scr (F := Ideal) co x0 x1 x2 (ix2 y k) = scE H g i y k := by
  have e2 : (fun l : Fin 2048 => x2 (ix2 0 l)) = g := funext h2
  unfold scE
  by_cases h : y.val < 16
  · have e : scr (F := Ideal) co x0 x1 x2 (ix2 y k)
        = k0_pay8 (k0_pay3 x2) (k0_pay5 (BitVec.ofNat 32 (co 0).val)) (k0_pay6 x1) (k0_pay7 x1) (Scalar.ofBits .f32 0x45000000#32) (ix2 ⟨y.val, h⟩ k) := dif_pos h
    rw [e, pay8_apply, hco, pay5_eq, e2]
    by_cases h8 : i.val % 8 = 0
    · rw [if_pos h8, if_pos ⟨h, h8⟩, Ideal.ofBits_zero_f32, zero_mul]
    · rw [if_neg h8, if_neg (fun hh => h8 hh.2), Ideal.ofBits_one_f32, one_mul]
      have e1 : (fun l : Fin 2048 => x1 (ix2 ⟨y.val, h⟩ l)) = H ⟨512 * i.val + y.val - 16, by omega⟩ :=
        funext fun l => (h1 _ l).trans (congrArg (fun r => H r l) (Fin.ext (by show (i.val * 32 - 1) * 16 + y.val = 512 * i.val + y.val - 16; omega)))
      rw [e1]
  · have e : scr (F := Ideal) co x0 x1 x2 (ix2 y k) = k0_pay4 x2 x0 (ix2 ⟨y.val - 16, by omega⟩ k) := dif_neg h
    rw [e, pay4_apply, e2, if_neg (fun hh => h hh.1)]
    have e1 : (fun l : Fin 2048 => x0 (ix2 ⟨y.val - 16, by omega⟩ l)) = H ⟨512 * i.val + y.val - 16, by omega⟩ :=
      funext fun l => (h0 _ l).trans (congrArg (fun r => H r l) (Fin.ext (by show 512 * i.val + (y.val - 16) = 512 * i.val + y.val - 16; omega)))
    rw [e1]

/-- Tile `q`'s part of the down projection at a row. -/
def part (r : Fin 16384) (n : Fin 2048) (q : ℕ) : EReal :=
  if h : q < 11 then ∑ f : Fin 512, act H g wg wu cw cb r ⟨512 * q + f.val, by omega⟩ * wd ⟨512 * q + f.val, by omega⟩ n else 0

theorem part_sum (r : Fin 16384) (n : Fin 2048) :
    ∑ q ∈ Finset.range 11, part H g wg wu cw cb wd r n q = ∑ f : Fin 5632, act H g wg wu cw cb r f * wd f n := by
  rw [Finset.sum_range]
  refine Eq.trans ?_ (Fin.sum_univ_tiles (N := 5632) 11 512 (by norm_num) (fun f => act H g wg wu cw cb r f * wd f n)).symm
  refine Finset.sum_congr rfl fun q _ => ?_
  unfold part
  rw [dif_pos q.isLt]
  refine Finset.sum_congr rfl fun f _ => ?_
  have e : (⟨512 * q.val + f.val, by omega⟩ : Fin 5632) = ⟨q.val * 512 + f.val, by omega⟩ := Fin.ext (by show 512 * q.val + f.val = q.val * 512 + f.val; omega)
  rw [e]

end Cert.KernelIdeal.Ffn

end
-- ==== Proof.FfnVal.lean ====
module

public import proofs.«01_k».proof.Proof.FfnTerm
public import proofs.«01_k».proof.Proof.FfnMath
public import Idealize.ShloMosaic.Lib.Pointwise
public import Idealize.ShloMosaic.Lib.Claim
public import Idealize.ShloMosaic.Lib.Routing.OpsSet
public import Idealize.ShloMosaic.Lib.Pipeline.ValueKit.Point

@[expose] public section

set_option maxRecDepth 16384

noncomputable section

namespace Cert.KernelIdeal.Ffn

open Cert.KernelIdeal Cert.KernelIdeal.Gen Idealize.ShloMosaic Idealize.ShloMosaic.TcCoe Idealize.SL.Sem Cert.Ffn
open Idealize.ShloMosaic.Pipeline (Dat)

variable (m : (ℓ : Loc nD τ sig) → Buf (Elt Ideal) ℓ) (c : Dev nD)

/-! ## The blocks the windows stage, as entries of the arguments -/

abbrev A0 : FVec Ideal S4x4096x2048 .f32 := m ((c : Thread nD τ).loc main_arg0)
abbrev A1 : FVec Ideal S2048 .f32 := m ((c : Thread nD τ).loc main_arg1)
abbrev A2 : FVec Ideal S2048x5632 .f32 := m ((c : Thread nD τ).loc main_arg2)
abbrev A3 : FVec Ideal S2048x5632 .f32 := m ((c : Thread nD τ).loc main_arg3)
abbrev A4 : FVec Ideal S3x5632 .f32 := m ((c : Thread nD τ).loc main_arg4)
abbrev A5 : FVec Ideal S5632 .f32 := m ((c : Thread nD τ).loc main_arg5)
abbrev A6 : FVec Ideal S5632x2048 .f32 := m ((c : Thread nD τ).loc main_arg6)

abbrev H (r : Fin 16384) (k : Fin 2048) : EReal := A0 m c (ix3 ⟨r.val / 4096, by omega⟩ ⟨r.val % 4096, by omega⟩ k)

theorem idx_facts : ∀ t : Fin cfg0.N,
    win0_0.index t = ![t.val / 11, 0] ∧ win0_1.index t = ![t.val / 11 * 32 - 1, 0] ∧ win0_2.index t = ![0, 0] ∧ win0_3.index t = ![0, 0, t.val % 11]
    ∧ win0_4.index t = ![0, 0, t.val % 11] ∧ win0_5.index t = ![0, t.val % 11] ∧ win0_6.index t = ![0, t.val % 11] ∧ win0_7.index t = ![0, t.val % 11, 0] :=
  (by decide +kernel : ∀ t : Fin grid0.N, _)

theorem V_x (r : Fin 16384) (k : Fin 2048) : V m c main_v0 (ix2 r k) = H m c r k := by
  entry_read
  pointwise

theorem V_g (k : Fin 2048) : V m c main_v10 (ix2 0 k) = A1 m c (ix1 k) := by
  entry_read
  pointwise
theorem V_wg (k : Fin 2048) (f : Fin 5632) : V m c main_v2 (ix3 0 k f) = A2 m c (ix2 k f) := by
  entry_read
  pointwise
theorem V_wu (k : Fin 2048) (f : Fin 5632) : V m c main_v4 (ix3 0 k f) = A3 m c (ix2 k f) := by
  entry_read
  pointwise
theorem V_wd (f : Fin 5632) (n : Fin 2048) : V m c main_v6 (ix3 0 f n) = A6 m c (ix2 f n) := by
  entry_read
  pointwise
theorem V_cb (f : Fin 5632) : V m c main_v11 (ix2 0 f) = A5 m c (ix1 f) := by
  entry_read
  pointwise
/-- The padded taps: an update of 3 rows written from row 0 of 8 leaves the update in rows 0 to 2. -/
theorem scatter_rows (x : FVec Ideal S8x5632 .f32) (u : FVec Ideal S3x5632 .f32) (idx : IVec S1 32) (hidx : ∀ j, (idx j).toInt = 0) (d : Fin 3) (f : Fin 5632) :
    Host.scatter scatter_S8x5632_S1_S3x5632_01_n_0_0 (fun _ b => b) x idx u (ix2 ⟨d.val, by omega⟩ f) = u (ix2 d f) := by
  have hs : ∀ (k : S3x5632.Idx) a, scatter_S8x5632_S1_S3x5632_01_n_0_0.start k idx a = 0 := by
    intro k a
    unfold ScatterDims.start
    split
    · exact hidx _
    · rfl
  have hw0 : ∀ k : S3x5632.Idx, scatter_S8x5632_S1_S3x5632_01_n_0_0.window k 0 = (k 0).val := fun k => rfl
  have hw1 : ∀ k : S3x5632.Idx, scatter_S8x5632_S1_S3x5632_01_n_0_0.window k 1 = (k 1).val := fun k => rfl
  have hr : ∀ k : S3x5632.Idx, scatter_S8x5632_S1_S3x5632_01_n_0_0.resultIdx? k idx = some (ix2 (⟨(k 0).val, by have h : (k 0).val < 3 := (k 0).isLt; omega⟩ : Fin 8) (k 1 : Fin 5632)) := by
    intro k
    have h0 : (k 0).val < 3 := (k 0).isLt
    have h1 : (k 1).val < 5632 := (k 1).isLt
    unfold ScatterDims.resultIdx?
    rw [dif_pos]
    · refine congrArg some (funext fun a => Fin.ext ?_)
      fin_cases a
      · show (scatter_S8x5632_S1_S3x5632_01_n_0_0.start k idx 0 + scatter_S8x5632_S1_S3x5632_01_n_0_0.window k 0).toNat = (k 0).val
        rw [hs, hw0]; omega
      · show (scatter_S8x5632_S1_S3x5632_01_n_0_0.start k idx 1 + scatter_S8x5632_S1_S3x5632_01_n_0_0.window k 1).toNat = (k 1).val
        rw [hs, hw1]; omega
    · intro a
      rw [hs]
      fin_cases a
      · show (0 : Int) ≤ 0 + (scatter_S8x5632_S1_S3x5632_01_n_0_0.window k 0 : Int) ∧ 0 + (scatter_S8x5632_S1_S3x5632_01_n_0_0.window k 0 : Int) < (8 : ℕ)
        rw [hw0]; omega
      · show (0 : Int) ≤ 0 + (scatter_S8x5632_S1_S3x5632_01_n_0_0.window k 1 : Int) ∧ 0 + (scatter_S8x5632_S1_S3x5632_01_n_0_0.window k 1 : Int) < (5632 : ℕ)
        rw [hw1]; omega
  refine Routing.scatter_set_hit _ x idx u _ _ (fun k hk => ?_) (ix2 d f) (hr _)
  rw [hr] at hk
  have e := Option.some.inj hk
  have e0 : (k 0).val = d.val := congrArg (fun y : S8x5632.Idx => (y 0).val) e
  have e1 : (k 1).val = f.val := congrArg (fun y : S8x5632.Idx => (y 1).val) e
  refine congrArg u (funext fun a => Fin.ext ?_)
  fin_cases a
  · exact e0
  · exact e1

theorem V_cw (d : Fin 3) (f : Fin 5632) : V m c main_v9 (ix2 ⟨d.val, by omega⟩ f) = A4 m c (ix2 d f) := by
  entry_read
  exact scatter_rows _ _ _ (fun _ => rfl) d f

end Cert.KernelIdeal.Ffn

end
-- ==== Proof.FfnBlk.lean ====
module

public import proofs.«01_k».proof.Proof.FfnVal
public import proofs.«01_k».proof.Proof.FfnMath
public import Idealize.ShloMosaic.Lib.Pointwise
public import Idealize.ShloMosaic.Lib.Claim
public import Idealize.ShloMosaic.Lib.Routing.OpsSet
public import Idealize.ShloMosaic.Lib.Pipeline.ValueKit.Point

@[expose] public section

set_option maxRecDepth 16384

noncomputable section

namespace Cert.KernelIdeal.Ffn

open Cert.KernelIdeal Cert.KernelIdeal.Gen Idealize.ShloMosaic Idealize.ShloMosaic.TcCoe Idealize.SL.Sem Cert.Ffn
open Idealize.ShloMosaic.Pipeline (Dat)

variable (m : (ℓ : Loc nD τ sig) → Buf (Elt Ideal) ℓ) (c : Dev nD)

/-! ## The blocks -/

theorem blk0 (t : Fin cfg0.N) (r : Fin 512) (k : Fin 2048) (hr : 512 * (t.val / 11) + r.val < 16384) :
    iblk m c 0 t (ix2 r k) = H m c ⟨512 * (t.val / 11) + r.val, hr⟩ k := by
  rw [← V_x]
  blk_ext [iblk, (idx_facts t).1]
theorem blk1 (t : Fin cfg0.N) (r : Fin 16) (k : Fin 2048) (hr : (t.val / 11 * 32 - 1) * 16 + r.val < 16384) :
    iblk m c 1 t (ix2 r k) = H m c ⟨(t.val / 11 * 32 - 1) * 16 + r.val, hr⟩ k := by
  rw [← V_x]
  blk_ext [iblk, (idx_facts t).2.1]
theorem blk2 (t : Fin cfg0.N) (k : Fin 2048) : iblk m c 2 t (ix2 0 k) = A1 m c (ix1 k) := by
  rw [← V_g]
  blk_ext [iblk, (idx_facts t).2.2.1]
theorem blk3 (t : Fin cfg0.N) (k : Fin 2048) (f : Fin 512) : iblk m c 3 t (ix3 0 k f) = A2 m c (ix2 k ⟨512 * (t.val % 11) + f.val, by omega⟩) := by
  rw [← V_wg]
  blk_ext [iblk, (idx_facts t).2.2.2.1]
theorem blk4 (t : Fin cfg0.N) (k : Fin 2048) (f : Fin 512) : iblk m c 4 t (ix3 0 k f) = A3 m c (ix2 k ⟨512 * (t.val % 11) + f.val, by omega⟩) := by
  rw [← V_wu]
  blk_ext [iblk, (idx_facts t).2.2.2.2.1]
theorem read5 (t : Fin cfg0.N) (X : Buf (Elt Ideal) ((c : Thread nD τ).loc main_v9)) (d : Fin 8) (f : Fin 512) :
    ((cfg0.win 5).blk t).view.read (Elt Ideal) X (ix2 d f) = X (ix2 d ⟨512 * (t.val % 11) + f.val, by omega⟩) := by
  blk_ext [(idx_facts t).2.2.2.2.2.1]
theorem blk5' (t : Fin cfg0.N) (d : Fin 8) (f : Fin 512) : iblk m c 5 t (ix2 d f) = V m c main_v9 (ix2 d ⟨512 * (t.val % 11) + f.val, by omega⟩) :=
  read5 c t (V m c main_v9) d f
theorem blk5 (t : Fin cfg0.N) (d : Fin 3) (f : Fin 512) : iblk m c 5 t (ix2 ⟨d.val, by omega⟩ f) = A4 m c (ix2 d ⟨512 * (t.val % 11) + f.val, by omega⟩) :=
  (blk5' m c t _ f).trans (V_cw m c d _)
theorem blk6 (t : Fin cfg0.N) (f : Fin 512) : iblk m c 6 t (ix2 0 f) = A5 m c (ix1 ⟨512 * (t.val % 11) + f.val, by omega⟩) := by
  rw [← V_cb]
  blk_ext [iblk, (idx_facts t).2.2.2.2.2.2.1]
theorem blk7 (t : Fin cfg0.N) (f : Fin 512) (n : Fin 2048) : iblk m c 7 t (ix3 0 f n) = A6 m c (ix2 ⟨512 * (t.val % 11) + f.val, by omega⟩ n) := by
  rw [← V_wd]
  blk_ext [iblk, (idx_facts t).2.2.2.2.2.2.2]

end Cert.KernelIdeal.Ffn

end
-- ==== Proof.FfnKernel.lean ====
module

public import proofs.«01_k».proof.Proof.FfnStep
public import proofs.«01_k».proof.Proof.FfnBlk

@[expose] public section

noncomputable section

namespace Cert.KernelIdeal.Ffn

open Cert.KernelIdeal Cert.KernelIdeal.Gen Cert.KernelIdeal.Value Idealize.ShloMosaic Idealize.ShloMosaic.TcCoe Idealize.SL.Sem Cert.Ffn

variable (m : (ℓ : Loc nD τ sig) → Buf (Elt Ideal) ℓ) (c : Dev nD)

/-! ## The kernel's sweep over a row tile -/

abbrev gF (k : Fin 2048) : EReal := A1 m c (ix1 k)
abbrev wgF (k : Fin 2048) (f : Fin 5632) : EReal := A2 m c (ix2 k f)
abbrev wuF (k : Fin 2048) (f : Fin 5632) : EReal := A3 m c (ix2 k f)
abbrev cwF (d : Fin 3) (f : Fin 5632) : EReal := A4 m c (ix2 d f)
abbrev cbF (f : Fin 5632) : EReal := A5 m c (ix1 f)
abbrev wdF (f : Fin 5632) (n : Fin 2048) : EReal := A6 m c (ix2 f n)
abbrev partF (r : Fin 16384) (n : Fin 2048) (q : ℕ) : EReal := part (H m c) (gF m c) (wgF m c) (wuF m c) (cwF m c) (cbF m c) (wdF m c) r n q

theorem t_lt (t : Fin cfg0.N) : t.val < 352 := lt_of_lt_of_eq t.isLt N_0

theorem coords0 (t : Fin cfg0.N) : (grid0.coords t 0).val = t.val / 11 := by
  have e0 : (grid0.coords t 0).val = t.val / 11 % 32 := Pipeline.Grid.coords_val t 0 (by decide) rfl
  have h := t_lt t
  omega

theorem scr_at (t : Fin cfg0.N) (y : Fin 528) (k : Fin 2048) :
    scr (grid0.coords t) (iblk m c 0 t) (iblk m c 1 t) (iblk m c 2 t) (ix2 y k) = scE (H m c) (gF m c) ⟨t.val / 11, by have h := t_lt t; omega⟩ y k :=
  scr_apply (H m c) (gF m c) ⟨t.val / 11, by have h := t_lt t; omega⟩ (grid0.coords t) (coords0 t) _ _ _
    (fun r k => blk0 m c t r k _) (fun r k => blk1 m c t r k _) (fun k => blk2 m c t k) y k

theorem step_at (t : Fin cfg0.N) (xs0 : Vec Ideal S528x2048 .bf16) (acc : Vec Ideal S512x2048 .f32)
    (h0 : ∀ y k, xs0 (ix2 y k) = scE (H m c) (gF m c) ⟨t.val / 11, by have h := t_lt t; omega⟩ y k) (r : Fin 512) (n : Fin 2048) :
    step xs0 (iblk m c 3 t) (iblk m c 4 t) (iblk m c 5 t) (iblk m c 6 t) (iblk m c 7 t) acc (ix2 r n)
      = acc (ix2 r n) + partF m c ⟨512 * (t.val / 11) + r.val, by have h := t_lt t; omega⟩ n (t.val % 11) := by
  refine (step_apply (H m c) (gF m c) (wgF m c) (wuF m c) (cwF m c) (cbF m c) (wdF m c) ⟨t.val / 11, by have h := t_lt t; omega⟩ ⟨t.val % 11, by omega⟩ xs0 _ _ _ _ _ acc h0
    (fun k f => blk3 m c t k f) (fun k f => blk4 m c t k f) (fun d f => blk5 m c t d f) (fun f => blk6 m c t f) (fun f n => blk7 m c t f n) r n).trans ?_
  refine congrArg (acc (ix2 r n) + ·) ?_
  unfold partF part
  rw [dif_pos (show t.val % 11 < 11 by omega)]

theorem outs_A0 (t : Fin cfg0.N) (h0 : t.val % 11 = 0) (h1 : ¬t.val % 11 = 10) : (outsAt0 m c t.val t.isLt).2.1 = scr (F := Ideal) (grid0.coords t) (iblk m c 0 t) (iblk m c 1 t) (iblk m c 2 t) := by
  rw [outsAt0_A m c t h0 h1, term_A0]

theorem outs_A1 (t : Fin cfg0.N) (h0 : t.val % 11 = 0) (h1 : ¬t.val % 11 = 10) :
    (outsAt0 m c t.val t.isLt).2.2 = step (F := Ideal) (scr (F := Ideal) (grid0.coords t) (iblk m c 0 t) (iblk m c 1 t) (iblk m c 2 t)) (iblk m c 3 t) (iblk m c 4 t) (iblk m c 5 t) (iblk m c 6 t) (iblk m c 7 t) (k0_pay9 (F := Ideal)) := by
  rw [outsAt0_A m c t h0 h1, term_A1]

theorem outs_B0 (t : Fin cfg0.N) (h0 : ¬t.val % 11 = 0) (h1 : ¬t.val % 11 = 10) : (outsAt0 m c t.val t.isLt).2.1 = (outsAt0 m c (t.val - 1) (Nat.lt_of_le_of_lt (Nat.sub_le _ _) t.isLt)).2.1 := by
  rw [outsAt0_B m c t h0 h1]
  rfl

theorem outs_B1 (t : Fin cfg0.N) (h0 : ¬t.val % 11 = 0) (h1 : ¬t.val % 11 = 10) :
    (outsAt0 m c t.val t.isLt).2.2 = step (F := Ideal) (outsAt0 m c (t.val - 1) (Nat.lt_of_le_of_lt (Nat.sub_le _ _) t.isLt)).2.1 (iblk m c 3 t) (iblk m c 4 t) (iblk m c 5 t) (iblk m c 6 t) (iblk m c 7 t) (outsAt0 m c (t.val - 1) (Nat.lt_of_le_of_lt (Nat.sub_le _ _) t.isLt)).2.2 := by
  rw [outsAt0_B m c t h0 h1, term_B]

theorem outs_C (t : Fin cfg0.N) (h0 : ¬t.val % 11 = 0) (h1 : t.val % 11 = 10) :
    (outsAt0 m c t.val t.isLt).1 = k0_pay2 (F := Ideal) (iblk m c 0 t) (step (F := Ideal) (outsAt0 m c (t.val - 1) (Nat.lt_of_le_of_lt (Nat.sub_le _ _) t.isLt)).2.1 (iblk m c 3 t) (iblk m c 4 t) (iblk m c 5 t) (iblk m c 6 t) (iblk m c 7 t) (outsAt0 m c (t.val - 1) (Nat.lt_of_le_of_lt (Nat.sub_le _ _) t.isLt)).2.2) := by
  rw [outsAt0_C m c t h0 h1, term_C]

/-- Between the points of a row tile: the normalised rows, and the parts of the tiles so far. -/
theorem inv (n : ℕ) (hn : n < cfg0.N) (h10 : ¬n % 11 = 10) :
    (∀ y k, (outsAt0 m c n hn).2.1 (ix2 y k) = scE (H m c) (gF m c) ⟨n / 11, by have h := t_lt ⟨n, hn⟩; dsimp only at h; omega⟩ y k)
      ∧ ∀ r k, (outsAt0 m c n hn).2.2 (ix2 r k)
        = ∑ q ∈ Finset.range (n % 11 + 1), partF m c ⟨512 * (n / 11) + r.val, by have h := t_lt ⟨n, hn⟩; dsimp only at h; omega⟩ k q := by
  induction n with
  | zero =>
    have e1 := outs_A0 m c ⟨0, hn⟩ rfl h10
    have e2 := outs_A1 m c ⟨0, hn⟩ rfl h10
    refine ⟨fun y k => (congrFun e1 _).trans (scr_at m c ⟨0, hn⟩ y k), fun r k => (congrFun e2 _).trans ?_⟩
    rw [step_at m c ⟨0, hn⟩ _ _ (scr_at m c ⟨0, hn⟩), pay9_apply, zero_add]
    exact (Finset.sum_range_one _).symm
  | succ n ih =>
    by_cases h0 : (n + 1) % 11 = 0
    · have e1 := outs_A0 m c ⟨n + 1, hn⟩ h0 h10
      have e2 := outs_A1 m c ⟨n + 1, hn⟩ h0 h10
      refine ⟨fun y k => (congrFun e1 _).trans (scr_at m c ⟨n + 1, hn⟩ y k), fun r k => (congrFun e2 _).trans ?_⟩
      rw [step_at m c ⟨n + 1, hn⟩ _ _ (scr_at m c ⟨n + 1, hn⟩), pay9_apply, zero_add]
      dsimp only
      rw [h0]
      exact (Finset.sum_range_one _).symm
    · obtain ⟨i1, i2⟩ := ih (Nat.lt_of_succ_lt hn) (by omega)
      have e1 := outs_B0 m c ⟨n + 1, hn⟩ h0 h10
      have e2 := outs_B1 m c ⟨n + 1, hn⟩ h0 h10
      have hd : (n + 1) / 11 = n / 11 := by omega
      have hm : (n + 1) % 11 = n % 11 + 1 := by omega
      have j1 : ∀ y k, (outsAt0 m c n (Nat.lt_of_succ_lt hn)).2.1 (ix2 y k) = scE (H m c) (gF m c) ⟨(n + 1) / 11, by have h := t_lt ⟨n + 1, hn⟩; dsimp only at h; omega⟩ y k := by
        intro y k
        rw [i1]
        simp only [hd]
      refine ⟨fun y k => (congrFun e1 _).trans (j1 y k), fun r k => (congrFun e2 _).trans ?_⟩
      refine (step_at m c ⟨n + 1, hn⟩ _ _ j1 r k).trans ?_
      dsimp only
      rw [Finset.sum_range_succ]
      refine congrArg₂ (· + ·) ((i2 r k).trans ?_) rfl
      simp only [hd, hm]

/-- The block a row tile's last point writes back. -/
theorem last (t : Fin cfg0.N) (h1 : t.val % 11 = 10) (r : Fin 512) (n : Fin 2048) :
    (outsAt0 m c t.val t.isLt).1 (ix2 r n)
      = out (H m c) (gF m c) (wgF m c) (wuF m c) (cwF m c) (cbF m c) (wdF m c) ⟨512 * (t.val / 11) + r.val, by have h := t_lt t; omega⟩ n := by
  have ht := t_lt t
  obtain ⟨i1, i2⟩ := inv m c (t.val - 1) (by have h := t.isLt; omega) (by omega)
  have hd : (t.val - 1) / 11 = t.val / 11 := by omega
  have hm : (t.val - 1) % 11 = 9 := by omega
  have e := outs_C m c t (by omega) h1
  refine (congrFun e _).trans ?_
  rw [pay2_apply, step_at m c t _ _ (fun y k => by rw [i1]; simp only [hd]), i2]
  refine congrArg₂ (· + ·) (blk0 m c t r n _) ?_
  rw [← part_sum, Finset.sum_range_succ _ 10, h1]
  simp only [hd, hm]

theorem G_apply (r : Fin 16384) (n : Fin 2048) :
    G8 m c (ix2 r n) = out (H m c) (gF m c) (wgF m c) (wuF m c) (cwF m c) (cbF m c) (wdF m c) r n := by
  have hr : 1 * (r.val / 512 - 0) + 1 * (n.val / 2048 - 0) = r.val / 512 := by omega
  have hp : pt8Of (ix2 r n) = 11 * (r.val / 512) + 10 := congrArg (fun z => 11 * z + 10) hr
  have hN : pt8Of (ix2 r n) < cfg0.N := by rw [hp]; exact lt_of_lt_of_eq (by omega : _ < 352) N_0.symm
  unfold G8
  rw [dif_pos hN, ← outsAt0_sweep m c (pt8Of (ix2 r n)) hN]
  have hl : loc8Of (ix2 r n) = ix2 ⟨r.val % 512, by omega⟩ n := by
    funext a
    apply Fin.ext
    fin_cases a
    · rfl
    · exact Nat.mod_eq_of_lt n.isLt
  rw [hl]
  refine (last m c ⟨pt8Of (ix2 r n), hN⟩ (by dsimp only; rw [hp]; omega) _ n).trans ?_
  refine congrArg (fun s => out (H m c) (gF m c) (wgF m c) (wuF m c) (cwF m c) (cbF m c) (wdF m c) s n) (Fin.ext ?_)
  dsimp only
  rw [hp]
  omega

end Cert.KernelIdeal.Ffn

end
-- ==== Proof.PleMath.lean ====
module

public import proofs.«01_k».proof.Proof.FfnMath

@[expose] public section

set_option maxRecDepth 16384

noncomputable section

namespace Cert.PleMath

open Idealize.ShloMosaic Cert.Ffn

/-! ## The per-layer embedding, on extended reals -/

/-- The sgm function, as its quotient. -/
def sgm (x : EReal) : EReal := Ideal.div 1 (1 + Ideal.exp (-x))

variable (H : Fin 16384 → Fin 2048 → EReal) (g : Fin 2048 → EReal) (p : Fin 16384 → Fin 256 → EReal)
  (wg : Fin 2048 → Fin 2048 → EReal) (wp : Fin 256 → Fin 2048 → EReal)

/-- The residual stream plus the gated projection of the layer's embedding. -/
def pleOut (r : Fin 16384) (n : Fin 2048) : EReal :=
  H r n + sgm (∑ k, nrm (H r) g k * wg k n) * ∑ k, p r k * wp k n

end Cert.PleMath

end
-- ==== Proof.PleRef.lean ====
module

public import proofs.«01_k».proof.Proof.Gen.PleRefIdeal.Run
public import proofs.«01_k».proof.Proof.PleMath
public import Idealize.ShloMosaic.Lib.Pointwise
public import Idealize.ShloMosaic.Lib.KernelVsHost

@[expose] public section

set_option maxRecDepth 16384

noncomputable section

namespace Cert.PleRefIdeal.RefValue

open Cert.PleRefIdeal Cert.PleRefIdeal.Gen Cert.PleRefIdeal.Value Idealize.ShloMosaic Idealize.ShloMosaic.TcCoe Idealize.SL.Sem Cert.Ffn Cert.PleMath

section
variable {F : FTy → Type} [FloatOps F]

/-! ## The reference's term -/

def norm (A0 : FVec F S4x4096x2048 .f32) (A1 : FVec F S2048 .f32) : FVec F S4x4096x2048 .f32 :=
  (mulf (mulf A0 (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf A0 A0) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 A1)))

def res (A0 : FVec F S4x4096x2048 .f32) (A1 : FVec F S2048 .f32) (A2 : FVec F S4x4096x256 .f32) (A3 : FVec F S2048x2048 .f32) (A4 : FVec F S256x2048 .f32) : FVec F S16384x2048 .f32 :=
  shapeCast _ (addf A0 (mulf (Host.divf (broadcastInDim S4x4096x2048 ![] bcast_S_S4x4096x2048 (constant S_ .f32 0x3F800000#32)) (addf (broadcastInDim S4x4096x2048 ![] bcast_S_S4x4096x2048 (constant S_ .f32 0x3F800000#32)) (Host.exp (Host.negf (Host.dotGeneral dot_S4x4096x2048_S2048x2048_S4x4096x2048_2_0_01_1_n_n none (norm A0 A1) A3))))) (Host.dotGeneral dot_S4x4096x256_S256x2048_S4x4096x2048_2_0_01_1_n_n none A2 A4))) shapeCasts_S4x4096x2048_S16384x2048

end

theorem norm_apply (A0 : FVec Ideal S4x4096x2048 .f32) (A1 : FVec Ideal S2048 .f32) (b : Fin 4) (t : Fin 4096) (k : Fin 2048) :
    norm (F := Ideal) A0 A1 (ix3 b t k) = nrm (fun l => A0 (ix3 b t l)) (fun l => A1 (ix1 l)) k := by
  pointwise [norm, nrm]

theorem res_apply (A0 : FVec Ideal S4x4096x2048 .f32) (A1 : FVec Ideal S2048 .f32) (A2 : FVec Ideal S4x4096x256 .f32) (A3 : FVec Ideal S2048x2048 .f32) (A4 : FVec Ideal S256x2048 .f32) (r : Fin 16384) (n : Fin 2048) :
    res (F := Ideal) A0 A1 A2 A3 A4 (ix2 r n)
      = pleOut (fun r k => A0 (ix3 ⟨r.val / 4096, by omega⟩ ⟨r.val % 4096, by omega⟩ k)) (fun k => A1 (ix1 k)) (fun r k => A2 (ix3 ⟨r.val / 4096, by omega⟩ ⟨r.val % 4096, by omega⟩ k))
        (fun k n => A3 (ix2 k n)) (fun k n => A4 (ix2 k n)) r n := by
  pointwise [res, pleOut, sgm, norm_apply]

end Cert.PleRefIdeal.RefValue

end
-- ==== Proof.PleTerm.lean ====
module

public import proofs.«01_k».proof.Proof.Gen.PleIdeal.Value
public import Idealize.ShloMosaic.Lib.Pointwise
public import Idealize.ShloMosaic.Lib.WritesUnit
public import proofs.«01_k».proof.Proof.PleMath

@[expose] public section

set_option maxRecDepth 16384

noncomputable section

namespace Cert.PleIdeal.Ple

open Cert.PleIdeal Cert.PleIdeal.Gen Idealize.ShloMosaic Idealize.ShloMosaic.TcCoe Idealize.SL.Sem Cert.Ffn Cert.PleMath

section
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (a2 : Memref sig .tc .vmem S1024x2048 .f32) (h2 : a2.IsWhole) (a3 : Memref sig .tc .vmem S1024x1024 .f32) (h3 : a3.IsWhole) (a4 : Memref sig .tc .vmem S1x2048 .f32) (h4 : a4.IsWhole) (a5 : Memref sig .tc .vmem S1x1024x256 .f32) (h5 : a5.IsWhole) (a6 : Memref sig .tc .vmem S1x2048x1024 .bf16) (h6 : a6.IsWhole) (a7 : Memref sig .tc .vmem S1x256x1024 .bf16) (h7 : a7.IsWhole) (a8 : Memref sig .tc .vmem S1024x1024 .f32) (h8 : a8.IsWhole) (a9 : Memref sig .tc .vmem S1024x2048 .bf16) (h9 : a9.IsWhole) (a10 : Memref sig .tc .vmem S1024x256 .bf16) (h10 : a10.IsWhole)
  (x0 : Vec F S1024x2048 .f32) (x1 : Vec F S1024x1024 .f32) (x2 : Vec F S1x2048 .f32) (x3 : Vec F S1x1024x256 .f32) (x4 : Vec F S1x2048x1024 .bf16) (x5 : Vec F S1x256x1024 .bf16)
  (xs0 : Vec F S1024x2048 .bf16) (xs1 : Vec F S1024x256 .bf16)

/-! ## What the body leaves at a point that fills the scratches, and at one that reads them -/

theorem term_A0 (hc0 : cond0_0 i) :
    sout0_A_0 c i a2 h2 a3 h3 a4 h4 a5 h5 a6 h6 a7 h7 a8 h8 a9 h9 a10 h10 hc0 x0 x1 x2 x3 x4 x5
      = k0_pay1 x0 x2 := by
  unfold sout0_A_0
  rw [View.read_writes_eq_canon _ _ _ (scover0_A_0 c i a2 h2 a3 h3 a4 h4 a5 h5 a6 h6 a7 h7 a8 h8 a9 h9 a10 h10 hc0 x0 x1 x2 x3 x4 x5)]
  unfold kernelRun0_A
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, View.ld_unit_zero (S := S1024x2048) hz2, View.ld_unit_zero (S := S1024x1024) hz2, View.ld_unit_zero (S := S1x2048) hz2, View.ld_unit_zero (S := S1024x256) hz2, View.ld_unit_zero (S := S1x1024x256) hz3, View.ld_unit_zero (S := S1x2048x1024) hz3, View.ld_unit_zero (S := S1x256x1024) hz3, shapeCast_self, View.readCov_unit_zero (S := S1024x2048) _ hz2, View.readCov_unit_zero (S := S1024x256) _ hz2]
  try rfl

theorem term_A1 (hc0 : cond0_0 i) :
    sout0_A_1 c i a2 h2 a3 h3 a4 h4 a5 h5 a6 h6 a7 h7 a8 h8 a9 h9 a10 h10 hc0 x0 x1 x2 x3 x4 x5
      = k0_pay2 x3 := by
  unfold sout0_A_1
  rw [View.read_writes_eq_canon _ _ _ (scover0_A_1 c i a2 h2 a3 h3 a4 h4 a5 h5 a6 h6 a7 h7 a8 h8 a9 h9 a10 h10 hc0 x0 x1 x2 x3 x4 x5)]
  unfold kernelRun0_A
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, View.ld_unit_zero (S := S1024x2048) hz2, View.ld_unit_zero (S := S1024x1024) hz2, View.ld_unit_zero (S := S1x2048) hz2, View.ld_unit_zero (S := S1024x256) hz2, View.ld_unit_zero (S := S1x1024x256) hz3, View.ld_unit_zero (S := S1x2048x1024) hz3, View.ld_unit_zero (S := S1x256x1024) hz3, shapeCast_self, View.readCov_unit_zero (S := S1024x2048) _ hz2, View.readCov_unit_zero (S := S1024x256) _ hz2]
  try rfl

theorem term_A (hc0 : cond0_0 i) :
    out0_A_6 c i a2 h2 a3 h3 a4 h4 a5 h5 a6 h6 a7 h7 a8 h8 a9 h9 a10 h10 hc0 x0 x1 x2 x3 x4 x5
      = k0_pay3 (k0_pay1 x0 x2) x4 (k0_pay2 x3) x5 x1 := by
  unfold out0_A_6
  rw [View.read_writes_eq_canon _ _ _ (cover0_A_6 c i a2 h2 a3 h3 a4 h4 a5 h5 a6 h6 a7 h7 a8 h8 a9 h9 a10 h10 hc0 x0 x1 x2 x3 x4 x5)]
  unfold kernelRun0_A
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, View.ld_unit_zero (S := S1024x2048) hz2, View.ld_unit_zero (S := S1024x1024) hz2, View.ld_unit_zero (S := S1x2048) hz2, View.ld_unit_zero (S := S1024x256) hz2, View.ld_unit_zero (S := S1x1024x256) hz3, View.ld_unit_zero (S := S1x2048x1024) hz3, View.ld_unit_zero (S := S1x256x1024) hz3, shapeCast_self, View.readCov_unit_zero (S := S1024x2048) _ hz2, View.readCov_unit_zero (S := S1024x256) _ hz2]
  try rfl

theorem term_B (hc0 : ¬cond0_0 i) :
    out0_B_6 c i a2 h2 a3 h3 a4 h4 a5 h5 a6 h6 a7 h7 a8 h8 a9 h9 a10 h10 hc0 x0 x1 x2 x3 x4 x5 xs0 xs1
      = k0_pay3 xs0 x4 xs1 x5 x1 := by
  unfold out0_B_6
  rw [View.read_writes_eq_canon _ _ _ (cover0_B_6 c i a2 h2 a3 h3 a4 h4 a5 h5 a6 h6 a7 h7 a8 h8 a9 h9 a10 h10 hc0 x0 x1 x2 x3 x4 x5 xs0 xs1)]
  unfold kernelRun0_B
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, View.ld_unit_zero (S := S1024x2048) hz2, View.ld_unit_zero (S := S1024x1024) hz2, View.ld_unit_zero (S := S1x2048) hz2, View.ld_unit_zero (S := S1024x256) hz2, View.ld_unit_zero (S := S1x1024x256) hz3, View.ld_unit_zero (S := S1x2048x1024) hz3, View.ld_unit_zero (S := S1x256x1024) hz3, shapeCast_self, View.readCov_unit_zero (S := S1024x2048) _ hz2, View.readCov_unit_zero (S := S1024x256) _ hz2]
  try rfl

end

/-! ## The payloads read at an index -/

theorem pay1_apply (x : Vec Ideal S1024x2048 .f32) (g : Vec Ideal S1x2048 .f32) (r : Fin 1024) (k : Fin 2048) :
    k0_pay1 (F := Ideal) x g (ix2 r k) = nrm (fun l => x (ix2 r l)) (fun l => g (ix2 0 l)) k := by
  pointwise [k0_pay1, nrm]

theorem pay2_apply (p : Vec Ideal S1x1024x256 .f32) (r : Fin 1024) (k : Fin 256) :
    k0_pay2 (F := Ideal) p (ix2 r k) = p (ix3 0 r k) := by
  pointwise [k0_pay2]

theorem pay3_apply (e : Vec Ideal S1024x2048 .bf16) (wg : Vec Ideal S1x2048x1024 .bf16) (p : Vec Ideal S1024x256 .bf16) (wp : Vec Ideal S1x256x1024 .bf16)
    (h : Vec Ideal S1024x1024 .f32) (r : Fin 1024) (n : Fin 1024) :
    k0_pay3 (F := Ideal) e wg p wp h (ix2 r n)
      = h (ix2 r n) + sgm (∑ k : Fin 2048, e (ix2 r k) * wg (ix3 0 k n)) * ∑ k : Fin 256, p (ix2 r k) * wp (ix3 0 k n) := by
  pointwise [k0_pay3, sgm]
  rw [zero_sub]

end Cert.PleIdeal.Ple

end
-- ==== Proof.PleKernel.lean ====
module

public import proofs.«01_k».proof.Proof.PleTerm
public import Idealize.ShloMosaic.Lib.Claim
public import Idealize.ShloMosaic.Lib.Pipeline.ValueKit.Point

@[expose] public section

set_option maxRecDepth 16384

noncomputable section

namespace Cert.PleIdeal.Ple

open Cert.PleIdeal Cert.PleIdeal.Gen Cert.PleIdeal.Value Idealize.ShloMosaic Idealize.ShloMosaic.TcCoe Idealize.SL.Sem Cert.Ffn Cert.PleMath

variable (m : (ℓ : Loc nD τ sig) → Buf (Elt Ideal) ℓ) (c : Dev nD)

/-! ## The arguments, and the blocks the windows stage -/

abbrev A0 : FVec Ideal S4x4096x2048 .f32 := m ((c : Thread nD τ).loc main_arg0)
abbrev A1 : FVec Ideal S2048 .f32 := m ((c : Thread nD τ).loc main_arg1)
abbrev A2 : FVec Ideal S4x4096x256 .f32 := m ((c : Thread nD τ).loc main_arg2)
abbrev A3 : FVec Ideal S2048x2048 .f32 := m ((c : Thread nD τ).loc main_arg3)
abbrev A4 : FVec Ideal S256x2048 .f32 := m ((c : Thread nD τ).loc main_arg4)

abbrev H (r : Fin 16384) (k : Fin 2048) : EReal := A0 m c (ix3 ⟨r.val / 4096, by omega⟩ ⟨r.val % 4096, by omega⟩ k)
abbrev gF (k : Fin 2048) : EReal := A1 m c (ix1 k)
abbrev pF (r : Fin 16384) (k : Fin 256) : EReal := A2 m c (ix3 ⟨r.val / 4096, by omega⟩ ⟨r.val % 4096, by omega⟩ k)
abbrev wgF (k n : Fin 2048) : EReal := A3 m c (ix2 k n)
abbrev wpF (k : Fin 256) (n : Fin 2048) : EReal := A4 m c (ix2 k n)

theorem idx_facts : ∀ t : Fin cfg0.N,
    win0_0.index t = ![t.val / 2, 0] ∧ win0_1.index t = ![t.val / 2, t.val % 2] ∧ win0_2.index t = ![0, 0] ∧ win0_3.index t = ![0, t.val / 2, 0]
    ∧ win0_4.index t = ![0, 0, t.val % 2] ∧ win0_5.index t = ![0, 0, t.val % 2] :=
  (by decide +kernel : ∀ t : Fin grid0.N, _)

theorem t_lt (t : Fin cfg0.N) : t.val < 32 := lt_of_lt_of_eq t.isLt N_0

theorem V_h (r : Fin 16384) (k : Fin 2048) : V m c main_v0 (ix2 r k) = H m c r k := by
  entry_read
  pointwise
theorem V_p (r : Fin 16384) (k : Fin 256) : V m c main_v1 (ix3 0 r k) = pF m c r k := by
  entry_read
  pointwise
theorem V_wg (k n : Fin 2048) : V m c main_v3 (ix3 0 k n) = wgF m c k n := by
  entry_read
  pointwise
theorem V_wp (k : Fin 256) (n : Fin 2048) : V m c main_v5 (ix3 0 k n) = wpF m c k n := by
  entry_read
  pointwise
theorem V_g (k : Fin 2048) : V m c main_v6 (ix2 0 k) = gF m c k := by
  entry_read
  pointwise

theorem blk0 (t : Fin cfg0.N) (r : Fin 1024) (k : Fin 2048) :
    iblk m c 0 t (ix2 r k) = H m c ⟨1024 * (t.val / 2) + r.val, by have h := t_lt t; omega⟩ k := by
  rw [← V_h]
  blk_ext [iblk, (idx_facts t).1]
theorem blk1 (t : Fin cfg0.N) (r n : Fin 1024) :
    iblk m c 1 t (ix2 r n) = H m c ⟨1024 * (t.val / 2) + r.val, by have h := t_lt t; omega⟩ ⟨1024 * (t.val % 2) + n.val, by omega⟩ := by
  rw [← V_h]
  blk_ext [iblk, (idx_facts t).2.1]
theorem blk2 (t : Fin cfg0.N) (k : Fin 2048) : iblk m c 2 t (ix2 0 k) = gF m c k := by
  rw [← V_g]
  blk_ext [iblk, (idx_facts t).2.2.1]
theorem blk3 (t : Fin cfg0.N) (r : Fin 1024) (k : Fin 256) :
    iblk m c 3 t (ix3 0 r k) = pF m c ⟨1024 * (t.val / 2) + r.val, by have h := t_lt t; omega⟩ k := by
  rw [← V_p]
  blk_ext [iblk, (idx_facts t).2.2.2.1]
theorem blk4 (t : Fin cfg0.N) (k : Fin 2048) (n : Fin 1024) : iblk m c 4 t (ix3 0 k n) = wgF m c k ⟨1024 * (t.val % 2) + n.val, by omega⟩ := by
  rw [← V_wg]
  blk_ext [iblk, (idx_facts t).2.2.2.2.1]
theorem blk5 (t : Fin cfg0.N) (k : Fin 256) (n : Fin 1024) : iblk m c 5 t (ix3 0 k n) = wpF m c k ⟨1024 * (t.val % 2) + n.val, by omega⟩ := by
  rw [← V_wp]
  blk_ext [iblk, (idx_facts t).2.2.2.2.2]

/-! ## The two points of a row tile -/

theorem outs_A (t : Fin cfg0.N) (h0 : t.val % 2 = 0) :
    (outsAt0 m c t.val t.isLt).1 = k0_pay3 (F := Ideal) (k0_pay1 (F := Ideal) (iblk m c 0 t) (iblk m c 2 t)) (iblk m c 4 t) (k0_pay2 (F := Ideal) (iblk m c 3 t)) (iblk m c 5 t) (iblk m c 1 t) := by
  rw [outsAt0_A m c t h0, term_A]
theorem outs_A0 (t : Fin cfg0.N) (h0 : t.val % 2 = 0) : (outsAt0 m c t.val t.isLt).2.1 = k0_pay1 (F := Ideal) (iblk m c 0 t) (iblk m c 2 t) := by
  rw [outsAt0_A m c t h0, term_A0]
theorem outs_A1 (t : Fin cfg0.N) (h0 : t.val % 2 = 0) : (outsAt0 m c t.val t.isLt).2.2 = k0_pay2 (F := Ideal) (iblk m c 3 t) := by
  rw [outsAt0_A m c t h0, term_A1]
theorem outs_B (t : Fin cfg0.N) (h0 : ¬t.val % 2 = 0) :
    (outsAt0 m c t.val t.isLt).1 = k0_pay3 (F := Ideal) (outsAt0 m c (t.val - 1) (Nat.lt_of_le_of_lt (Nat.sub_le _ _) t.isLt)).2.1 (iblk m c 4 t)
      (outsAt0 m c (t.val - 1) (Nat.lt_of_le_of_lt (Nat.sub_le _ _) t.isLt)).2.2 (iblk m c 5 t) (iblk m c 1 t) := by
  rw [outsAt0_B m c t h0, term_B]

/-- A point's block of the result, from scratches that hold the row tile's normalised rows and embeddings. -/
theorem block (t : Fin cfg0.N) (e : Vec Ideal S1024x2048 .bf16) (p : Vec Ideal S1024x256 .bf16)
    (he : ∀ r k, e (ix2 r k) = nrm (H m c ⟨1024 * (t.val / 2) + r.val, by have h := t_lt t; omega⟩) (gF m c) k)
    (hp : ∀ r k, p (ix2 r k) = pF m c ⟨1024 * (t.val / 2) + r.val, by have h := t_lt t; omega⟩ k) (r n : Fin 1024) :
    k0_pay3 (F := Ideal) e (iblk m c 4 t) p (iblk m c 5 t) (iblk m c 1 t) (ix2 r n)
      = pleOut (H m c) (gF m c) (pF m c) (wgF m c) (wpF m c) ⟨1024 * (t.val / 2) + r.val, by have h := t_lt t; omega⟩ ⟨1024 * (t.val % 2) + n.val, by omega⟩ := by
  rw [pay3_apply]
  unfold pleOut
  refine congrArg₂ (· + ·) (blk1 m c t r n) (congrArg₂ (· * ·) (congrArg sgm (Finset.sum_congr rfl fun k _ => ?_)) (Finset.sum_congr rfl fun k _ => ?_))
  · exact congrArg₂ (· * ·) (he r k) (blk4 m c t k n)
  · exact congrArg₂ (· * ·) (hp r k) (blk5 m c t k n)

theorem fill0 (t : Fin cfg0.N) (r : Fin 1024) (k : Fin 2048) :
    k0_pay1 (F := Ideal) (iblk m c 0 t) (iblk m c 2 t) (ix2 r k) = nrm (H m c ⟨1024 * (t.val / 2) + r.val, by have h := t_lt t; omega⟩) (gF m c) k := by
  rw [pay1_apply]
  exact congrArg₂ (fun x g => nrm x g k) (funext fun l => blk0 m c t r l) (funext fun l => blk2 m c t l)

theorem fill1 (t : Fin cfg0.N) (r : Fin 1024) (k : Fin 256) :
    k0_pay2 (F := Ideal) (iblk m c 3 t) (ix2 r k) = pF m c ⟨1024 * (t.val / 2) + r.val, by have h := t_lt t; omega⟩ k := by
  rw [pay2_apply]
  exact blk3 m c t r k

theorem point (t : Fin cfg0.N) (r n : Fin 1024) :
    (outsAt0 m c t.val t.isLt).1 (ix2 r n)
      = pleOut (H m c) (gF m c) (pF m c) (wgF m c) (wpF m c) ⟨1024 * (t.val / 2) + r.val, by have h := t_lt t; omega⟩ ⟨1024 * (t.val % 2) + n.val, by omega⟩ := by
  have ht := t_lt t
  by_cases h0 : t.val % 2 = 0
  · exact (congrFun (outs_A m c t h0) _).trans (block m c t _ _ (fill0 m c t) (fill1 m c t) r n)
  · have hs : t.val - 1 < cfg0.N := Nat.lt_of_le_of_lt (Nat.sub_le _ _) t.isLt
    have hd : (t.val - 1) / 2 = t.val / 2 := by omega
    have e0 := outs_A0 m c ⟨t.val - 1, hs⟩ (by dsimp only; omega)
    have e1 := outs_A1 m c ⟨t.val - 1, hs⟩ (by dsimp only; omega)
    refine (congrFun (outs_B m c t h0) _).trans (block m c t _ _ (fun r k => ?_) (fun r k => ?_) r n)
    · refine (congrFun e0 _).trans ((fill0 m c ⟨t.val - 1, hs⟩ r k).trans ?_)
      simp only [hd]
    · refine (congrFun e1 _).trans ((fill1 m c ⟨t.val - 1, hs⟩ r k).trans ?_)
      simp only [hd]

/-- The array the call returns. -/
theorem G_apply (r : Fin 16384) (n : Fin 2048) :
    G6 m c (ix2 r n) = pleOut (H m c) (gF m c) (pF m c) (wgF m c) (wpF m c) r n := by
  have hp : pt6Of (ix2 r n) = 2 * (r.val / 1024) + n.val / 1024 := by
    show 2 * (r.val / 1024 - 0) + 1 * (n.val / 1024 - 0) = _
    omega
  have hN : pt6Of (ix2 r n) < cfg0.N := by rw [hp]; exact lt_of_lt_of_eq (by omega : _ < 32) N_0.symm
  unfold G6
  rw [dif_pos hN, ← outsAt0_sweep m c (pt6Of (ix2 r n)) hN]
  have hl : loc6Of (ix2 r n) = ix2 ⟨r.val % 1024, by omega⟩ ⟨n.val % 1024, by omega⟩ := by
    funext a
    fin_cases a <;> rfl
  rw [hl]
  refine (point m c ⟨pt6Of (ix2 r n), hN⟩ _ _).trans ?_
  refine congrArg₂ (pleOut (H m c) (gF m c) (pF m c) (wgF m c) (wpF m c)) (Fin.ext ?_) (Fin.ext ?_)
  · dsimp only
    rw [hp]
    omega
  · dsimp only
    rw [hp]
    omega

end Cert.PleIdeal.Ple

end
-- ==== Proof.OutMath.lean ====
module

public import Idealize.ShloMosaic.Lib.Pointwise

@[expose] public section

set_option maxRecDepth 16384

noncomputable section

namespace Cert.OutMath

open Idealize.ShloMosaic

/-! ## The output projection, on extended reals -/

variable (H : Fin 16384 → Fin 2048 → EReal) (a : Fin 16384 → Fin 512 → EReal) (b c : Fin 16384 → Fin 768 → EReal) (w : Fin 2048 → Fin 2048 → EReal)

/-- The residual stream plus the three mixers' outputs, laid side by side, times the projection: one sum per mixer. -/
def mixOut (r : Fin 16384) (n : Fin 2048) : EReal :=
  H r n + ((∑ k : Fin 512, a r k * w ⟨k.val, by omega⟩ n) + (∑ k : Fin 768, b r k * w ⟨512 + k.val, by omega⟩ n)
    + ∑ k : Fin 768, c r k * w ⟨1280 + k.val, by omega⟩ n)

end Cert.OutMath

end
-- ==== Proof.OutRef.lean ====
module

public import proofs.«01_k».proof.Proof.Gen.OutProjRefIdeal.Run
public import proofs.«01_k».proof.Proof.OutMath
public import Idealize.ShloMosaic.Lib.Pointwise
public import Idealize.ShloMosaic.Lib.KernelVsHost

@[expose] public section

set_option maxRecDepth 16384

noncomputable section

namespace Cert.OutProjRefIdeal.RefValue

open Cert.OutProjRefIdeal Cert.OutProjRefIdeal.Gen Cert.OutProjRefIdeal.Value Idealize.ShloMosaic Idealize.ShloMosaic.TcCoe Idealize.SL.Sem Cert.OutMath

/-- The reference's term. -/
def res {F : FTy → Type} [FloatOps F] (A0 : FVec F S4x4096x2048 .f32) (A1 : FVec F S4x4096x512 .bf16) (A2 A3 : FVec F S4x4096x768 .bf16) (A4 : FVec F S2048x2048 .f32) : FVec F S16384x2048 .f32 :=
  shapeCast _ (addf A0 (Host.dotGeneral dot_S4x4096x2048_S2048x2048_S4x4096x2048_2_0_01_1_n_n none ((concatenate S4x4096x2048 2 [⟨S4x4096x512, ((extf .f32 A1 bitsLt_bf16_f32) : (⟨S4x4096x512, .f32⟩ : BufTy).Contents (Elt F))⟩, ⟨S4x4096x768, ((extf .f32 A2 bitsLt_bf16_f32) : (⟨S4x4096x768, .f32⟩ : BufTy).Contents (Elt F))⟩, ⟨S4x4096x768, ((extf .f32 A3 bitsLt_bf16_f32) : (⟨S4x4096x768, .f32⟩ : BufTy).Contents (Elt F))⟩] concatenates_S4x4096x512_S4x4096x768_S4x4096x768_S4x4096x2048_d2 : (⟨S4x4096x2048, .f32⟩ : BufTy).Contents (Elt F))) A4)) shapeCasts_S4x4096x2048_S16384x2048

/-- A sum over the concatenated axis is the three sums over its pieces. -/
theorem sum_three (f : Fin 2048 → EReal) :
    ∑ x, f x = (∑ k : Fin 512, f ⟨k.val, by omega⟩) + (∑ k : Fin 768, f ⟨512 + k.val, by omega⟩) + ∑ k : Fin 768, f ⟨1280 + k.val, by omega⟩ :=
  (Fin.sum_univ_add (a := 1280) (b := 768) f).trans
    (congrArg (· + _) (Fin.sum_univ_add (a := 512) (b := 768) fun k : Fin (512 + 768) => f (Fin.castAdd 768 k)))

theorem res_apply (A0 : FVec Ideal S4x4096x2048 .f32) (A1 : FVec Ideal S4x4096x512 .bf16) (A2 A3 : FVec Ideal S4x4096x768 .bf16) (A4 : FVec Ideal S2048x2048 .f32) (r : Fin 16384) (n : Fin 2048) :
    res (F := Ideal) A0 A1 A2 A3 A4 (ix2 r n)
      = mixOut (fun r k => A0 (ix3 ⟨r.val / 4096, by omega⟩ ⟨r.val % 4096, by omega⟩ k)) (fun r k => A1 (ix3 ⟨r.val / 4096, by omega⟩ ⟨r.val % 4096, by omega⟩ k)) (fun r k => A2 (ix3 ⟨r.val / 4096, by omega⟩ ⟨r.val % 4096, by omega⟩ k)) (fun r k => A3 (ix3 ⟨r.val / 4096, by omega⟩ ⟨r.val % 4096, by omega⟩ k)) (fun k n => A4 (ix2 k n)) r n := by
  pointwise [res, mixOut]
  refine congrArg (A0 _ + ·) ((sum_three _).trans ?_)
  refine congrArg₂ (· + ·) (congrArg₂ (· + ·) (Finset.sum_congr rfl fun k _ => ?_) (Finset.sum_congr rfl fun k _ => ?_)) (Finset.sum_congr rfl fun k _ => ?_)
  · rw [dif_pos (show k.val < 512 from k.isLt)]
  · have h1 : ¬ 512 + k.val < 512 := by omega
    have h2 : 512 + k.val - 512 < 768 := by omega
    dsimp only
    rw [dif_neg h1, dif_pos h2]
    refine congrArg (· * _) (congrArg A2 (congrArg (ix3 _ _) (Fin.ext ?_)))
    show 512 + k.val - 512 = k.val
    omega
  · have h1 : ¬ 1280 + k.val < 512 := by omega
    have h2 : ¬ 1280 + k.val - 512 < 768 := by omega
    dsimp only
    rw [dif_neg h1, dif_neg h2]
    refine congrArg (· * _) (congrArg A3 (congrArg (ix3 _ _) (Fin.ext ?_)))
    show 1280 + k.val - 512 - 768 = k.val
    omega

end Cert.OutProjRefIdeal.RefValue

end
-- ==== Proof.OutKernel.lean ====
module

public import proofs.«01_k».proof.Proof.Gen.OutProjIdeal.Value
public import proofs.«01_k».proof.Proof.OutMath
public import Idealize.ShloMosaic.Lib.Pointwise
public import Idealize.ShloMosaic.Lib.WritesUnit
public import Idealize.ShloMosaic.Lib.Claim
public import Idealize.ShloMosaic.Lib.Pipeline.ValueKit.Point

@[expose] public section

set_option maxRecDepth 16384

noncomputable section

namespace Cert.OutProjIdeal.OutProj

open Cert.OutProjIdeal Cert.OutProjIdeal.Gen Cert.OutProjIdeal.Value Idealize.ShloMosaic Idealize.ShloMosaic.TcCoe Idealize.SL.Sem Cert.OutMath

theorem hz2 : (![0, 0] : Fin 2 → Nat) = fun _ => 0 := funext fun a => by fin_cases a <;> rfl

theorem pay1_apply (v0 : Vec Ideal S1024x512 .bf16) (v2 : Vec Ideal S1x512x1024 .bf16) (v5 : Vec Ideal S1024x768 .bf16) (v7 : Vec Ideal S1x768x1024 .bf16)
    (v11 : Vec Ideal S1024x768 .bf16) (v13 : Vec Ideal S1x768x1024 .bf16) (v17 : Vec Ideal S1024x1024 .f32) (r n : Fin 1024) :
    k0_pay1 (F := Ideal) v0 v2 v5 v7 v11 v13 v17 (ix2 r n)
      = v17 (ix2 r n) + ((∑ k : Fin 512, v0 (ix2 r k) * v2 (ix3 0 k n)) + (∑ k : Fin 768, v5 (ix2 r k) * v7 (ix3 0 k n))
        + ∑ k : Fin 768, v11 (ix2 r k) * v13 (ix3 0 k n)) := by
  pointwise [k0_pay1]

section
variable {F : FTy → Type} [FloatOps F]
/-- The body's block, from the blocks it reads: the weight's three row ranges are read apart. -/
theorem out0_5_eq (x0 : Vec F S1024x1024 .f32) (x1 : Vec F S1024x512 .bf16) (x2 x3 : Vec F S1024x768 .bf16) (x4 : Vec F S1x2048x1024 .bf16) :
    out0_5 x0 x1 x2 x3 x4 = k0_pay1 x1 (View.ld x4 r0_1) x2 (View.ld x4 r0_3) x3 (View.ld x4 r0_4) x0 := by
  unfold out0_5
  rw [View.canon_unit_zero (S := S1024x1024) hz2, View.ld_unit_zero (S := S1024x512) hz2, View.ld_unit_zero (S := S1024x768) hz2, View.ld_unit_zero (S := S1024x768) hz2,
    View.ld_unit_zero (S := S1024x1024) hz2]
end

theorem ld1 (x : Vec Ideal S1x2048x1024 .bf16) (k : Fin 512) (n : Fin 1024) : View.ld x r0_1 (ix3 0 k n) = x (ix3 0 ⟨k.val, by omega⟩ n) := by
  refine congrArg x (funext fun a => Fin.ext ?_)
  fin_cases a
  · rfl
  · show 0 + 1 * k.val = k.val; omega
  · show 0 + 1 * n.val = n.val; omega
theorem ld3 (x : Vec Ideal S1x2048x1024 .bf16) (k : Fin 768) (n : Fin 1024) : View.ld x r0_3 (ix3 0 k n) = x (ix3 0 ⟨512 + k.val, by omega⟩ n) := by
  refine congrArg x (funext fun a => Fin.ext ?_)
  fin_cases a
  · rfl
  · show 512 + 1 * k.val = 512 + k.val; omega
  · show 0 + 1 * n.val = n.val; omega
theorem ld4 (x : Vec Ideal S1x2048x1024 .bf16) (k : Fin 768) (n : Fin 1024) : View.ld x r0_4 (ix3 0 k n) = x (ix3 0 ⟨1280 + k.val, by omega⟩ n) := by
  refine congrArg x (funext fun a => Fin.ext ?_)
  fin_cases a
  · rfl
  · show 1280 + 1 * k.val = 1280 + k.val; omega
  · show 0 + 1 * n.val = n.val; omega

variable (m : (ℓ : Loc nD τ sig) → Buf (Elt Ideal) ℓ) (c : Dev nD)

/-! ## The arguments, and the blocks the windows stage -/

abbrev A0 : FVec Ideal S4x4096x2048 .f32 := m ((c : Thread nD τ).loc main_arg0)
abbrev A1 : FVec Ideal S4x4096x512 .bf16 := m ((c : Thread nD τ).loc main_arg1)
abbrev A2 : FVec Ideal S4x4096x768 .bf16 := m ((c : Thread nD τ).loc main_arg2)
abbrev A3 : FVec Ideal S4x4096x768 .bf16 := m ((c : Thread nD τ).loc main_arg3)
abbrev A4 : FVec Ideal S2048x2048 .f32 := m ((c : Thread nD τ).loc main_arg4)

abbrev H (r : Fin 16384) (k : Fin 2048) : EReal := A0 m c (ix3 ⟨r.val / 4096, by omega⟩ ⟨r.val % 4096, by omega⟩ k)
abbrev aF (r : Fin 16384) (k : Fin 512) : EReal := A1 m c (ix3 ⟨r.val / 4096, by omega⟩ ⟨r.val % 4096, by omega⟩ k)
abbrev bF (r : Fin 16384) (k : Fin 768) : EReal := A2 m c (ix3 ⟨r.val / 4096, by omega⟩ ⟨r.val % 4096, by omega⟩ k)
abbrev cF (r : Fin 16384) (k : Fin 768) : EReal := A3 m c (ix3 ⟨r.val / 4096, by omega⟩ ⟨r.val % 4096, by omega⟩ k)
abbrev wF (k n : Fin 2048) : EReal := A4 m c (ix2 k n)

theorem idx_facts : ∀ t : Fin cfg0.N,
    win0_0.index t = ![t.val / 2, t.val % 2] ∧ win0_1.index t = ![t.val / 2, 0] ∧ win0_2.index t = ![t.val / 2, 0] ∧ win0_3.index t = ![t.val / 2, 0]
    ∧ win0_4.index t = ![0, 0, t.val % 2] ∧ win0_5.index t = ![t.val / 2, t.val % 2] :=
  (by decide +kernel : ∀ t : Fin grid0.N, _)

theorem t_lt (t : Fin cfg0.N) : t.val < 32 := lt_of_lt_of_eq t.isLt N_0

theorem V_h (r : Fin 16384) (k : Fin 2048) : V m c main_v0 (ix2 r k) = H m c r k := by
  entry_read
  pointwise
theorem V_a (r : Fin 16384) (k : Fin 512) : V m c main_v1 (ix2 r k) = aF m c r k := by
  entry_read
  pointwise
theorem V_b (r : Fin 16384) (k : Fin 768) : V m c main_v2 (ix2 r k) = bF m c r k := by
  entry_read
  pointwise
theorem V_c (r : Fin 16384) (k : Fin 768) : V m c main_v3 (ix2 r k) = cF m c r k := by
  entry_read
  pointwise
theorem V_w (k n : Fin 2048) : V m c main_v5 (ix3 0 k n) = wF m c k n := by
  entry_read
  pointwise

theorem blk0 (t : Fin cfg0.N) (r n : Fin 1024) :
    iblk m c 0 t (ix2 r n) = H m c ⟨1024 * (t.val / 2) + r.val, by have h := t_lt t; omega⟩ ⟨1024 * (t.val % 2) + n.val, by omega⟩ := by
  rw [← V_h]
  blk_ext [iblk, (idx_facts t).1]
theorem blk1 (t : Fin cfg0.N) (r : Fin 1024) (k : Fin 512) :
    iblk m c 1 t (ix2 r k) = aF m c ⟨1024 * (t.val / 2) + r.val, by have h := t_lt t; omega⟩ k := by
  rw [← V_a]
  blk_ext [iblk, (idx_facts t).2.1]
theorem blk2 (t : Fin cfg0.N) (r : Fin 1024) (k : Fin 768) :
    iblk m c 2 t (ix2 r k) = bF m c ⟨1024 * (t.val / 2) + r.val, by have h := t_lt t; omega⟩ k := by
  rw [← V_b]
  blk_ext [iblk, (idx_facts t).2.2.1]
theorem blk3 (t : Fin cfg0.N) (r : Fin 1024) (k : Fin 768) :
    iblk m c 3 t (ix2 r k) = cF m c ⟨1024 * (t.val / 2) + r.val, by have h := t_lt t; omega⟩ k := by
  rw [← V_c]
  blk_ext [iblk, (idx_facts t).2.2.2.1]
theorem blk4 (t : Fin cfg0.N) (k : Fin 2048) (n : Fin 1024) : iblk m c 4 t (ix3 0 k n) = wF m c k ⟨1024 * (t.val % 2) + n.val, by omega⟩ := by
  rw [← V_w]
  blk_ext [iblk, (idx_facts t).2.2.2.2.1]
theorem read5 (t : Fin cfg0.N) (X : Buf (Elt Ideal) ((c : Thread nD τ).loc main_v6)) (r n : Fin 1024) :
    ((cfg0.win 5).blk t).view.read (Elt Ideal) X (ix2 r n) = X (ix2 ⟨1024 * (t.val / 2) + r.val, by have h := t_lt t; omega⟩ ⟨1024 * (t.val % 2) + n.val, by omega⟩) := by
  blk_ext [(idx_facts t).2.2.2.2.2]

/-- What a point writes back. -/
theorem point (t : Fin cfg0.N) (r n : Fin 1024) :
    out0_5 (F := Ideal) (iblk m c 0 t) (iblk m c 1 t) (iblk m c 2 t) (iblk m c 3 t) (iblk m c 4 t) (ix2 r n)
      = mixOut (H m c) (aF m c) (bF m c) (cF m c) (wF m c) ⟨1024 * (t.val / 2) + r.val, by have h := t_lt t; omega⟩ ⟨1024 * (t.val % 2) + n.val, by omega⟩ := by
  rw [out0_5_eq, pay1_apply]
  unfold mixOut
  refine congrArg₂ (· + ·) (blk0 m c t r n) (congrArg₂ (· + ·) (congrArg₂ (· + ·) (Finset.sum_congr rfl fun k _ => ?_) (Finset.sum_congr rfl fun k _ => ?_)) (Finset.sum_congr rfl fun k _ => ?_))
  · exact congrArg₂ (· * ·) (blk1 m c t r k) ((ld1 _ k n).trans (blk4 m c t _ n))
  · exact congrArg₂ (· * ·) (blk2 m c t r k) ((ld3 _ k n).trans (blk4 m c t _ n))
  · exact congrArg₂ (· * ·) (blk3 m c t r k) ((ld4 _ k n).trans (blk4 m c t _ n))

/-- The array the call returns. -/
theorem array_apply (r : Fin 16384) (n : Fin 2048) :
    (dats m 0 c).arrAt 5 cfg0.N (ix2 r n) = mixOut (H m c) (aF m c) (bF m c) (cF m c) (wF m c) r n := by
  have hN : 2 * (r.val / 1024) + n.val / 1024 < cfg0.N := lt_of_lt_of_eq (by omega : _ < 32) N_0.symm
  have e := (blocks5 m c ⟨2 * (r.val / 1024) + n.val / 1024, hN⟩ (flush0_5 _)).trans (flushed5 m c ⟨2 * (r.val / 1024) + n.val / 1024, hN⟩)
  have e1 := (read5 c ⟨2 * (r.val / 1024) + n.val / 1024, hN⟩ _ ⟨r.val % 1024, by omega⟩ ⟨n.val % 1024, by omega⟩).symm.trans
    ((congrFun e (ix2 (⟨r.val % 1024, by omega⟩ : Fin 1024) (⟨n.val % 1024, by omega⟩ : Fin 1024))).trans (point m c _ _ _))
  have hr : (⟨1024 * ((2 * (r.val / 1024) + n.val / 1024) / 2) + r.val % 1024, by omega⟩ : Fin 16384) = r := Fin.ext (by dsimp only; omega)
  have hn : (⟨1024 * ((2 * (r.val / 1024) + n.val / 1024) % 2) + n.val % 1024, by omega⟩ : Fin 2048) = n := Fin.ext (by dsimp only; omega)
  dsimp only at e1
  rw [hr, hn] at e1
  exact e1

end Cert.OutProjIdeal.OutProj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleIdeal.Value
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.ReferenceIdeal
public import proofs.«01_k».proof.Proof.Gen.ReferenceIdeal.Run
public import proofs.«01_k».proof.Proof.Gen.PleRefIdeal
public import proofs.«01_k».proof.Proof.Gen.PleRefIdeal.Run
public import proofs.«01_k».proof.Proof.Gen.OutProjRefIdeal
public import proofs.«01_k».proof.Proof.Gen.OutProjRefIdeal.Run
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.InProjRefIdeal.Run
public import proofs.«01_k».proof.Proof.Gen.Bounds
public import proofs.«01_k».proof.Proof.Gen.Bounds.Skeleton
public import proofs.«01_k».proof.Proof.Gen.Bounds.Launch
public import proofs.«01_k».proof.Proof.Gen.Bounds.Points
public import proofs.«01_k».proof.Proof.Gen.Bounds.Frame
public import proofs.«01_k».proof.Proof.Gen.BoundsIdeal
public import proofs.«01_k».proof.Proof.Gen.BoundsIdeal.Skeleton
public import proofs.«01_k».proof.Proof.Gen.BoundsIdeal.Launch
public import proofs.«01_k».proof.Proof.Gen.BoundsIdeal.Points
public import proofs.«01_k».proof.Proof.Gen.BoundsIdeal.Frame
public import proofs.«01_k».proof.Proof.Gen.BoundsIdeal.Value
public import proofs.«01_k».proof.Proof.Gen.Fcum
public import proofs.«01_k».proof.Proof.Gen.Fcum.Skeleton
public import proofs.«01_k».proof.Proof.Gen.Fcum.Launch
public import proofs.«01_k».proof.Proof.Gen.Fcum.Points
public import proofs.«01_k».proof.Proof.Gen.Fcum.Frame
public import proofs.«01_k».proof.Proof.Gen.FcumIdeal
public import proofs.«01_k».proof.Proof.Gen.FcumIdeal.Skeleton
public import proofs.«01_k».proof.Proof.Gen.FcumIdeal.Launch
public import proofs.«01_k».proof.Proof.Gen.FcumIdeal.Points
public import proofs.«01_k».proof.Proof.Gen.FcumIdeal.Frame
public import proofs.«01_k».proof.Proof.Gen.FcumIdeal.Value
public import proofs.«01_k».proof.Proof.Gen.BoundsRefIdeal
public import proofs.«01_k».proof.Proof.Gen.BoundsRefIdeal.Run
public import proofs.«01_k».proof.Proof.Gen.FcumRefIdeal
public import proofs.«01_k».proof.Proof.Gen.FcumRefIdeal.Run
public import proofs.«01_k».proof.Proof.BoundsRef
public import proofs.«01_k».proof.Proof.BoundsKernel
public import proofs.«01_k».proof.Proof.FcumRef
public import proofs.«01_k».proof.Proof.FcumKernel
public import proofs.«01_k».proof.Proof.Gen.Fox
public import proofs.«01_k».proof.Proof.Gen.Fox.Skeleton
public import proofs.«01_k».proof.Proof.Gen.Fox.Launch
public import proofs.«01_k».proof.Proof.Gen.Fox.Points
public import proofs.«01_k».proof.Proof.Gen.Fox.Loops
public import proofs.«01_k».proof.Proof.InRef
public import proofs.«01_k».proof.Proof.InKernel
public import proofs.«01_k».proof.Proof.InFrame
public import proofs.«01_k».proof.Proof.InBitsFrame
public import proofs.«01_k».proof.Proof.FoxFrame
public import proofs.«01_k».proof.Proof.FfnRef
public import proofs.«01_k».proof.Proof.FfnKernel
public import proofs.«01_k».proof.Proof.PleRef
public import proofs.«01_k».proof.Proof.PleKernel
public import proofs.«01_k».proof.Proof.OutRef
public import proofs.«01_k».proof.Proof.OutKernel
public import Idealize.ShloMosaic.Adequacy
public import Idealize.ShloMosaic.Init
public import Idealize.ShloMosaic.Lib.Quiescent

@[expose] public section

noncomputable section

namespace Cert.Proof

open Idealize.ShloMosaic Idealize.SL.Sem

/-- The feed-forward block: the kernel's array is the reference's, entry by entry. -/
theorem ffn_algebraic : algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Value.G8 m c, Cert.KernelIdeal.Value.run m g,
    (θ_run Cert.ReferenceIdeal.defs _ _).mono (fun r hr c => ⟨(hr c).1.trans ?_, (hr c).2⟩) (Cert.ReferenceIdeal.Value.run m' g')⟩
  obtain ⟨h0, h1, h2, h3, h4, h5, h6⟩ := hargs c
  rw [Cert.ReferenceIdeal.RefValue.res_eq, h0, h1, h2, h3, h4, h5, h6]
  funext y
  rw [eq_ix2 y]
  exact (Cert.ReferenceIdeal.RefValue.res_apply _ _ _ _ _ _ _ _ _).trans (Cert.KernelIdeal.Ffn.G_apply m c _ _).symm

/-- The per-layer embedding's gate: the kernel's array is the reference's. -/
theorem ple_algebraic : algebraic_PleIdeal_PleRefIdeal (hPleIdeal := Cert.PleIdeal.Gen.facts) (hPleRefIdeal := Cert.PleRefIdeal.Gen.facts) := by
  intro m g m' g' _ hargs
  refine ⟨fun c => Cert.PleIdeal.Value.G6 m c, Cert.PleIdeal.Value.run m g,
    (θ_run Cert.PleRefIdeal.defs _ _).mono (fun r hr c => ⟨(hr c).1.trans ?_, (hr c).2⟩) (Cert.PleRefIdeal.Value.run m' g')⟩
  obtain ⟨h0, h1, h2, h3, h4⟩ := hargs c
  rw [h0, h1, h2, h3, h4]
  change Cert.PleRefIdeal.RefValue.res _ _ _ _ _ = _
  funext y
  rw [eq_ix2 y]
  exact (Cert.PleRefIdeal.RefValue.res_apply _ _ _ _ _ _ _).trans (Cert.PleIdeal.Ple.G_apply m c _ _).symm

/-- The output projection: the kernel's array is the reference's. -/
theorem out_algebraic : algebraic_OutProjIdeal_OutProjRefIdeal (hOutProjIdeal := Cert.OutProjIdeal.Gen.facts) (hOutProjRefIdeal := Cert.OutProjRefIdeal.Gen.facts) := by
  intro m g m' g' _ hargs
  refine ⟨fun c => (Cert.OutProjIdeal.Gen.dats m 0 c).arrAt 5 Cert.OutProjIdeal.cfg0.N, Cert.OutProjIdeal.Value.run_blocks m g,
    (θ_run Cert.OutProjRefIdeal.defs _ _).mono (fun r hr c => ⟨(hr c).1.trans ?_, (hr c).2⟩) (Cert.OutProjRefIdeal.Value.run m' g')⟩
  obtain ⟨h0, h1, h2, h3, h4⟩ := hargs c
  rw [h0, h1, h2, h3, h4]
  change Cert.OutProjRefIdeal.RefValue.res _ _ _ _ _ = _
  funext y
  rw [eq_ix2 y]
  exact (Cert.OutProjRefIdeal.RefValue.res_apply _ _ _ _ _ _ _).trans (Cert.OutProjIdeal.OutProj.array_apply m c _ _).symm

/-- The input projection: the kernel's array is the reference's. -/
theorem in_algebraic : algebraic_InProjIdeal_InProjRefIdeal (hInProjIdeal := Cert.InProjIdeal.Gen.facts) (hInProjRefIdeal := Cert.InProjRefIdeal.Gen.facts) := by
  intro m g m' g' _ hargs
  refine ⟨fun c => (Cert.InProjIdeal.In.dats m 0 c).arrAt 4 Cert.InProjIdeal.cfg0.N, Cert.InProjIdeal.In.run_array m g,
    (θ_run Cert.InProjRefIdeal.defs _ _).mono (fun r hr c => ⟨(hr c).1.trans ?_, (hr c).2⟩) (Cert.InProjRefIdeal.Value.run m' g')⟩
  obtain ⟨h0, h1, h2⟩ := hargs c
  rw [h0, h1, h2]
  change Cert.InProjRefIdeal.RefValue.res _ _ _ = _
  funext y
  rw [eq_ix2 y]
  exact (Cert.InProjRefIdeal.RefValue.res_apply _ _ _ _ _).trans (Cert.InProjIdeal.In.array_apply m c _ _).symm

/-- The lower bounds: the kernel's array is the reference's. -/
theorem bounds_algebraic : algebraic_BoundsIdeal_BoundsRefIdeal (hBoundsIdeal := Cert.BoundsIdeal.Gen.facts) (hBoundsRefIdeal := Cert.BoundsRefIdeal.Gen.facts) := by
  intro m g m' g' _ hargs
  refine ⟨fun c => Cert.BoundsIdeal.Value.G1 (m ((c.tc : Thread Cert.BoundsIdeal.nD Cert.BoundsIdeal.τ).loc Cert.BoundsIdeal.main_arg0)), Cert.BoundsIdeal.Value.run m g,
    (θ_run Cert.BoundsRefIdeal.defs _ _).mono (fun r hr c => ⟨(hr c).1.trans ?_, (hr c).2⟩) (Cert.BoundsRefIdeal.Value.run m' g')⟩
  have h0 := hargs c
  rw [h0]
  change Cert.BoundsRefIdeal.RefValue.res _ = _
  funext y
  rw [eq_ix2 y]
  exact (Cert.BoundsRefIdeal.RefValue.res_apply _ _ _).trans (Cert.BoundsIdeal.Bounds.G_apply _ _ _).symm

/-- The forget gate's cumulative sum: the kernel's array is the reference's. -/
theorem fcum_algebraic : algebraic_FcumIdeal_FcumRefIdeal (hFcumIdeal := Cert.FcumIdeal.Gen.facts) (hFcumRefIdeal := Cert.FcumRefIdeal.Gen.facts) := by
  intro m g m' g' _ hargs
  refine ⟨fun c => Cert.FcumIdeal.Value.G3 m c, Cert.FcumIdeal.Value.run m g,
    (θ_run Cert.FcumRefIdeal.defs _ _).mono (fun r hr c => ⟨(hr c).1.trans ?_, (hr c).2⟩) (Cert.FcumRefIdeal.Value.run m' g')⟩
  obtain ⟨h0, h1⟩ := hargs c
  rw [h0, h1]
  change Cert.FcumRefIdeal.RefValue.res _ _ = _
  funext y
  rw [eq_ix3 y]
  exact (Cert.FcumRefIdeal.RefValue.res_apply _ _ _ _ _).trans (Cert.FcumIdeal.Fcum.G_apply m c _ _ _).symm

theorem claim : Cert.Claim := ⟨Cert.Kernel.Gen.facts, Cert.KernelIdeal.Gen.facts, Cert.ReferenceIdeal.Gen.facts, Cert.Ple.Gen.facts, Cert.PleIdeal.Gen.facts, Cert.PleRefIdeal.Gen.facts, Cert.OutProj.Gen.facts, Cert.OutProjIdeal.Gen.facts, Cert.OutProjRefIdeal.Gen.facts, Cert.InProj.Gen.facts, Cert.InProjIdeal.Gen.facts, Cert.InProjRefIdeal.Gen.facts, Cert.Bounds.Gen.facts, Cert.BoundsIdeal.Gen.facts, Cert.BoundsRefIdeal.Gen.facts, Cert.Fcum.Gen.facts, Cert.FcumIdeal.Gen.facts, Cert.FcumRefIdeal.Gen.facts, Cert.Fox.Gen.facts,
  fun m g _ => Cert.Kernel.Gen.frame m g,
  fun m g _ => Cert.KernelIdeal.Gen.frame m g,
  fun m g _ => (θ_run Cert.ReferenceIdeal.defs _ _).mono (fun r h => ⟨fun c => (h c).2, sem_eq_zero_of_no_sems (by decide) r.2⟩) (Cert.ReferenceIdeal.Value.run m g),
  fun m g _ => Cert.Ple.Gen.frame m g,
  fun m g _ => Cert.PleIdeal.Gen.frame m g,
  fun m g _ => (θ_run Cert.PleRefIdeal.defs _ _).mono (fun r h => ⟨fun c => (h c).2, sem_eq_zero_of_no_sems (by decide) r.2⟩) (Cert.PleRefIdeal.Value.run m g),
  fun m g _ => Cert.OutProj.Gen.frame m g,
  fun m g _ => Cert.OutProjIdeal.Gen.frame m g,
  fun m g _ => (θ_run Cert.OutProjRefIdeal.defs _ _).mono (fun r h => ⟨fun c => (h c).2, sem_eq_zero_of_no_sems (by decide) r.2⟩) (Cert.OutProjRefIdeal.Value.run m g),
  fun m g _ => Cert.InProj.In.frame m g,
  fun m g _ => Cert.InProjIdeal.In.frame m g,
  fun m g _ => (θ_run Cert.InProjRefIdeal.defs _ _).mono (fun r h => ⟨fun c => (h c).2, sem_eq_zero_of_no_sems (by decide) r.2⟩) (Cert.InProjRefIdeal.Value.run m g),
  fun m g _ => Cert.Bounds.Gen.frame m g,
  fun m g _ => Cert.BoundsIdeal.Gen.frame m g,
  fun m g _ => (θ_run Cert.BoundsRefIdeal.defs _ _).mono (fun r h => ⟨fun c => (h c).2, sem_eq_zero_of_no_sems (by decide) r.2⟩) (Cert.BoundsRefIdeal.Value.run m g),
  fun m g _ => Cert.Fcum.Gen.frame m g,
  fun m g _ => Cert.FcumIdeal.Gen.frame m g,
  fun m g _ => (θ_run Cert.FcumRefIdeal.defs _ _).mono (fun r h => ⟨fun c => (h c).2, sem_eq_zero_of_no_sems (by decide) r.2⟩) (Cert.FcumRefIdeal.Value.run m g),
  fun m g _ => Cert.Fox.Attention.frame m g,
  trivial, ffn_algebraic, trivial, ple_algebraic, trivial, out_algebraic, trivial, in_algebraic, trivial, bounds_algebraic, IdealRules.named_const.statement Cert.FcumIdeal.κ "log2_e" .f32 0x3FB8AA3B#32 (((Real.log 2)⁻¹ : ℝ) : EReal) rfl, fcum_algebraic⟩

end Cert.Proof

end
